-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S1x2048x1024 .f32) (main_arg1 : FVec F S1024x1024 .f32) (main_arg2 : FVec F S4x2048x32x128 .f32) (main_arg3 : FVec F S4x2048x32x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Pre_scores_finite_ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S4x2048x1024 .f32) (main_arg1 : FVec F S1024x4096 .f32) (main_arg2 : FVec F S4x2048x32x128 .f32) (main_arg3 : FVec F S4x2048x32x128 .f32) (main_arg4 : FVec F S4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S4x2x1024x512 : Shape := ⟨4, ![4, 2, 1024, 512]⟩
abbrev S4x2x512x1024 : Shape := ⟨4, ![4, 2, 512, 1024]⟩
abbrev S2048x1024 : Shape := ⟨2, ![2048, 1024]⟩
abbrev S8x2048x128 : Shape := ⟨3, ![8, 2048, 128]⟩
abbrev S4x2048x128 : Shape := ⟨3, ![4, 2048, 128]⟩
abbrev S1024x512 : Shape := ⟨2, ![1024, 512]⟩
abbrev S512x1024 : Shape := ⟨2, ![512, 1024]⟩
abbrev S2x2 : Shape := ⟨2, ![2, 2]⟩
abbrev S4x2 : Shape := ⟨2, ![4, 2]⟩
abbrev S3x2x2 : Shape := ⟨3, ![3, 2, 2]⟩
abbrev S1x1 : Shape := ⟨2, ![1, 1]⟩
abbrev S_ : Shape := ⟨0, ![]⟩
abbrev S1x2048x128 : Shape := ⟨3, ![1, 2048, 128]⟩
abbrev S2048x128 : Shape := ⟨2, ![2048, 128]⟩
abbrev S1x2048x1x128 : Shape := ⟨4, ![1, 2048, 1, 128]⟩
abbrev S1x1x1024x512 : Shape := ⟨4, ![1, 1, 1024, 512]⟩
abbrev S1x1x512x1024 : Shape := ⟨4, ![1, 1, 512, 1024]⟩
abbrev S1x1x1 : Shape := ⟨3, ![1, 1, 1]⟩
abbrev S2048x512 : Shape := ⟨2, ![2048, 512]⟩
abbrev S8x4x64x128 : Shape := ⟨4, ![8, 4, 64, 128]⟩
abbrev S8x1x64x128 : Shape := ⟨4, ![8, 1, 64, 128]⟩
abbrev S8x64x128 : Shape := ⟨3, ![8, 64, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S4x2048x32x128, .f32⟩
  | .hbm, ⟨3, _⟩ => ⟨S4x2048x32x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S4x2x1024x512, .bf16⟩
  | .local _ .vmem, ⟨3, _⟩ => ⟨S4x2x512x1024, .bf16⟩
  | .local _ .vmem, ⟨4, _⟩ => ⟨S2048x1024, .bf16⟩
  | .local _ .vmem, ⟨5, _⟩ => ⟨S8x2048x128, .bf16⟩
  | .local _ .vmem, ⟨6, _⟩ => ⟨S8x2048x128, .bf16⟩
  | .local _ .vmem, ⟨7, _⟩ => ⟨S4x2048x128, .f32⟩
  | .local _ .vmem, ⟨8, _⟩ => ⟨S4x2048x128, .f32⟩
  | .local _ .vmem, ⟨9, _⟩ => ⟨S1024x512, .f32⟩
  | .local _ .vmem, ⟨10, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (c0_i32_12 : BitVec 32) : Fin 2 → Nat :=
  let c4_i32_13 : BitVec 32 := 4#32
  let v19 : BitVec 32 := Scalar.remsi c0_i32_12 c4_i32_13
  let c0_i32_14 : BitVec 32 := 0#32
  ![v19.toNat, 0]
def k0_off2 (c0_i32_12 : BitVec 32) : Fin 3 → Nat :=
  let c4_i32_13 : BitVec 32 := 4#32
  let v19 : BitVec 32 := Scalar.remsi c0_i32_12 c4_i32_13
  let c0_i32_15 : BitVec 32 := 0#32
  let c0_i32_16 : BitVec 32 := 0#32
  ![v19.toNat, 0, 0]
def k0_off3 (d0 : Dev nD) (c0_i32_5 : BitVec 32) (c0_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_17 : BitVec 32 := 0#32
  let c8_i32_6 : BitVec 32 := 8#32
  let v9 : BitVec 32 := Scalar.remsi c0_i32_5 c8_i32_6
  let c4_i32_7 : BitVec 32 := 4#32
  let v10 : BitVec 1 := Scalar.cmpi .slt v9 c4_i32_7
  let c8_i32 : BitVec 32 := 8#32
  let v8 : BitVec 32 := Scalar.divsi c0_i32 c8_i32
  let v11 : BitVec 32 := Scalar.subi v2 v8
  let c4_i32_8 : BitVec 32 := 4#32
  let v12 : BitVec 32 := Scalar.addi v11 c4_i32_8
  let c4_i32_9 : BitVec 32 := 4#32
  let v13 : BitVec 32 := Scalar.remsi v12 c4_i32_9
  let v14 : BitVec 32 := Scalar.addi v2 v8
  let c4_i32_10 : BitVec 32 := 4#32
  let v15 : BitVec 32 := Scalar.remsi v14 c4_i32_10
  let v16 : BitVec 32 := Scalar.select v10 v13 v15
  let c8_i32_11 : BitVec 32 := 8#32
  let v17 : BitVec 32 := Scalar.muli v16 c8_i32_11
  let v18 : BitVec 32 := Scalar.addi v17 v9
  let c0_i32_18 : BitVec 32 := 0#32
  ![v2.toNat, 0, v18.toNat, 0]
def k0_off3_at (r : Fin 2) : BitVec 32 × BitVec 32 :=
  if r.val < 1 then
    (0#32, 0#32)
  else
    (1#32, 1#32)
def k0_off4 (c0_i32_12 : BitVec 32) : Fin 2 → Nat :=
  let c4_i32_13 : BitVec 32 := 4#32
  let v19 : BitVec 32 := Scalar.remsi c0_i32_12 c4_i32_13
  let c1_i32_19 : BitVec 32 := 1#32
  ![v19.toNat, 1]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : Index := Scalar.indexCast v2
  let c0_66 : Index := 0#32
  let c0_67 : Index := 0#32
  let c0_68 : Index := 0#32
  ![v75.toNat, 0, 0, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v84 : Index := Scalar.indexCast v2
  let c0_75 : Index := 0#32
  let c0_76 : Index := 0#32
  let c0_77 : Index := 0#32
  ![v84.toNat, 0, 0, 0]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v99 : Index := Scalar.indexCast v2
  let c1 : Index := 1#32
  let c0_91 : Index := 0#32
  let c0_92 : Index := 0#32
  ![v99.toNat, 1, 0, 0]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : Index := Scalar.indexCast v2
  let c1_99 : Index := 1#32
  let c0_100 : Index := 0#32
  let c0_101 : Index := 0#32
  ![v108.toNat, 1, 0, 0]
def k0_dev1 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_103 : BitVec 32 := 1#32
  let v113 : BitVec 32 := Scalar.muli v5 c1_i32_103
  let v114 : BitVec 32 := Scalar.addi c0_i32_104 v113
  v114.toNat
def k0_dev2 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_106 : BitVec 32 := 1#32
  let v115 : BitVec 32 := Scalar.muli v7 c1_i32_106
  let v116 : BitVec 32 := Scalar.addi c0_i32_107 v115
  v116.toNat
def k0_off9 (d0 : Dev nD) (c0_i32_108 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.subi v2 c0_i32_108
  let c4_i32_109 : BitVec 32 := 4#32
  let v118 : BitVec 32 := Scalar.addi v117 c4_i32_109
  let c4_i32_110 : BitVec 32 := 4#32
  let v119 : BitVec 32 := Scalar.remsi v118 c4_i32_110
  let c0_i32_114 : BitVec 32 := 0#32
  let c0_i32_123 : BitVec 32 := 0#32
  let c0_i32_124 : BitVec 32 := 0#32
  ![v119.toNat, 0, 0, 0]
def k0_dev3 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_121 : BitVec 32 := 1#32
  let v122 : BitVec 32 := Scalar.muli v7 c1_i32_121
  let v123 : BitVec 32 := Scalar.addi c0_i32_122 v122
  v123.toNat
def k0_off10 (d0 : Dev nD) (c0_i32_111 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v120 : BitVec 32 := Scalar.addi v2 c0_i32_111
  let c4_i32_112 : BitVec 32 := 4#32
  let v121 : BitVec 32 := Scalar.remsi v120 c4_i32_112
  let c1_i32_128 : BitVec 32 := 1#32
  let c0_i32_137 : BitVec 32 := 0#32
  let c0_i32_138 : BitVec 32 := 0#32
  ![v121.toNat, 1, 0, 0]
def k0_dev4 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_135 : BitVec 32 := 1#32
  let v132 : BitVec 32 := Scalar.muli v5 c1_i32_135
  let v133 : BitVec 32 := Scalar.addi c0_i32_136 v132
  v133.toNat
def k0_off11 (d0 : Dev nD) (c0_i32_108 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.subi v2 c0_i32_108
  let c4_i32_109 : BitVec 32 := 4#32
  let v118 : BitVec 32 := Scalar.addi v117 c4_i32_109
  let c4_i32_110 : BitVec 32 := 4#32
  let v119 : BitVec 32 := Scalar.remsi v118 c4_i32_110
  let c0_i32_142 : BitVec 32 := 0#32
  let c0_i32_151 : BitVec 32 := 0#32
  let c0_i32_152 : BitVec 32 := 0#32
  ![v119.toNat, 0, 0, 0]
def k0_dev5 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_149 : BitVec 32 := 1#32
  let v142 : BitVec 32 := Scalar.muli v7 c1_i32_149
  let v143 : BitVec 32 := Scalar.addi c0_i32_150 v142
  v143.toNat
def k0_off12 (d0 : Dev nD) (c0_i32_111 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v120 : BitVec 32 := Scalar.addi v2 c0_i32_111
  let c4_i32_112 : BitVec 32 := 4#32
  let v121 : BitVec 32 := Scalar.remsi v120 c4_i32_112
  let c1_i32_156 : BitVec 32 := 1#32
  let c0_i32_165 : BitVec 32 := 0#32
  let c0_i32_166 : BitVec 32 := 0#32
  ![v121.toNat, 1, 0, 0]
def k0_dev6 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_163 : BitVec 32 := 1#32
  let v152 : BitVec 32 := Scalar.muli v5 c1_i32_163
  let v153 : BitVec 32 := Scalar.addi c0_i32_164 v152
  v153.toNat
@[reducible] def k0_t1_loop : Scf.Loop 32 :=
  let c0_i32_199 : BitVec 32 := 0#32
  let c4_i32_200 : BitVec 32 := 4#32
  let v212 : BitVec 32 := Scalar.addi c0_i32_199 c4_i32_200
  let c1_i32_201 : BitVec 32 := 1#32
  ⟨c0_i32_199, v212, c1_i32_201⟩
def k0_off13 (k0_t1 : Fin k0_t1_loop.trips) (c0_i32_1117 : BitVec 32) : Fin 2 → Nat :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1000 : BitVec 32 := Scalar.addi v999 c0_i32_1117
  let c4_i32_1125 : BitVec 32 := 4#32
  let v1012 : BitVec 32 := Scalar.remsi v1000 c4_i32_1125
  let c0_i32_1126 : BitVec 32 := 0#32
  ![v1012.toNat, 0]
def k0_off14 (k0_t1 : Fin k0_t1_loop.trips) (c0_i32_1117 : BitVec 32) : Fin 3 → Nat :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1000 : BitVec 32 := Scalar.addi v999 c0_i32_1117
  let c4_i32_1125 : BitVec 32 := 4#32
  let v1012 : BitVec 32 := Scalar.remsi v1000 c4_i32_1125
  let c0_i32_1127 : BitVec 32 := 0#32
  let c0_i32_1128 : BitVec 32 := 0#32
  ![v1012.toNat, 0, 0]
def k0_off15 (d0 : Dev nD) (k0_t1 : Fin k0_t1_loop.trips) (c0_i32_1117 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1129 : BitVec 32 := 0#32
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1000 : BitVec 32 := Scalar.addi v999 c0_i32_1117
  let c8_i32_1119 : BitVec 32 := 8#32
  let v1002 : BitVec 32 := Scalar.remsi v1000 c8_i32_1119
  let c4_i32_1120 : BitVec 32 := 4#32
  let v1003 : BitVec 1 := Scalar.cmpi .slt v1002 c4_i32_1120
  let c8_i32_1118 : BitVec 32 := 8#32
  let v1001 : BitVec 32 := Scalar.divsi v1000 c8_i32_1118
  let v1004 : BitVec 32 := Scalar.subi v2 v1001
  let c4_i32_1121 : BitVec 32 := 4#32
  let v1005 : BitVec 32 := Scalar.addi v1004 c4_i32_1121
  let c4_i32_1122 : BitVec 32 := 4#32
  let v1006 : BitVec 32 := Scalar.remsi v1005 c4_i32_1122
  let v1007 : BitVec 32 := Scalar.addi v2 v1001
  let c4_i32_1123 : BitVec 32 := 4#32
  let v1008 : BitVec 32 := Scalar.remsi v1007 c4_i32_1123
  let v1009 : BitVec 32 := Scalar.select v1003 v1006 v1008
  let c8_i32_1124 : BitVec 32 := 8#32
  let v1010 : BitVec 32 := Scalar.muli v1009 c8_i32_1124
  let v1011 : BitVec 32 := Scalar.addi v1010 v1002
  let c0_i32_1130 : BitVec 32 := 0#32
  ![v2.toNat, 0, v1011.toNat, 0]
def k0_off16 (k0_t1 : Fin k0_t1_loop.trips) (c0_i32_1117 : BitVec 32) : Fin 2 → Nat :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1000 : BitVec 32 := Scalar.addi v999 c0_i32_1117
  let c4_i32_1125 : BitVec 32 := 4#32
  let v1012 : BitVec 32 := Scalar.remsi v1000 c4_i32_1125
  let c1_i32_1131 : BitVec 32 := 1#32
  ![v1012.toNat, 1]
def k0_cond1 (k0_t1 : Fin k0_t1_loop.trips) : BitVec 1 :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let c2_i32_1155 : BitVec 32 := 2#32
  let v1050 : BitVec 32 := Scalar.addi v999 c2_i32_1155
  let c32_i32 : BitVec 32 := 32#32
  let v1051 : BitVec 1 := Scalar.cmpi .slt v1050 c32_i32
  let v1052 : BitVec 32 := Scalar.extui v1051
  let c0_i32_1156 : BitVec 32 := 0#32
  let v1053 : BitVec 1 := Scalar.cmpi .ne v1052 c0_i32_1156
  v1053

def k0_off17 (k0_t1 : Fin k0_t1_loop.trips) (c2_i32_1213 : BitVec 32) : Fin 2 → Nat :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1262 : BitVec 32 := Scalar.addi v999 c2_i32_1213
  let c4_i32_1221 : BitVec 32 := 4#32
  let v1274 : BitVec 32 := Scalar.remsi v1262 c4_i32_1221
  let c0_i32_1222 : BitVec 32 := 0#32
  ![v1274.toNat, 0]
def k0_off18 (k0_t1 : Fin k0_t1_loop.trips) (c2_i32_1213 : BitVec 32) : Fin 3 → Nat :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1262 : BitVec 32 := Scalar.addi v999 c2_i32_1213
  let c4_i32_1221 : BitVec 32 := 4#32
  let v1274 : BitVec 32 := Scalar.remsi v1262 c4_i32_1221
  let c0_i32_1223 : BitVec 32 := 0#32
  let c0_i32_1224 : BitVec 32 := 0#32
  ![v1274.toNat, 0, 0]
def k0_off19 (d0 : Dev nD) (k0_t1 : Fin k0_t1_loop.trips) (c2_i32_1213 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1225 : BitVec 32 := 0#32
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1262 : BitVec 32 := Scalar.addi v999 c2_i32_1213
  let c8_i32_1215 : BitVec 32 := 8#32
  let v1264 : BitVec 32 := Scalar.remsi v1262 c8_i32_1215
  let c4_i32_1216 : BitVec 32 := 4#32
  let v1265 : BitVec 1 := Scalar.cmpi .slt v1264 c4_i32_1216
  let c8_i32_1214 : BitVec 32 := 8#32
  let v1263 : BitVec 32 := Scalar.divsi v1262 c8_i32_1214
  let v1266 : BitVec 32 := Scalar.subi v2 v1263
  let c4_i32_1217 : BitVec 32 := 4#32
  let v1267 : BitVec 32 := Scalar.addi v1266 c4_i32_1217
  let c4_i32_1218 : BitVec 32 := 4#32
  let v1268 : BitVec 32 := Scalar.remsi v1267 c4_i32_1218
  let v1269 : BitVec 32 := Scalar.addi v2 v1263
  let c4_i32_1219 : BitVec 32 := 4#32
  let v1270 : BitVec 32 := Scalar.remsi v1269 c4_i32_1219
  let v1271 : BitVec 32 := Scalar.select v1265 v1268 v1270
  let c8_i32_1220 : BitVec 32 := 8#32
  let v1272 : BitVec 32 := Scalar.muli v1271 c8_i32_1220
  let v1273 : BitVec 32 := Scalar.addi v1272 v1264
  let c0_i32_1226 : BitVec 32 := 0#32
  ![v2.toNat, 0, v1273.toNat, 0]
def k0_off20 (k0_t1 : Fin k0_t1_loop.trips) (c2_i32_1213 : BitVec 32) : Fin 2 → Nat :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1262 : BitVec 32 := Scalar.addi v999 c2_i32_1213
  let c4_i32_1221 : BitVec 32 := 4#32
  let v1274 : BitVec 32 := Scalar.remsi v1262 c4_i32_1221
  let c1_i32_1227 : BitVec 32 := 1#32
  ![v1274.toNat, 1]
def k0_off21 (k0_t1 : Fin k0_t1_loop.trips) (c0_i32_1158 : BitVec 32) : Fin 3 → Nat :=
  let c2_i32_1157 : BitVec 32 := 2#32
  let c0_i32_199 : BitVec 32 := 0#32
  let c1_i32_201 : BitVec 32 := 1#32
  let arg19 : BitVec 32 := Scf.iv c0_i32_199 c1_i32_201 k0_t1
  let v1054 : BitVec 32 := Scalar.muli c2_i32_1157 arg19
  let v1055 : BitVec 32 := Scalar.addi v1054 c0_i32_1158
  let v1058 : Index := Scalar.indexCast v1055
  let c0_1161 : Index := 0#32
  let c0_1162 : Index := 0#32
  ![v1058.toNat, 0, 0]
def k0_off22 (k0_t1 : Fin k0_t1_loop.trips) (c0_i32_1159 : BitVec 32) : Fin 3 → Nat :=
  let c0_i32_1116 : BitVec 32 := 0#32
  let c2_i32_1115 : BitVec 32 := 2#32
  let c0_i32_199 : BitVec 32 := 0#32
  let c1_i32_201 : BitVec 32 := 1#32
  let arg19 : BitVec 32 := Scf.iv c0_i32_199 c1_i32_201 k0_t1
  let v998 : BitVec 32 := Scalar.muli c2_i32_1115 arg19
  let v999 : BitVec 32 := Scalar.addi c0_i32_1116 v998
  let v1056 : BitVec 32 := Scalar.addi v999 c0_i32_1159
  let c4_i32_1160 : BitVec 32 := 4#32
  let v1057 : BitVec 32 := Scalar.remsi v1056 c4_i32_1160
  let v1061 : Index := Scalar.indexCast v1057
  let c0_1163 : Index := 0#32
  let c0_1164 : Index := 0#32
  ![v1061.toNat, 0, 0]
def k0_dev7 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_406 : BitVec 32 := 1#32
  let v365 : BitVec 32 := Scalar.muli v7 c1_i32_406
  let v366 : BitVec 32 := Scalar.addi c0_i32_407 v365
  v366.toNat
def k0_dev8 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_420 : BitVec 32 := 1#32
  let v375 : BitVec 32 := Scalar.muli v5 c1_i32_420
  let v376 : BitVec 32 := Scalar.addi c0_i32_421 v375
  v376.toNat
def k0_dev9 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_434 : BitVec 32 := 1#32
  let v385 : BitVec 32 := Scalar.muli v7 c1_i32_434
  let v386 : BitVec 32 := Scalar.addi c0_i32_435 v385
  v386.toNat
def k0_dev10 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_448 : BitVec 32 := 1#32
  let v395 : BitVec 32 := Scalar.muli v5 c1_i32_448
  let v396 : BitVec 32 := Scalar.addi c0_i32_449 v395
  v396.toNat
def k0_off23 (d0 : Dev nD) (c1_i32_454 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v405 : BitVec 32 := Scalar.subi v2 c1_i32_454
  let c4_i32_455 : BitVec 32 := 4#32
  let v406 : BitVec 32 := Scalar.addi v405 c4_i32_455
  let c4_i32_456 : BitVec 32 := 4#32
  let v407 : BitVec 32 := Scalar.remsi v406 c4_i32_456
  let v411 : Index := Scalar.indexCast v407
  let c0_461 : Index := 0#32
  let c0_462 : Index := 0#32
  let c0_463 : Index := 0#32
  ![v411.toNat, 0, 0, 0]
def k0_off24 (d0 : Dev nD) (c1_i32_457 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v408 : BitVec 32 := Scalar.addi v2 c1_i32_457
  let c4_i32_458 : BitVec 32 := 4#32
  let v409 : BitVec 32 := Scalar.remsi v408 c4_i32_458
  let v436 : Index := Scalar.indexCast v409
  let c1_479 : Index := 1#32
  let c0_480 : Index := 0#32
  let c0_481 : Index := 0#32
  ![v436.toNat, 1, 0, 0]
@[reducible] def k0_t2_loop : Scf.Loop 32 :=
  let c0_i32_495 : BitVec 32 := 0#32
  let c4_i32_496 : BitVec 32 := 4#32
  let v460 : BitVec 32 := Scalar.addi c0_i32_495 c4_i32_496
  let c1_i32_497 : BitVec 32 := 1#32
  ⟨c0_i32_495, v460, c1_i32_497⟩
def k0_off25 (k0_t2 : Fin k0_t2_loop.trips) (c0_i32_1117 : BitVec 32) : Fin 2 → Nat :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1000 : BitVec 32 := Scalar.addi v999 c0_i32_1117
  let c4_i32_1125 : BitVec 32 := 4#32
  let v1012 : BitVec 32 := Scalar.remsi v1000 c4_i32_1125
  let c0_i32_1126 : BitVec 32 := 0#32
  ![v1012.toNat, 0]
def k0_off26 (k0_t2 : Fin k0_t2_loop.trips) (c0_i32_1117 : BitVec 32) : Fin 3 → Nat :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1000 : BitVec 32 := Scalar.addi v999 c0_i32_1117
  let c4_i32_1125 : BitVec 32 := 4#32
  let v1012 : BitVec 32 := Scalar.remsi v1000 c4_i32_1125
  let c0_i32_1127 : BitVec 32 := 0#32
  let c0_i32_1128 : BitVec 32 := 0#32
  ![v1012.toNat, 0, 0]
def k0_off27 (d0 : Dev nD) (k0_t2 : Fin k0_t2_loop.trips) (c0_i32_1117 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1129 : BitVec 32 := 0#32
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1000 : BitVec 32 := Scalar.addi v999 c0_i32_1117
  let c8_i32_1119 : BitVec 32 := 8#32
  let v1002 : BitVec 32 := Scalar.remsi v1000 c8_i32_1119
  let c4_i32_1120 : BitVec 32 := 4#32
  let v1003 : BitVec 1 := Scalar.cmpi .slt v1002 c4_i32_1120
  let c8_i32_1118 : BitVec 32 := 8#32
  let v1001 : BitVec 32 := Scalar.divsi v1000 c8_i32_1118
  let v1004 : BitVec 32 := Scalar.subi v2 v1001
  let c4_i32_1121 : BitVec 32 := 4#32
  let v1005 : BitVec 32 := Scalar.addi v1004 c4_i32_1121
  let c4_i32_1122 : BitVec 32 := 4#32
  let v1006 : BitVec 32 := Scalar.remsi v1005 c4_i32_1122
  let v1007 : BitVec 32 := Scalar.addi v2 v1001
  let c4_i32_1123 : BitVec 32 := 4#32
  let v1008 : BitVec 32 := Scalar.remsi v1007 c4_i32_1123
  let v1009 : BitVec 32 := Scalar.select v1003 v1006 v1008
  let c8_i32_1124 : BitVec 32 := 8#32
  let v1010 : BitVec 32 := Scalar.muli v1009 c8_i32_1124
  let v1011 : BitVec 32 := Scalar.addi v1010 v1002
  let c0_i32_1130 : BitVec 32 := 0#32
  ![v2.toNat, 0, v1011.toNat, 0]
def k0_off28 (k0_t2 : Fin k0_t2_loop.trips) (c0_i32_1117 : BitVec 32) : Fin 2 → Nat :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1000 : BitVec 32 := Scalar.addi v999 c0_i32_1117
  let c4_i32_1125 : BitVec 32 := 4#32
  let v1012 : BitVec 32 := Scalar.remsi v1000 c4_i32_1125
  let c1_i32_1131 : BitVec 32 := 1#32
  ![v1012.toNat, 1]
def k0_cond2 (k0_t2 : Fin k0_t2_loop.trips) : BitVec 1 :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let c2_i32_1155 : BitVec 32 := 2#32
  let v1050 : BitVec 32 := Scalar.addi v999 c2_i32_1155
  let c32_i32 : BitVec 32 := 32#32
  let v1051 : BitVec 1 := Scalar.cmpi .slt v1050 c32_i32
  let v1052 : BitVec 32 := Scalar.extui v1051
  let c0_i32_1156 : BitVec 32 := 0#32
  let v1053 : BitVec 1 := Scalar.cmpi .ne v1052 c0_i32_1156
  v1053

def k0_off29 (k0_t2 : Fin k0_t2_loop.trips) (c2_i32_1213 : BitVec 32) : Fin 2 → Nat :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1262 : BitVec 32 := Scalar.addi v999 c2_i32_1213
  let c4_i32_1221 : BitVec 32 := 4#32
  let v1274 : BitVec 32 := Scalar.remsi v1262 c4_i32_1221
  let c0_i32_1222 : BitVec 32 := 0#32
  ![v1274.toNat, 0]
def k0_off30 (k0_t2 : Fin k0_t2_loop.trips) (c2_i32_1213 : BitVec 32) : Fin 3 → Nat :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1262 : BitVec 32 := Scalar.addi v999 c2_i32_1213
  let c4_i32_1221 : BitVec 32 := 4#32
  let v1274 : BitVec 32 := Scalar.remsi v1262 c4_i32_1221
  let c0_i32_1223 : BitVec 32 := 0#32
  let c0_i32_1224 : BitVec 32 := 0#32
  ![v1274.toNat, 0, 0]
def k0_off31 (d0 : Dev nD) (k0_t2 : Fin k0_t2_loop.trips) (c2_i32_1213 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1225 : BitVec 32 := 0#32
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1262 : BitVec 32 := Scalar.addi v999 c2_i32_1213
  let c8_i32_1215 : BitVec 32 := 8#32
  let v1264 : BitVec 32 := Scalar.remsi v1262 c8_i32_1215
  let c4_i32_1216 : BitVec 32 := 4#32
  let v1265 : BitVec 1 := Scalar.cmpi .slt v1264 c4_i32_1216
  let c8_i32_1214 : BitVec 32 := 8#32
  let v1263 : BitVec 32 := Scalar.divsi v1262 c8_i32_1214
  let v1266 : BitVec 32 := Scalar.subi v2 v1263
  let c4_i32_1217 : BitVec 32 := 4#32
  let v1267 : BitVec 32 := Scalar.addi v1266 c4_i32_1217
  let c4_i32_1218 : BitVec 32 := 4#32
  let v1268 : BitVec 32 := Scalar.remsi v1267 c4_i32_1218
  let v1269 : BitVec 32 := Scalar.addi v2 v1263
  let c4_i32_1219 : BitVec 32 := 4#32
  let v1270 : BitVec 32 := Scalar.remsi v1269 c4_i32_1219
  let v1271 : BitVec 32 := Scalar.select v1265 v1268 v1270
  let c8_i32_1220 : BitVec 32 := 8#32
  let v1272 : BitVec 32 := Scalar.muli v1271 c8_i32_1220
  let v1273 : BitVec 32 := Scalar.addi v1272 v1264
  let c0_i32_1226 : BitVec 32 := 0#32
  ![v2.toNat, 0, v1273.toNat, 0]
def k0_off32 (k0_t2 : Fin k0_t2_loop.trips) (c2_i32_1213 : BitVec 32) : Fin 2 → Nat :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1262 : BitVec 32 := Scalar.addi v999 c2_i32_1213
  let c4_i32_1221 : BitVec 32 := 4#32
  let v1274 : BitVec 32 := Scalar.remsi v1262 c4_i32_1221
  let c1_i32_1227 : BitVec 32 := 1#32
  ![v1274.toNat, 1]
def k0_off33 (k0_t2 : Fin k0_t2_loop.trips) (c0_i32_1158 : BitVec 32) : Fin 3 → Nat :=
  let c2_i32_1157 : BitVec 32 := 2#32
  let c0_i32_495 : BitVec 32 := 0#32
  let c1_i32_497 : BitVec 32 := 1#32
  let arg19 : BitVec 32 := Scf.iv c0_i32_495 c1_i32_497 k0_t2
  let v1054 : BitVec 32 := Scalar.muli c2_i32_1157 arg19
  let v1055 : BitVec 32 := Scalar.addi v1054 c0_i32_1158
  let v1058 : Index := Scalar.indexCast v1055
  let c0_1161 : Index := 0#32
  let c0_1162 : Index := 0#32
  ![v1058.toNat, 0, 0]
def k0_off34 (k0_t2 : Fin k0_t2_loop.trips) (c0_i32_1159 : BitVec 32) : Fin 3 → Nat :=
  let c8_i32_1116 : BitVec 32 := 8#32
  let c2_i32_1115 : BitVec 32 := 2#32
  let c0_i32_495 : BitVec 32 := 0#32
  let c1_i32_497 : BitVec 32 := 1#32
  let arg19 : BitVec 32 := Scf.iv c0_i32_495 c1_i32_497 k0_t2
  let v998 : BitVec 32 := Scalar.muli c2_i32_1115 arg19
  let v999 : BitVec 32 := Scalar.addi c8_i32_1116 v998
  let v1056 : BitVec 32 := Scalar.addi v999 c0_i32_1159
  let c4_i32_1160 : BitVec 32 := 4#32
  let v1057 : BitVec 32 := Scalar.remsi v1056 c4_i32_1160
  let v1061 : Index := Scalar.indexCast v1057
  let c0_1163 : Index := 0#32
  let c0_1164 : Index := 0#32
  ![v1061.toNat, 0, 0]
def k0_off35 (d0 : Dev nD) (c1_i32_454 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v405 : BitVec 32 := Scalar.subi v2 c1_i32_454
  let c4_i32_455 : BitVec 32 := 4#32
  let v406 : BitVec 32 := Scalar.addi v405 c4_i32_455
  let c4_i32_456 : BitVec 32 := 4#32
  let v407 : BitVec 32 := Scalar.remsi v406 c4_i32_456
  let v482 : Index := Scalar.indexCast v407
  let c0_526 : Index := 0#32
  let c0_527 : Index := 0#32
  let c0_528 : Index := 0#32
  ![v482.toNat, 0, 0, 0]
def k0_off36 (d0 : Dev nD) (c1_i32_457 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v408 : BitVec 32 := Scalar.addi v2 c1_i32_457
  let c4_i32_458 : BitVec 32 := 4#32
  let v409 : BitVec 32 := Scalar.remsi v408 c4_i32_458
  let v487 : Index := Scalar.indexCast v409
  let c1_530 : Index := 1#32
  let c0_531 : Index := 0#32
  let c0_532 : Index := 0#32
  ![v487.toNat, 1, 0, 0]
def k0_dev11 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_705 : BitVec 32 := 1#32
  let v613 : BitVec 32 := Scalar.muli v7 c1_i32_705
  let v614 : BitVec 32 := Scalar.addi c0_i32_706 v613
  v614.toNat
def k0_dev12 (d0 : Dev nD) : Nat :=
  let c0_i32_720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_719 : BitVec 32 := 1#32
  let v623 : BitVec 32 := Scalar.muli v5 c1_i32_719
  let v624 : BitVec 32 := Scalar.addi c0_i32_720 v623
  v624.toNat
def k0_dev13 (d0 : Dev nD) : Nat :=
  let c0_i32_734 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_733 : BitVec 32 := 1#32
  let v633 : BitVec 32 := Scalar.muli v7 c1_i32_733
  let v634 : BitVec 32 := Scalar.addi c0_i32_734 v633
  v634.toNat
def k0_dev14 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_747 : BitVec 32 := 1#32
  let v643 : BitVec 32 := Scalar.muli v5 c1_i32_747
  let v644 : BitVec 32 := Scalar.addi c0_i32_748 v643
  v644.toNat
@[reducible] def k0_t3_loop : Scf.Loop 32 :=
  let c0_i32_794 : BitVec 32 := 0#32
  let c4_i32_795 : BitVec 32 := 4#32
  let v708 : BitVec 32 := Scalar.addi c0_i32_794 c4_i32_795
  let c1_i32_796 : BitVec 32 := 1#32
  ⟨c0_i32_794, v708, c1_i32_796⟩
def k0_off37 (k0_t3 : Fin k0_t3_loop.trips) (c0_i32_1116 : BitVec 32) : Fin 2 → Nat :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1000 : BitVec 32 := Scalar.addi v999 c0_i32_1116
  let c4_i32_1124 : BitVec 32 := 4#32
  let v1012 : BitVec 32 := Scalar.remsi v1000 c4_i32_1124
  let c0_i32_1125 : BitVec 32 := 0#32
  ![v1012.toNat, 0]
def k0_off38 (k0_t3 : Fin k0_t3_loop.trips) (c0_i32_1116 : BitVec 32) : Fin 3 → Nat :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1000 : BitVec 32 := Scalar.addi v999 c0_i32_1116
  let c4_i32_1124 : BitVec 32 := 4#32
  let v1012 : BitVec 32 := Scalar.remsi v1000 c4_i32_1124
  let c0_i32_1126 : BitVec 32 := 0#32
  let c0_i32_1127 : BitVec 32 := 0#32
  ![v1012.toNat, 0, 0]
def k0_off39 (d0 : Dev nD) (k0_t3 : Fin k0_t3_loop.trips) (c0_i32_1116 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1128 : BitVec 32 := 0#32
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1000 : BitVec 32 := Scalar.addi v999 c0_i32_1116
  let c8_i32_1118 : BitVec 32 := 8#32
  let v1002 : BitVec 32 := Scalar.remsi v1000 c8_i32_1118
  let c4_i32_1119 : BitVec 32 := 4#32
  let v1003 : BitVec 1 := Scalar.cmpi .slt v1002 c4_i32_1119
  let c8_i32_1117 : BitVec 32 := 8#32
  let v1001 : BitVec 32 := Scalar.divsi v1000 c8_i32_1117
  let v1004 : BitVec 32 := Scalar.subi v2 v1001
  let c4_i32_1120 : BitVec 32 := 4#32
  let v1005 : BitVec 32 := Scalar.addi v1004 c4_i32_1120
  let c4_i32_1121 : BitVec 32 := 4#32
  let v1006 : BitVec 32 := Scalar.remsi v1005 c4_i32_1121
  let v1007 : BitVec 32 := Scalar.addi v2 v1001
  let c4_i32_1122 : BitVec 32 := 4#32
  let v1008 : BitVec 32 := Scalar.remsi v1007 c4_i32_1122
  let v1009 : BitVec 32 := Scalar.select v1003 v1006 v1008
  let c8_i32_1123 : BitVec 32 := 8#32
  let v1010 : BitVec 32 := Scalar.muli v1009 c8_i32_1123
  let v1011 : BitVec 32 := Scalar.addi v1010 v1002
  let c0_i32_1129 : BitVec 32 := 0#32
  ![v2.toNat, 0, v1011.toNat, 0]
def k0_off40 (k0_t3 : Fin k0_t3_loop.trips) (c0_i32_1116 : BitVec 32) : Fin 2 → Nat :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1000 : BitVec 32 := Scalar.addi v999 c0_i32_1116
  let c4_i32_1124 : BitVec 32 := 4#32
  let v1012 : BitVec 32 := Scalar.remsi v1000 c4_i32_1124
  let c1_i32_1130 : BitVec 32 := 1#32
  ![v1012.toNat, 1]
def k0_cond3 (k0_t3 : Fin k0_t3_loop.trips) : BitVec 1 :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let c2_i32_1154 : BitVec 32 := 2#32
  let v1050 : BitVec 32 := Scalar.addi v999 c2_i32_1154
  let c32_i32 : BitVec 32 := 32#32
  let v1051 : BitVec 1 := Scalar.cmpi .slt v1050 c32_i32
  let v1052 : BitVec 32 := Scalar.extui v1051
  let c0_i32_1155 : BitVec 32 := 0#32
  let v1053 : BitVec 1 := Scalar.cmpi .ne v1052 c0_i32_1155
  v1053

def k0_off41 (k0_t3 : Fin k0_t3_loop.trips) (c2_i32_1212 : BitVec 32) : Fin 2 → Nat :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1262 : BitVec 32 := Scalar.addi v999 c2_i32_1212
  let c4_i32_1220 : BitVec 32 := 4#32
  let v1274 : BitVec 32 := Scalar.remsi v1262 c4_i32_1220
  let c0_i32_1221 : BitVec 32 := 0#32
  ![v1274.toNat, 0]
def k0_off42 (k0_t3 : Fin k0_t3_loop.trips) (c2_i32_1212 : BitVec 32) : Fin 3 → Nat :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1262 : BitVec 32 := Scalar.addi v999 c2_i32_1212
  let c4_i32_1220 : BitVec 32 := 4#32
  let v1274 : BitVec 32 := Scalar.remsi v1262 c4_i32_1220
  let c0_i32_1222 : BitVec 32 := 0#32
  let c0_i32_1223 : BitVec 32 := 0#32
  ![v1274.toNat, 0, 0]
def k0_off43 (d0 : Dev nD) (k0_t3 : Fin k0_t3_loop.trips) (c2_i32_1212 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1224 : BitVec 32 := 0#32
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1262 : BitVec 32 := Scalar.addi v999 c2_i32_1212
  let c8_i32_1214 : BitVec 32 := 8#32
  let v1264 : BitVec 32 := Scalar.remsi v1262 c8_i32_1214
  let c4_i32_1215 : BitVec 32 := 4#32
  let v1265 : BitVec 1 := Scalar.cmpi .slt v1264 c4_i32_1215
  let c8_i32_1213 : BitVec 32 := 8#32
  let v1263 : BitVec 32 := Scalar.divsi v1262 c8_i32_1213
  let v1266 : BitVec 32 := Scalar.subi v2 v1263
  let c4_i32_1216 : BitVec 32 := 4#32
  let v1267 : BitVec 32 := Scalar.addi v1266 c4_i32_1216
  let c4_i32_1217 : BitVec 32 := 4#32
  let v1268 : BitVec 32 := Scalar.remsi v1267 c4_i32_1217
  let v1269 : BitVec 32 := Scalar.addi v2 v1263
  let c4_i32_1218 : BitVec 32 := 4#32
  let v1270 : BitVec 32 := Scalar.remsi v1269 c4_i32_1218
  let v1271 : BitVec 32 := Scalar.select v1265 v1268 v1270
  let c8_i32_1219 : BitVec 32 := 8#32
  let v1272 : BitVec 32 := Scalar.muli v1271 c8_i32_1219
  let v1273 : BitVec 32 := Scalar.addi v1272 v1264
  let c0_i32_1225 : BitVec 32 := 0#32
  ![v2.toNat, 0, v1273.toNat, 0]
def k0_off44 (k0_t3 : Fin k0_t3_loop.trips) (c2_i32_1212 : BitVec 32) : Fin 2 → Nat :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1262 : BitVec 32 := Scalar.addi v999 c2_i32_1212
  let c4_i32_1220 : BitVec 32 := 4#32
  let v1274 : BitVec 32 := Scalar.remsi v1262 c4_i32_1220
  let c1_i32_1226 : BitVec 32 := 1#32
  ![v1274.toNat, 1]
def k0_off45 (k0_t3 : Fin k0_t3_loop.trips) (c0_i32_1157 : BitVec 32) : Fin 3 → Nat :=
  let c2_i32_1156 : BitVec 32 := 2#32
  let c0_i32_794 : BitVec 32 := 0#32
  let c1_i32_796 : BitVec 32 := 1#32
  let arg19 : BitVec 32 := Scf.iv c0_i32_794 c1_i32_796 k0_t3
  let v1054 : BitVec 32 := Scalar.muli c2_i32_1156 arg19
  let v1055 : BitVec 32 := Scalar.addi v1054 c0_i32_1157
  let v1058 : Index := Scalar.indexCast v1055
  let c0_1160 : Index := 0#32
  let c0_1161 : Index := 0#32
  ![v1058.toNat, 0, 0]
def k0_off46 (k0_t3 : Fin k0_t3_loop.trips) (c0_i32_1158 : BitVec 32) : Fin 3 → Nat :=
  let c16_i32 : BitVec 32 := 16#32
  let c2_i32_1115 : BitVec 32 := 2#32
  let c0_i32_794 : BitVec 32 := 0#32
  let c1_i32_796 : BitVec 32 := 1#32
  let arg19 : BitVec 32 := Scf.iv c0_i32_794 c1_i32_796 k0_t3
  let v998 : BitVec 32 := Scalar.muli c2_i32_1115 arg19
  let v999 : BitVec 32 := Scalar.addi c16_i32 v998
  let v1056 : BitVec 32 := Scalar.addi v999 c0_i32_1158
  let c4_i32_1159 : BitVec 32 := 4#32
  let v1057 : BitVec 32 := Scalar.remsi v1056 c4_i32_1159
  let v1061 : Index := Scalar.indexCast v1057
  let c0_1162 : Index := 0#32
  let c0_1163 : Index := 0#32
  ![v1061.toNat, 0, 0]
@[reducible] def k0_t4_loop : Scf.Loop 32 :=
  let c0_i32_1031 : BitVec 32 := 0#32
  let c4_i32_1032 : BitVec 32 := 4#32
  let v911 : BitVec 32 := Scalar.addi c0_i32_1031 c4_i32_1032
  let c1_i32_1033 : BitVec 32 := 1#32
  ⟨c0_i32_1031, v911, c1_i32_1033⟩
def k0_off47 (k0_t4 : Fin k0_t4_loop.trips) (c0_i32_1116 : BitVec 32) : Fin 2 → Nat :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1000 : BitVec 32 := Scalar.addi v999 c0_i32_1116
  let c4_i32_1124 : BitVec 32 := 4#32
  let v1012 : BitVec 32 := Scalar.remsi v1000 c4_i32_1124
  let c0_i32_1125 : BitVec 32 := 0#32
  ![v1012.toNat, 0]
def k0_off48 (k0_t4 : Fin k0_t4_loop.trips) (c0_i32_1116 : BitVec 32) : Fin 3 → Nat :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1000 : BitVec 32 := Scalar.addi v999 c0_i32_1116
  let c4_i32_1124 : BitVec 32 := 4#32
  let v1012 : BitVec 32 := Scalar.remsi v1000 c4_i32_1124
  let c0_i32_1126 : BitVec 32 := 0#32
  let c0_i32_1127 : BitVec 32 := 0#32
  ![v1012.toNat, 0, 0]
def k0_off49 (d0 : Dev nD) (k0_t4 : Fin k0_t4_loop.trips) (c0_i32_1116 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1128 : BitVec 32 := 0#32
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1000 : BitVec 32 := Scalar.addi v999 c0_i32_1116
  let c8_i32_1118 : BitVec 32 := 8#32
  let v1002 : BitVec 32 := Scalar.remsi v1000 c8_i32_1118
  let c4_i32_1119 : BitVec 32 := 4#32
  let v1003 : BitVec 1 := Scalar.cmpi .slt v1002 c4_i32_1119
  let c8_i32_1117 : BitVec 32 := 8#32
  let v1001 : BitVec 32 := Scalar.divsi v1000 c8_i32_1117
  let v1004 : BitVec 32 := Scalar.subi v2 v1001
  let c4_i32_1120 : BitVec 32 := 4#32
  let v1005 : BitVec 32 := Scalar.addi v1004 c4_i32_1120
  let c4_i32_1121 : BitVec 32 := 4#32
  let v1006 : BitVec 32 := Scalar.remsi v1005 c4_i32_1121
  let v1007 : BitVec 32 := Scalar.addi v2 v1001
  let c4_i32_1122 : BitVec 32 := 4#32
  let v1008 : BitVec 32 := Scalar.remsi v1007 c4_i32_1122
  let v1009 : BitVec 32 := Scalar.select v1003 v1006 v1008
  let c8_i32_1123 : BitVec 32 := 8#32
  let v1010 : BitVec 32 := Scalar.muli v1009 c8_i32_1123
  let v1011 : BitVec 32 := Scalar.addi v1010 v1002
  let c0_i32_1129 : BitVec 32 := 0#32
  ![v2.toNat, 0, v1011.toNat, 0]
def k0_off50 (k0_t4 : Fin k0_t4_loop.trips) (c0_i32_1116 : BitVec 32) : Fin 2 → Nat :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1000 : BitVec 32 := Scalar.addi v999 c0_i32_1116
  let c4_i32_1124 : BitVec 32 := 4#32
  let v1012 : BitVec 32 := Scalar.remsi v1000 c4_i32_1124
  let c1_i32_1130 : BitVec 32 := 1#32
  ![v1012.toNat, 1]
def k0_cond4 (k0_t4 : Fin k0_t4_loop.trips) : BitVec 1 :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let c2_i32_1154 : BitVec 32 := 2#32
  let v1050 : BitVec 32 := Scalar.addi v999 c2_i32_1154
  let c32_i32 : BitVec 32 := 32#32
  let v1051 : BitVec 1 := Scalar.cmpi .slt v1050 c32_i32
  let v1052 : BitVec 32 := Scalar.extui v1051
  let c0_i32_1155 : BitVec 32 := 0#32
  let v1053 : BitVec 1 := Scalar.cmpi .ne v1052 c0_i32_1155
  v1053

def k0_off51 (k0_t4 : Fin k0_t4_loop.trips) (c2_i32_1212 : BitVec 32) : Fin 2 → Nat :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1262 : BitVec 32 := Scalar.addi v999 c2_i32_1212
  let c4_i32_1220 : BitVec 32 := 4#32
  let v1274 : BitVec 32 := Scalar.remsi v1262 c4_i32_1220
  let c0_i32_1221 : BitVec 32 := 0#32
  ![v1274.toNat, 0]
def k0_off52 (k0_t4 : Fin k0_t4_loop.trips) (c2_i32_1212 : BitVec 32) : Fin 3 → Nat :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1262 : BitVec 32 := Scalar.addi v999 c2_i32_1212
  let c4_i32_1220 : BitVec 32 := 4#32
  let v1274 : BitVec 32 := Scalar.remsi v1262 c4_i32_1220
  let c0_i32_1222 : BitVec 32 := 0#32
  let c0_i32_1223 : BitVec 32 := 0#32
  ![v1274.toNat, 0, 0]
def k0_off53 (d0 : Dev nD) (k0_t4 : Fin k0_t4_loop.trips) (c2_i32_1212 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1224 : BitVec 32 := 0#32
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1262 : BitVec 32 := Scalar.addi v999 c2_i32_1212
  let c8_i32_1214 : BitVec 32 := 8#32
  let v1264 : BitVec 32 := Scalar.remsi v1262 c8_i32_1214
  let c4_i32_1215 : BitVec 32 := 4#32
  let v1265 : BitVec 1 := Scalar.cmpi .slt v1264 c4_i32_1215
  let c8_i32_1213 : BitVec 32 := 8#32
  let v1263 : BitVec 32 := Scalar.divsi v1262 c8_i32_1213
  let v1266 : BitVec 32 := Scalar.subi v2 v1263
  let c4_i32_1216 : BitVec 32 := 4#32
  let v1267 : BitVec 32 := Scalar.addi v1266 c4_i32_1216
  let c4_i32_1217 : BitVec 32 := 4#32
  let v1268 : BitVec 32 := Scalar.remsi v1267 c4_i32_1217
  let v1269 : BitVec 32 := Scalar.addi v2 v1263
  let c4_i32_1218 : BitVec 32 := 4#32
  let v1270 : BitVec 32 := Scalar.remsi v1269 c4_i32_1218
  let v1271 : BitVec 32 := Scalar.select v1265 v1268 v1270
  let c8_i32_1219 : BitVec 32 := 8#32
  let v1272 : BitVec 32 := Scalar.muli v1271 c8_i32_1219
  let v1273 : BitVec 32 := Scalar.addi v1272 v1264
  let c0_i32_1225 : BitVec 32 := 0#32
  ![v2.toNat, 0, v1273.toNat, 0]
def k0_off54 (k0_t4 : Fin k0_t4_loop.trips) (c2_i32_1212 : BitVec 32) : Fin 2 → Nat :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1262 : BitVec 32 := Scalar.addi v999 c2_i32_1212
  let c4_i32_1220 : BitVec 32 := 4#32
  let v1274 : BitVec 32 := Scalar.remsi v1262 c4_i32_1220
  let c1_i32_1226 : BitVec 32 := 1#32
  ![v1274.toNat, 1]
def k0_off55 (k0_t4 : Fin k0_t4_loop.trips) (c0_i32_1157 : BitVec 32) : Fin 3 → Nat :=
  let c2_i32_1156 : BitVec 32 := 2#32
  let c0_i32_1031 : BitVec 32 := 0#32
  let c1_i32_1033 : BitVec 32 := 1#32
  let arg19 : BitVec 32 := Scf.iv c0_i32_1031 c1_i32_1033 k0_t4
  let v1054 : BitVec 32 := Scalar.muli c2_i32_1156 arg19
  let v1055 : BitVec 32 := Scalar.addi v1054 c0_i32_1157
  let v1058 : Index := Scalar.indexCast v1055
  let c0_1160 : Index := 0#32
  let c0_1161 : Index := 0#32
  ![v1058.toNat, 0, 0]
def k0_off56 (k0_t4 : Fin k0_t4_loop.trips) (c0_i32_1158 : BitVec 32) : Fin 3 → Nat :=
  let c24_i32 : BitVec 32 := 24#32
  let c2_i32_1115 : BitVec 32 := 2#32
  let c0_i32_1031 : BitVec 32 := 0#32
  let c1_i32_1033 : BitVec 32 := 1#32
  let arg19 : BitVec 32 := Scf.iv c0_i32_1031 c1_i32_1033 k0_t4
  let v998 : BitVec 32 := Scalar.muli c2_i32_1115 arg19
  let v999 : BitVec 32 := Scalar.addi c24_i32 v998
  let v1056 : BitVec 32 := Scalar.addi v999 c0_i32_1158
  let c4_i32_1159 : BitVec 32 := 4#32
  let v1057 : BitVec 32 := Scalar.remsi v1056 c4_i32_1159
  let v1061 : Index := Scalar.indexCast v1057
  let c0_1162 : Index := 0#32
  let c0_1163 : Index := 0#32
  ![v1061.toNat, 0, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S4x2048x4096 : Shape := ⟨3, ![4, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩

abbrev nBuf : Space → Nat
  | .hbm => 137
  | .vmem => 0
  | .smem => 0
  | _ => 0

abbrev hbmTy0_0 (i : Nat) : BufTy := match i % 128 with
  | 0 => ⟨S4x2048x1024, .f32⟩
  | 1 => ⟨S1024x4096, .f32⟩
  | 2 => ⟨S4x2048x32x128, .f32⟩
  | 3 => ⟨S4x2048x32x128, .f32⟩
  | 4 => ⟨S4096x1024, .f32⟩
  | 5 => ⟨S4x2048x4096, .f32⟩
  | 6 => ⟨S4x2048x32x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S2048x2048, .i32⟩
  | 48 => ⟨S2048x2048, .i32⟩
  | 49 => ⟨S2048x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x2048, .i32⟩
  | 95 => ⟨S2048x2048, .i32⟩
  | 96 => ⟨S2048x2048, .i1⟩
  | 97 => ⟨S2048x2048, .i1⟩
  | 98 => ⟨S4x32x2048x2048, .f32⟩
  | 99 => ⟨S_, .f32⟩
  | 100 => ⟨S4x32x2048x2048, .f32⟩
  | 101 => ⟨S4x32x2048x2048, .f32⟩
  | 102 => ⟨S1x1x2048x2048, .i1⟩
  | 103 => ⟨S_, .f32⟩
  | 104 => ⟨S_, .f32⟩
  | 105 => ⟨S4x32x2048x2048, .i1⟩
  | 106 => ⟨S4x32x2048x2048, .f32⟩
  | 107 => ⟨S4x32x2048x2048, .f32⟩
  | 108 => ⟨S_, .f32⟩
  | 109 => ⟨S4x32x2048, .f32⟩
  | 110 => ⟨S4x32x2048x1, .f32⟩
  | 111 => ⟨S4x32x2048x2048, .f32⟩
  | 112 => ⟨S4x32x2048x2048, .f32⟩
  | 113 => ⟨S4x32x2048x2048, .f32⟩
  | 114 => ⟨S_, .i1⟩
  | 115 => ⟨S2048, .i1⟩
  | 116 => ⟨S1x1x2048x1, .i1⟩
  | 117 => ⟨S_, .f32⟩
  | 118 => ⟨S4x32x2048, .f32⟩
  | 119 => ⟨S4x32x2048x1, .f32⟩
  | 120 => ⟨S_, .f32⟩
  | 121 => ⟨S_, .f32⟩
  | 122 => ⟨S4x32x2048x1, .i1⟩
  | 123 => ⟨S4x32x2048x1, .f32⟩
  | 124 => ⟨S4x32x2048x1, .f32⟩
  | 125 => ⟨S4x32x2048x2048, .f32⟩
  | 126 => ⟨S4x32x2048x2048, .f32⟩
  | 127 => ⟨S1x1x2048x1, .i1⟩
  | _ => ⟨S4x2048x1024, .f32⟩

abbrev hbmTy0_1 (i : Nat) : BufTy := match i % 128 with
  | 0 => ⟨S_, .f32⟩
  | 1 => ⟨S_, .f32⟩
  | 2 => ⟨S4x32x2048x2048, .i1⟩
  | 3 => ⟨S4x32x2048x2048, .f32⟩
  | 4 => ⟨S4x32x2048x2048, .f32⟩
  | 5 => ⟨S4x32x128x2048, .f32⟩
  | 6 => ⟨S4x2048x32x128, .f32⟩
  | 7 => ⟨S4x2048x4096, .f32⟩
  | 8 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Base.lean ====
/-
# 01_k — the resource algebra of the run, and the machine's rules in the form this proof uses

The run needs three copies of resources: the launch pipeline's, a copy of the rounds library for the cells two
devices share (the barrier, and the send and receive semaphores of the ring), and the counters local copies draw
their tokens from. The rules for loads, stores, local copies and waits are restated over `owns`: what a memref reads,
rather than the contents of its whole buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Scf
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra -/

/-- The rounds library's copy for the cells devices share, duties named by `Fin 2`. -/
abbrev UB : Type := URounds (GSem nD τ sig) (Fin 2)
/-- The user algebra: the pipeline's copy, the ring's, and the local copies' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

/-- No loop of the run is bounded by a variant. -/
abbrev 𝒱₀ : Variants := Variants.none

/-- The TensorCore's programs. -/
abbrev P (F : FTy → Type) [FloatOps F] (α : Type) : Type 1 := Prog (TpuEff nD τ sig (Elt F) Λ₀ .tc) α

/-- Running a program of device `c`'s TensorCore to the postcondition `Q`. -/
abbrev WP (c : Dev nD) {α : Type} (p : P F α) (Q : α → sProp 𝕄) : sProp 𝕄 :=
  wp frame (wpE defs₀ 𝒱₀ (c : Thread nD τ) none) Set.univ p Q

section Rules

variable (c : Dev nD) {α : Type} {Q : α → sProp (MT nD τ sig Unit (Elt F) ℕ UU ℕ)}
variable {s s' : Shape} {e : EltTy} {sp sp' : Space} {cs : CoreSpace}

/-- A load of a rectangle reads what the rectangle's slice is owned at. -/
theorem wp_load_owns {m : Memref sig .tc cs s e} {r : Rect s} (hr : ∀ a, r.stride a = 1) {hl : m.view.LoadsAt r.toLoadRect}
    {k : (r.shape.Idx → Elt F e) → P F α} {q : PosShare TreeShare} {X : r.shape.Idx → Elt F e} :
    (owns (c : Thread nD τ) (m.slice r hr) q X : sProp 𝕄)
      ⊢ iprop((owns (c : Thread nD τ) (m.slice r hr) q X -∗ WP c (k X) Q) -∗ WP c (.op (.load m r.toLoadRect hl) k) Q) := by
  unfold owns
  iintro ⟨%f, %hf, H⟩ Hk
  iapply (wp_load_rect 𝒱₀ (c : Thread nD τ) none Set.univ (m := m) (r := r) (S := (m.access r).set) subset_rfl) $$ H
  iintro H
  have e1 : (m.access r).read (Elt F) f = X := hf
  rw [e1]
  iapply Hk
  iexists f; isplitr; · ipureintro; exact hf
  iexact H

/-- A store through a rectangle leaves the rectangle's slice at what was stored. -/
theorem wp_store_owns {m : Memref sig .tc cs s e} {r : Rect s} (hr : ∀ a, r.stride a = 1) {w : r.shape.Idx → Elt F e}
    {hx : (m.access r).Stores Finset.univ} {hm : Finset.univ = Finset.univ ∨ ∀ a, r.stride a = 1}
    {k : PUnit → P F α} {X : r.shape.Idx → Elt F e} :
    (owns (c : Thread nD τ) (m.slice r hr) fullShare X : sProp 𝕄)
      ⊢ iprop((owns (c : Thread nD τ) (m.slice r hr) fullShare w -∗ WP c (k ⟨⟩) Q)
          -∗ WP c (.op (.store m r w Finset.univ hx hm) k) Q) := by
  unfold owns
  iintro ⟨%f, %hf, H⟩ Hk
  iapply (wp_store 𝒱₀ (c : Thread nD τ) none Set.univ (m := m) (r := r) (S := (m.access r).set) (by
    rw [View.setOn_univ])) $$ H
  iintro H
  iapply Hk
  iexists ((m.access r).write (Elt F) f w Finset.univ)
  isplitr
  · ipureintro; exact View.read_write_univ _ _
  iexact H

/-- What a squeezed view reads: its view's contents in row-major order. -/
abbrev squeezed {s s' : Shape} (h : s.Squeezes s') (X : s.Idx → Elt F e) : s'.Idx → Elt F e :=
  fun x => X (Shape.reshapeEquiv h.numel_eq x)

/-- Owning a memref is owning it squeezed. -/
theorem owns_squeeze {m : Memref sig .tc sp s e} (h : s.Squeezes s') {q : PosShare TreeShare} (X : s.Idx → Elt F e) :
    (owns (c : Thread nD τ) (m.squeeze s' h) q (squeezed h X) : sProp 𝕄) = owns (c : Thread nD τ) m q X := by
  have hset : (m.squeeze s' h).view.set = m.view.set := View.set_reshape _ _
  have hread (f : m.view.ty.Contents (Elt F)) : (m.squeeze s' h).view.read (Elt F) f = squeezed h (m.view.read (Elt F) f) := rfl
  have hinj : ∀ Y Y' : s.Idx → Elt F e, squeezed (F := F) h Y = squeezed h Y' → Y = Y' := fun Y Y' hy => by
    funext x
    have := congrFun hy ((Shape.reshapeEquiv h.numel_eq).symm x)
    simpa [squeezed] using this
  have h₁ : iprop(∃ f, ⌜(m.squeeze s' h).view.read (Elt F) f = squeezed h X⌝
        ∗ ((m.squeeze s' h).view.loc (c : Thread nD τ) ↦[(m.squeeze s' h).view.set]{q} f))
      ⊢ (iprop(∃ f, ⌜m.view.read (Elt F) f = X⌝ ∗ (m.view.loc (c : Thread nD τ) ↦[m.view.set]{q} f)) : sProp 𝕄) := by
    iintro ⟨%f, %hf, H⟩
    iexists f; isplitr; · ipureintro; exact hinj _ _ ((hread f).symm.trans hf)
    rw [← hset]; iexact H
  have h₂ : iprop(∃ f, ⌜m.view.read (Elt F) f = X⌝ ∗ (m.view.loc (c : Thread nD τ) ↦[m.view.set]{q} f))
      ⊢ (iprop(∃ f, ⌜(m.squeeze s' h).view.read (Elt F) f = squeezed h X⌝
        ∗ ((m.squeeze s' h).view.loc (c : Thread nD τ) ↦[(m.squeeze s' h).view.set]{q} f)) : sProp 𝕄) := by
    iintro ⟨%f, %hf, H⟩
    iexists f; isplitr; · ipureintro; rw [← hf]; exact hread f
    rw [hset]; iexact H
  exact BI.equiv_iff.mp ⟨h₁, h₂⟩

/-- A local copy: the source lent at any share and at contents `fs`, the destination owned outright and the cell at zero
    go into flight, to come back with the destination at what the source reads. -/
theorem wp_copy_owns {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {k : PUnit → P F α} {q : PosShare TreeShare} {fs : Buf (Elt F) (src.view.loc (c : Thread nD τ))} {Y : s.Idx → Elt F e}
    (N : ℕ) (hN : dst.view.amount sm = N) (hN0 : 0 < N) :
    iprop((src.view.loc (c : Thread nD τ) ↦[src.view.set]{q} fs) ∗ owns (c : Thread nD τ) dst fullShare Y ∗ semVal ((c : Thread nD τ), sm) 0)
      ⊢ (iprop((Flight EC (c : Thread nD τ) sm () N iprop(owns (c : Thread nD τ) dst fullShare (src.view.read (Elt F) fs)
                    ∗ (src.view.loc (c : Thread nD τ) ↦[src.view.set]{q} fs)) -∗ WP c (k ⟨⟩) Q)
          -∗ WP c (.op (.enqueueDma src (.here dst) sm hsrc hdst hsem) k) Q) : sProp 𝕄) := by
  iintro ⟨Hs, Hd, Hv⟩ Hk
  unfold owns
  icases Hd with ⟨%f, %hf, Hd⟩
  iapply (wp_dmaLocal EC 𝒱₀ (c : Thread nD τ) none () N hN hN0 (Sd := dst.view.set) subset_rfl) $$ [Hs Hd Hv]
  · isplitl [Hs]; · iexact Hs
    isplitl [Hd] <;> iassumption
  iintro Hf
  iapply Hk
  iapply (Flight_mono (EC := EC) (c := (c : Thread nD τ)) ?_) $$ Hf
  iintro ⟨Hd, Hs⟩
  isplitl [Hd]
  · iexists _
    isplitr
    rotate_left
    · iexact Hd
    · ipureintro; exact View.read_write_univ _ _
  iexact Hs

end Rules

end Cert.RingAttn

end
-- ==== Proof.Programs.lean ====
/-
# 01_k — the kernel's body as a sequence of stages

The printed body is one long run of operations cut into windows at fixed lengths. Here the same operations are grouped
by what they do: starting and awaiting a head's K and V, one trip of the attention loop, the projection and output
stages of a phase, and the ring's hops. Each stage is written once, over the offsets it works at.
-/
module

public import proofs.«01_k».proof.Proof.Base

@[expose] public section

noncomputable section

namespace Cert.RingAttn

open Cert.KernelIdeal Cert.KernelIdeal.Gen

open Idealize.ShloMosaic
open Idealize.ShloMosaic.TcCoe
open Idealize.SL Idealize.SL.Sem

variable {F : FTy → Type} [FloatOps F] {α : Type}

/-! ## Offsets with their bounds -/

/-- Where a rectangle of sizes `size` starts in a buffer of shape `s`, with the proof that it fits. -/
structure Off (s : Shape) (size : Fin s.rank → ℕ) where
  o : Fin s.rank → ℕ
  inb : ∀ a, o a + size a ≤ s.size a

theorem Off.ext' {s : Shape} {size : Fin s.rank → ℕ} {x y : Off s size} (h : x.o = y.o) : x = y := by
  cases x; cases y; cases h; rfl

/-- The rectangle. -/
abbrev Off.rect {s : Shape} {size : Fin s.rank → ℕ} (x : Off s size) : Rect s := Rect.unit (s := s) x.o size x.inb

abbrev SemOff : Type := Off S4x2 S1x1.size
abbrev SlotOff : Type := Off S4x2048x128 S1x2048x128.size
abbrev SrcOff : Type := Off S4x2048x32x128 S1x2048x1x128.size
abbrev GqOff : Type := Off S4x2x1024x512 S1x1x1024x512.size
abbrev GoOff : Type := Off S4x2x512x1024 S1x1x512x1024.size

/-- A head's rows in the query or context buffer; a store of them covers whole words. -/
structure HeadOff extends Off S8x2048x128 S1x2048x128.size where
  packed : toOff.rect.PackedRows (EltTy.packing .bf16)

theorem HeadOff.ext' {x y : HeadOff} (h : x.o = y.o) : x = y := by
  obtain ⟨⟨o, i⟩, p⟩ := x; obtain ⟨⟨o', i'⟩, p'⟩ := y; cases h; rfl

/-! ## The buffers -/

abbrev mX : Memref sig .tc .vmem S1x2048x1024 .f32 := Memref.whole cc0_stg0_0
abbrev mWq : Memref sig .tc .hbm S1024x1024 .f32 := Memref.whole main_arg1
abbrev mK : Memref sig .tc .hbm S4x2048x32x128 .f32 := Memref.whole main_arg2
abbrev mV : Memref sig .tc .hbm S4x2048x32x128 .f32 := Memref.whole main_arg3
abbrev mWo : Memref sig .tc .hbm S1024x1024 .f32 := Memref.whole main_arg4
abbrev mOut : Memref sig .tc .vmem S1x2048x1024 .f32 := Memref.whole cc0_stg1_0
abbrev mGq : Memref sig .tc .vmem S4x2x1024x512 .bf16 := Memref.whole cc0_scratch0
abbrev mGo : Memref sig .tc .vmem S4x2x512x1024 .bf16 := Memref.whole cc0_scratch1
abbrev mXb : Memref sig .tc .vmem S2048x1024 .bf16 := Memref.whole cc0_scratch2
abbrev mQ : Memref sig .tc .vmem S8x2048x128 .bf16 := Memref.whole cc0_scratch3
abbrev mC : Memref sig .tc .vmem S8x2048x128 .bf16 := Memref.whole cc0_scratch4
abbrev mKb : Memref sig .tc .vmem S4x2048x128 .f32 := Memref.whole cc0_scratch5
abbrev mVb : Memref sig .tc .vmem S4x2048x128 .f32 := Memref.whole cc0_scratch6
abbrev mWqs : Memref sig .tc .vmem S1024x512 .f32 := Memref.whole cc0_scratch7
abbrev mWos : Memref sig .tc .vmem S512x1024 .f32 := Memref.whole cc0_scratch8

/-- A buffer slot of the K or V heads, as the copies address it. -/
abbrev slotV (m : Memref sig .tc .vmem S4x2048x128 .f32) (d : SlotOff) : Memref sig .tc .vmem S2048x128 .f32 :=
  (m.slice d.rect (fun _ => rfl)).squeeze S2048x128 squeezes_S1x2048x128_S2048x128
/-- A head of K or V, as the copies address it. -/
abbrev srcV (m : Memref sig .tc .hbm S4x2048x32x128 .f32) (s : SrcOff) : Memref sig .tc .hbm S2048x128 .f32 :=
  (m.slice s.rect (fun _ => rfl)).squeeze S2048x128 squeezes_S1x2048x1x128_S2048x128
/-- The semaphore of a slot's copy of K or V. -/
abbrev kvSem (x : SemOff) : DmaSem sig := ((cc0_scratch10.slice x.rect).squeeze S_ squeezes_S1x1_S_).sem

/-! ## One trip of the attention loop -/

/-- Start the copies of a head's K and V into a slot. -/
abbrev kvStart (sK sV : SemOff) (d : SlotOff) (s : SrcOff) (k : P F α) : P F α :=
  .op (.enqueueDma (srcV mK s) (.here (slotV mKb d)) (.dma (kvSem sK)) ((View.wordExact_bits rfl).reshape _ _)
    ((View.wordExact_bits rfl).reshape _ _) ⟨Or.inl rfl, trivial⟩) fun _ =>
  .op (.enqueueDma (srcV mV s) (.here (slotV mVb d)) (.dma (kvSem sV)) ((View.wordExact_bits rfl).reshape _ _)
    ((View.wordExact_bits rfl).reshape _ _) ⟨Or.inl rfl, trivial⟩) fun _ => k

/-- Wait for a head's K and V. -/
abbrev kvWait (sK sV : SemOff) (d : SlotOff) (s : SrcOff) (k : P F α) : P F α :=
  .op (.waitDma2 (kvSem sK) (srcV mK s) (slotV mKb d) ((View.wordExact_bits rfl).reshape _ _)
    ((View.wordExact_bits rfl).reshape _ _)) fun _ =>
  .op (.waitDma2 (kvSem sV) (srcV mV s) (slotV mVb d) ((View.wordExact_bits rfl).reshape _ _)
    ((View.wordExact_bits rfl).reshape _ _)) fun _ => k

abbrev ldHead (m : Memref sig .tc .vmem S8x2048x128 .bf16) (q : HeadOff) (k : Vec F S1x2048x128 .bf16 → P F α) : P F α :=
  .op (.load m q.rect.toLoadRect (View.loadsAt_vmem h_S1x2048x128)) k
abbrev ldSlot (m : Memref sig .tc .vmem S4x2048x128 .f32) (d : SlotOff) (k : Vec F S1x2048x128 .f32 → P F α) : P F α :=
  .op (.load m d.rect.toLoadRect (View.loadsAt_vmem h_S1x2048x128)) k
abbrev stQ (q : HeadOff) (w : Vec F S1x2048x128 .bf16) (k : P F α) : P F α :=
  ldHead mQ q fun _ =>
  .op (.store mQ q.rect w Finset.univ (View.stores_vmem h_S1x2048x128 ((Memref.isWhole_whole cc0_scratch3).storeExact_slice rfl _ q.packed)
    (fun _ => rfl)) (.inl rfl)) fun _ => k
abbrev stC (q : HeadOff) (w : Vec F S1x2048x128 .bf16) (k : P F α) : P F α :=
  ldHead mC q fun _ =>
  .op (.store mC q.rect w Finset.univ (View.stores_vmem h_S1x2048x128 ((Memref.isWhole_whole cc0_scratch4).storeExact_slice rfl _ q.packed)
    (fun _ => rfl)) (.inl rfl)) fun _ => k

/-- The context of the first head of a trip, of its queries, keys and values. -/
def attnA (q : Vec F S1x2048x128 .bf16) (k v : Vec F S1x2048x128 .f32) : Vec F S1x2048x128 .bf16 :=
  k0_pay8 (k0_pay2 (k0_pay1 q)) (k0_pay3 k) (k0_pay4 v) (k0_pay5 (k0_pay1 q) k v) (k0_pay6 (k0_pay1 q) k v) (k0_pay7 (k0_pay1 q))
/-- The context of the second head of a trip. -/
def attnB (q : Vec F S1x2048x128 .bf16) (k v : Vec F S1x2048x128 .f32) : Vec F S1x2048x128 .bf16 :=
  k0_pay90 (k0_pay15 (k0_pay9 q) (k0_pay10 k) (k0_pay11 v)) (k0_pay16 (k0_pay12 q k v))
    (k0_pay17 (k0_pay13 v) (k0_pay14 q k) (Scalar.ofBits .f32 0x3DB504F3#32)) (k0_pay18 (k0_pay9 q) (k0_pay10 k) (k0_pay11 v))

/-- The offsets one of a trip's two heads works at: its copies' semaphores, its slot, its source, its rows. -/
structure HeadArgs where
  sK : SemOff
  sV : SemOff
  d : SlotOff
  s : SrcOff
  l : SlotOff
  q : HeadOff

/-- The offsets a start of copies works at. -/
structure StartArgs where
  sK : SemOff
  sV : SemOff
  d : SlotOff
  s : SrcOff

/-- Start the copies of the next two heads. -/
abbrev startTwo (a b : StartArgs) (k : P F α) : P F α := kvStart a.sK a.sV a.d a.s (kvStart b.sK b.sV b.d b.s k)

/-- The attention of a trip's two heads, whose K and V have landed. -/
abbrev headsOps (a b : HeadArgs) : P F Unit :=
  ldHead mQ a.q fun q => ldSlot mKb a.l fun k => ldSlot mVb a.l fun v => stC a.q (attnA q k v) <|
  ldHead mQ b.q fun q => ldSlot mKb b.l fun k => ldSlot mVb b.l fun v => stC b.q (attnB q k v) <|
  .ret ⟨⟩

/-- A trip: await two heads' K and V, start the next two if there are any, and attend. -/
abbrev tripOps (cnd : Prop) [Decidable cnd] (a b : HeadArgs) (x y : cnd → StartArgs) : P F Unit :=
  kvWait a.sK a.sV a.d a.s <| kvWait b.sK b.sV b.d b.s <|
    if h : cnd then startTwo (x h) (y h) (headsOps a b) else headsOps a b

end Cert.RingAttn

end
-- ==== Proof.Trips.lean ====
/-
# 01_k — the four attention loops run the same trips

The four phases' loops are printed separately; each of their trips is the one trip `trip c g` at the trip's number
`g = 0 … 15` in the whole run, which awaits heads number `2g` and `2g+1` of the run's thirty-two.
-/
module

public import proofs.«01_k».proof.Proof.Programs

@[expose] public section

set_option maxRecDepth 65536

noncomputable section

namespace Cert.RingAttn

open Cert.KernelIdeal Cert.KernelIdeal.Gen

open Idealize.ShloMosaic
open Idealize.ShloMosaic.TcCoe
open Idealize.SL Idealize.SL.Sem

variable {F : FTy → Type} [FloatOps F] {α : Type}

/-! ## The offsets by their numbers -/

/-- The semaphore of slot `σ`'s copies of K (`w = 0`) or V (`w = 1`). -/
abbrev semOff (σ : Fin 4) (w : Fin 2) : SemOff := ⟨![σ.val, w.val], by revert σ w; decide +kernel⟩
/-- Slot `σ` of the K and V buffers. -/
abbrev slotOff (σ : Fin 4) : SlotOff := ⟨![σ.val, 0, 0], by revert σ; decide +kernel⟩
/-- Head `h` of batch `c` of K or V. -/
abbrev srcOff (c : Dev nD) (h : Fin 32) : SrcOff := ⟨![c.val, 0, h.val, 0], by revert c h; decide +kernel⟩
/-- Head `h` of the query or context buffer. -/
abbrev headOff (h : Fin 8) : HeadOff := ⟨⟨![h.val, 0, 0], by revert h; decide +kernel⟩, by revert h; decide +kernel⟩

/-- The head of K and V the run's head number `s` reads: heads 0–3 of a phase come from the block behind, heads 4–7
    from the block ahead. -/
def gidx (c : Dev nD) (s : Fin 32) : Fin 32 :=
  ⟨8 * (if s.val % 8 < 4 then (c.val + 4 - s.val / 8) % 4 else (c.val + s.val / 8) % 4) + s.val % 8, by revert c s; decide +kernel⟩

/-- The slot of the run's head number `s`. -/
abbrev slotOf (s : Fin 32) : Fin 4 := ⟨s.val % 4, Nat.mod_lt _ (by decide)⟩
/-- Its head within the phase. -/
abbrev headOf (s : Fin 32) : Fin 8 := ⟨s.val % 8, Nat.mod_lt _ (by decide)⟩

abbrev headArgs (c : Dev nD) (s : Fin 32) : HeadArgs :=
  ⟨semOff (slotOf s) 0, semOff (slotOf s) 1, slotOff (slotOf s), srcOff c (gidx c s), slotOff (slotOf s), headOff (headOf s)⟩
abbrev startArgs (c : Dev nD) (s : Fin 32) : StartArgs :=
  ⟨semOff (slotOf s) 0, semOff (slotOf s) 1, slotOff (slotOf s), srcOff c (gidx c s)⟩

/-- The number of the `r`-th head of trip `g`. -/
abbrev nth (g : Fin 16) (r : Fin 2) : Fin 32 := ⟨2 * g.val + r.val, by omega⟩
/-- The number of the `r`-th head of the trip after `g`. -/
abbrev nthNext (g : Fin 16) (h : g.val < 15) (r : Fin 2) : Fin 32 := ⟨2 * g.val + 2 + r.val, by omega⟩

/-- Trip `g` of device `c`'s run. -/
abbrev trip (c : Dev nD) (g : Fin 16) : P F Unit :=
  tripOps (g.val < 15) (headArgs c (nth g 0)) (headArgs c (nth g 1)) (fun h => startArgs c (nthNext g h 0))
    (fun h => startArgs c (nthNext g h 1))

/-- Two trips whose offsets are the same are the same. -/
theorem tripOps_congr {p q : Prop} [Decidable p] [Decidable q] (hpq : p ↔ q) {a a' b b' : HeadArgs} (ha : a = a') (hb : b = b')
    {x y : p → StartArgs} {x' y' : q → StartArgs} (hx : ∀ h h', x h = x' h') (hy : ∀ h h', y h = y' h') :
    (tripOps p a b x y : P F Unit) = tripOps q a' b' x' y' := by
  subst ha hb
  unfold tripOps
  by_cases h : p
  · have h' := hpq.mp h
    rw [dif_pos h, dif_pos h', hx h h', hy h h']
  · rw [dif_neg h, dif_neg (fun h' => h (hpq.mpr h'))]

theorem HeadArgs.ext' {a b : HeadArgs} (h₁ : a.sK.o = b.sK.o) (h₂ : a.sV.o = b.sV.o) (h₃ : a.d.o = b.d.o) (h₄ : a.s.o = b.s.o)
    (h₅ : a.l.o = b.l.o) (h₆ : a.q.o = b.q.o) : a = b := by
  obtain ⟨a₁, a₂, a₃, a₄, a₅, a₆⟩ := a
  obtain ⟨b₁, b₂, b₃, b₄, b₅, b₆⟩ := b
  rw [HeadArgs.mk.injEq]
  exact ⟨Off.ext' h₁, Off.ext' h₂, Off.ext' h₃, Off.ext' h₄, Off.ext' h₅, HeadOff.ext' h₆⟩

theorem StartArgs.ext' {a b : StartArgs} (h₁ : a.sK.o = b.sK.o) (h₂ : a.sV.o = b.sV.o) (h₃ : a.d.o = b.d.o) (h₄ : a.s.o = b.s.o) :
    a = b := by
  obtain ⟨a₁, a₂, a₃, a₄⟩ := a
  obtain ⟨b₁, b₂, b₃, b₄⟩ := b
  rw [StartArgs.mk.injEq]
  exact ⟨Off.ext' h₁, Off.ext' h₂, Off.ext' h₃, Off.ext' h₄⟩

/-! ## Phase 0 -/

/-- The offsets of a head as printed in the loop of phase 0. -/
abbrev rawHead1 (c : Dev nD) (k : Fin k0_t1_loop.trips) (r : Fin 2) : HeadArgs :=
  ⟨⟨k0_off13 k (BitVec.ofNat 32 r.val), k0_off13_inb k r⟩, ⟨k0_off16 k (BitVec.ofNat 32 r.val), k0_off16_inb k r⟩,
   ⟨k0_off14 k (BitVec.ofNat 32 r.val), k0_off14_inb k r⟩, ⟨k0_off15 c k (BitVec.ofNat 32 r.val), k0_off15_inb c k r⟩,
   ⟨k0_off22 k (BitVec.ofNat 32 r.val), k0_off22_inb k r⟩, ⟨⟨k0_off21 k (BitVec.ofNat 32 r.val), k0_off21_inb k r⟩, k0_off21_packedbf16 k r⟩⟩
/-- The offsets of a start of copies as printed there. -/
abbrev rawStart1 (c : Dev nD) (k : Fin k0_t1_loop.trips) (r : Fin 2) (h : k0_cond1 k = 1#1) : StartArgs :=
  ⟨⟨k0_off17 k (BitVec.ofNat 32 (2 + r.val)), k0_off17_inb k h r⟩, ⟨k0_off20 k (BitVec.ofNat 32 (2 + r.val)), k0_off20_inb k h r⟩,
   ⟨k0_off18 k (BitVec.ofNat 32 (2 + r.val)), k0_off18_inb k h r⟩, ⟨k0_off19 c k (BitVec.ofNat 32 (2 + r.val)), k0_off19_inb c k h r⟩⟩

/-- A trip of the loop of phase 0, on the buffers the launch gives the kernel. -/
abbrev body1 (d0 : Dev nD) (v2 : BitVec 32) (v : Vec F S2048x1024 .bf16) : Fin k0_t1_loop.trips → Unit → P F Unit :=
  k0_t1_body mX (Memref.isWhole_whole _) mWq (Memref.isWhole_whole _) mK (Memref.isWhole_whole _) mV (Memref.isWhole_whole _)
    mWo (Memref.isWhole_whole _) mOut (Memref.isWhole_whole _) mGq (Memref.isWhole_whole _) mGo (Memref.isWhole_whole _)
    mXb (Memref.isWhole_whole _) mQ (Memref.isWhole_whole _) mC (Memref.isWhole_whole _) mKb (Memref.isWhole_whole _)
    mVb (Memref.isWhole_whole _) mWqs (Memref.isWhole_whole _) mWos (Memref.isWhole_whole _)
    cc0_scratch9 cc0_scratch10 cc0_scratch11 cc0_scratch12 d0 v2 v

theorem body1_raw (c : Dev nD) (v2 : BitVec 32) (v : Vec F S2048x1024 .bf16) (k : Fin k0_t1_loop.trips) (u : Unit) :
    body1 c v2 v k u = tripOps (k0_cond1 k = 1#1) (rawHead1 c k 0) (rawHead1 c k 1) (rawStart1 c k 0) (rawStart1 c k 1) := by
  unfold body1 k0_t1_body tripOps
  by_cases h : k0_cond1 k = 1#1
  · simp only [k0_part2_eq_skeleton, k0_part3_eq_skeleton, k0_part4_eq_skeleton, k0_part5_eq_skeleton, k0_part6_eq_skeleton, k0_part7_eq_skeleton, k0_part1_eq_skeleton, k0_part3_skel, dif_pos h]
    rfl
  · simp only [k0_part2_eq_skeleton, k0_part3_eq_skeleton, k0_part4_eq_skeleton, k0_part5_eq_skeleton, k0_part6_eq_skeleton, k0_part7_eq_skeleton, k0_part1_eq_skeleton, k0_part3_skel, dif_neg h]
    rfl

/-- The trip's number in the run. -/
abbrev g1 (k : Fin k0_t1_loop.trips) : Fin 16 := ⟨k.val, by have := k.isLt; have h : k0_t1_loop.trips = 4 := (by decide +kernel); omega⟩

theorem rawHead1_eq (c : Dev nD) (k : Fin k0_t1_loop.trips) (r : Fin 2) : rawHead1 c k r = headArgs c (nth (g1 k) r) := by
  apply HeadArgs.ext' <;> (revert c k r; decide +kernel)

theorem rawStart1_eq (c : Dev nD) (k : Fin k0_t1_loop.trips) (r : Fin 2) (h : k0_cond1 k = 1#1) (h' : (g1 k).val < 15) :
    rawStart1 c k r h = startArgs c (nthNext (g1 k) h' r) := by
  apply StartArgs.ext' <;> (revert h'; revert h; revert c k r; decide +kernel)

theorem body1_eq (c : Dev nD) (v2 : BitVec 32) (v : Vec F S2048x1024 .bf16) (k : Fin k0_t1_loop.trips) (u : Unit) :
    body1 c v2 v k u = trip c (g1 k) := by
  rw [body1_raw]
  exact tripOps_congr (by clear u v v2 c; revert k; decide +kernel) (rawHead1_eq c k 0) (rawHead1_eq c k 1)
    (rawStart1_eq c k 0) (rawStart1_eq c k 1)

/-! ## Phase 1 -/

/-- The offsets of a head as printed in the loop of phase 1. -/
abbrev rawHead2 (c : Dev nD) (k : Fin k0_t2_loop.trips) (r : Fin 2) : HeadArgs :=
  ⟨⟨k0_off25 k (BitVec.ofNat 32 r.val), k0_off25_inb k r⟩, ⟨k0_off28 k (BitVec.ofNat 32 r.val), k0_off28_inb k r⟩,
   ⟨k0_off26 k (BitVec.ofNat 32 r.val), k0_off26_inb k r⟩, ⟨k0_off27 c k (BitVec.ofNat 32 r.val), k0_off27_inb c k r⟩,
   ⟨k0_off34 k (BitVec.ofNat 32 r.val), k0_off34_inb k r⟩, ⟨⟨k0_off33 k (BitVec.ofNat 32 r.val), k0_off33_inb k r⟩, k0_off33_packedbf16 k r⟩⟩
/-- The offsets of a start of copies as printed there. -/
abbrev rawStart2 (c : Dev nD) (k : Fin k0_t2_loop.trips) (r : Fin 2) (h : k0_cond2 k = 1#1) : StartArgs :=
  ⟨⟨k0_off29 k (BitVec.ofNat 32 (2 + r.val)), k0_off29_inb k h r⟩, ⟨k0_off32 k (BitVec.ofNat 32 (2 + r.val)), k0_off32_inb k h r⟩,
   ⟨k0_off30 k (BitVec.ofNat 32 (2 + r.val)), k0_off30_inb k h r⟩, ⟨k0_off31 c k (BitVec.ofNat 32 (2 + r.val)), k0_off31_inb c k h r⟩⟩

/-- A trip of the loop of phase 1, on the buffers the launch gives the kernel. -/
abbrev body2 (d0 : Dev nD) (v2 : BitVec 32) (v : FVec F S2048x512 .f32) (w : FVec F S2048x128 .bf16) : Fin k0_t2_loop.trips → Unit → P F Unit :=
  k0_t2_body mX (Memref.isWhole_whole _) mWq (Memref.isWhole_whole _) mK (Memref.isWhole_whole _) mV (Memref.isWhole_whole _)
    mWo (Memref.isWhole_whole _) mOut (Memref.isWhole_whole _) mGq (Memref.isWhole_whole _) mGo (Memref.isWhole_whole _)
    mXb (Memref.isWhole_whole _) mQ (Memref.isWhole_whole _) mC (Memref.isWhole_whole _) mKb (Memref.isWhole_whole _)
    mVb (Memref.isWhole_whole _) mWqs (Memref.isWhole_whole _) mWos (Memref.isWhole_whole _)
    cc0_scratch9 cc0_scratch10 cc0_scratch11 cc0_scratch12 d0 v2 v w

theorem body2_raw (c : Dev nD) (v2 : BitVec 32) (v : FVec F S2048x512 .f32) (w : FVec F S2048x128 .bf16) (k : Fin k0_t2_loop.trips) (u : Unit) :
    body2 c v2 v w k u = tripOps (k0_cond2 k = 1#1) (rawHead2 c k 0) (rawHead2 c k 1) (rawStart2 c k 0) (rawStart2 c k 1) := by
  unfold body2 k0_t2_body tripOps
  by_cases h : k0_cond2 k = 1#1
  · simp only [k0_part9_eq_skeleton, k0_part10_eq_skeleton, k0_part11_eq_skeleton, k0_part12_eq_skeleton, k0_part13_eq_skeleton, k0_part14_eq_skeleton, k0_part8_eq_skeleton, k0_part10_skel, dif_pos h]
    rfl
  · simp only [k0_part9_eq_skeleton, k0_part10_eq_skeleton, k0_part11_eq_skeleton, k0_part12_eq_skeleton, k0_part13_eq_skeleton, k0_part14_eq_skeleton, k0_part8_eq_skeleton, k0_part10_skel, dif_neg h]
    rfl

/-- The trip's number in the run. -/
abbrev g2 (k : Fin k0_t2_loop.trips) : Fin 16 := ⟨4 + k.val, by have := k.isLt; have h : k0_t2_loop.trips = 4 := (by decide +kernel); omega⟩

theorem rawHead2_eq (c : Dev nD) (k : Fin k0_t2_loop.trips) (r : Fin 2) : rawHead2 c k r = headArgs c (nth (g2 k) r) := by
  apply HeadArgs.ext' <;> (revert c k r; decide +kernel)

theorem rawStart2_eq (c : Dev nD) (k : Fin k0_t2_loop.trips) (r : Fin 2) (h : k0_cond2 k = 1#1) (h' : (g2 k).val < 15) :
    rawStart2 c k r h = startArgs c (nthNext (g2 k) h' r) := by
  apply StartArgs.ext' <;> (revert h'; revert h; revert c k r; decide +kernel)

theorem body2_eq (c : Dev nD) (v2 : BitVec 32) (v : FVec F S2048x512 .f32) (w : FVec F S2048x128 .bf16) (k : Fin k0_t2_loop.trips) (u : Unit) :
    body2 c v2 v w k u = trip c (g2 k) := by
  rw [body2_raw]
  exact tripOps_congr (by clear u v w v2 c; revert k; decide +kernel) (rawHead2_eq c k 0) (rawHead2_eq c k 1)
    (rawStart2_eq c k 0) (rawStart2_eq c k 1)

/-! ## Phase 2 -/

/-- The offsets of a head as printed in the loop of phase 2. -/
abbrev rawHead3 (c : Dev nD) (k : Fin k0_t3_loop.trips) (r : Fin 2) : HeadArgs :=
  ⟨⟨k0_off37 k (BitVec.ofNat 32 r.val), k0_off37_inb k r⟩, ⟨k0_off40 k (BitVec.ofNat 32 r.val), k0_off40_inb k r⟩,
   ⟨k0_off38 k (BitVec.ofNat 32 r.val), k0_off38_inb k r⟩, ⟨k0_off39 c k (BitVec.ofNat 32 r.val), k0_off39_inb c k r⟩,
   ⟨k0_off46 k (BitVec.ofNat 32 r.val), k0_off46_inb k r⟩, ⟨⟨k0_off45 k (BitVec.ofNat 32 r.val), k0_off45_inb k r⟩, k0_off45_packedbf16 k r⟩⟩
/-- The offsets of a start of copies as printed there. -/
abbrev rawStart3 (c : Dev nD) (k : Fin k0_t3_loop.trips) (r : Fin 2) (h : k0_cond3 k = 1#1) : StartArgs :=
  ⟨⟨k0_off41 k (BitVec.ofNat 32 (2 + r.val)), k0_off41_inb k h r⟩, ⟨k0_off44 k (BitVec.ofNat 32 (2 + r.val)), k0_off44_inb k h r⟩,
   ⟨k0_off42 k (BitVec.ofNat 32 (2 + r.val)), k0_off42_inb k h r⟩, ⟨k0_off43 c k (BitVec.ofNat 32 (2 + r.val)), k0_off43_inb c k h r⟩⟩

/-- A trip of the loop of phase 2, on the buffers the launch gives the kernel. -/
abbrev body3 (d0 : Dev nD) (v2 : BitVec 32) (w : BitVec 32) : Fin k0_t3_loop.trips → Unit → P F Unit :=
  k0_t3_body mX (Memref.isWhole_whole _) mWq (Memref.isWhole_whole _) mK (Memref.isWhole_whole _) mV (Memref.isWhole_whole _)
    mWo (Memref.isWhole_whole _) mOut (Memref.isWhole_whole _) mGq (Memref.isWhole_whole _) mGo (Memref.isWhole_whole _)
    mXb (Memref.isWhole_whole _) mQ (Memref.isWhole_whole _) mC (Memref.isWhole_whole _) mKb (Memref.isWhole_whole _)
    mVb (Memref.isWhole_whole _) mWqs (Memref.isWhole_whole _) mWos (Memref.isWhole_whole _)
    cc0_scratch9 cc0_scratch10 cc0_scratch11 cc0_scratch12 d0 v2 w

theorem body3_raw (c : Dev nD) (v2 : BitVec 32) (w : BitVec 32) (k : Fin k0_t3_loop.trips) (u : Unit) :
    body3 (F := F) c v2 w k u = tripOps (k0_cond3 k = 1#1) (rawHead3 c k 0) (rawHead3 c k 1) (rawStart3 c k 0) (rawStart3 c k 1) := by
  unfold body3 k0_t3_body tripOps
  by_cases h : k0_cond3 k = 1#1
  · simp only [k0_part16_eq_skeleton, k0_part17_eq_skeleton, k0_part18_eq_skeleton, k0_part19_eq_skeleton, k0_part20_eq_skeleton, k0_part21_eq_skeleton, k0_part15_eq_skeleton, k0_part17_skel, dif_pos h]
    rfl
  · simp only [k0_part16_eq_skeleton, k0_part17_eq_skeleton, k0_part18_eq_skeleton, k0_part19_eq_skeleton, k0_part20_eq_skeleton, k0_part21_eq_skeleton, k0_part15_eq_skeleton, k0_part17_skel, dif_neg h]
    rfl

/-- The trip's number in the run. -/
abbrev g3 (k : Fin k0_t3_loop.trips) : Fin 16 := ⟨8 + k.val, by have := k.isLt; have h : k0_t3_loop.trips = 4 := (by decide +kernel); omega⟩

theorem rawHead3_eq (c : Dev nD) (k : Fin k0_t3_loop.trips) (r : Fin 2) : rawHead3 c k r = headArgs c (nth (g3 k) r) := by
  apply HeadArgs.ext' <;> (revert c k r; decide +kernel)

theorem rawStart3_eq (c : Dev nD) (k : Fin k0_t3_loop.trips) (r : Fin 2) (h : k0_cond3 k = 1#1) (h' : (g3 k).val < 15) :
    rawStart3 c k r h = startArgs c (nthNext (g3 k) h' r) := by
  apply StartArgs.ext' <;> (revert h'; revert h; revert c k r; decide +kernel)

theorem body3_eq (c : Dev nD) (v2 : BitVec 32) (w : BitVec 32) (k : Fin k0_t3_loop.trips) (u : Unit) :
    body3 (F := F) c v2 w k u = trip c (g3 k) := by
  rw [body3_raw]
  exact tripOps_congr (by clear u w v2 c; revert k; decide +kernel) (rawHead3_eq c k 0) (rawHead3_eq c k 1)
    (rawStart3_eq c k 0) (rawStart3_eq c k 1)

/-! ## Phase 3 -/

/-- The offsets of a head as printed in the loop of phase 3. -/
abbrev rawHead4 (c : Dev nD) (k : Fin k0_t4_loop.trips) (r : Fin 2) : HeadArgs :=
  ⟨⟨k0_off47 k (BitVec.ofNat 32 r.val), k0_off47_inb k r⟩, ⟨k0_off50 k (BitVec.ofNat 32 r.val), k0_off50_inb k r⟩,
   ⟨k0_off48 k (BitVec.ofNat 32 r.val), k0_off48_inb k r⟩, ⟨k0_off49 c k (BitVec.ofNat 32 r.val), k0_off49_inb c k r⟩,
   ⟨k0_off56 k (BitVec.ofNat 32 r.val), k0_off56_inb k r⟩, ⟨⟨k0_off55 k (BitVec.ofNat 32 r.val), k0_off55_inb k r⟩, k0_off55_packedbf16 k r⟩⟩
/-- The offsets of a start of copies as printed there. -/
abbrev rawStart4 (c : Dev nD) (k : Fin k0_t4_loop.trips) (r : Fin 2) (h : k0_cond4 k = 1#1) : StartArgs :=
  ⟨⟨k0_off51 k (BitVec.ofNat 32 (2 + r.val)), k0_off51_inb k h r⟩, ⟨k0_off54 k (BitVec.ofNat 32 (2 + r.val)), k0_off54_inb k h r⟩,
   ⟨k0_off52 k (BitVec.ofNat 32 (2 + r.val)), k0_off52_inb k h r⟩, ⟨k0_off53 c k (BitVec.ofNat 32 (2 + r.val)), k0_off53_inb c k h r⟩⟩

/-- A trip of the loop of phase 3, on the buffers the launch gives the kernel. -/
abbrev body4 (d0 : Dev nD) (v2 : BitVec 32) (v : FVec F S2048x512 .f32) : Fin k0_t4_loop.trips → Unit → P F Unit :=
  k0_t4_body mX (Memref.isWhole_whole _) mWq (Memref.isWhole_whole _) mK (Memref.isWhole_whole _) mV (Memref.isWhole_whole _)
    mWo (Memref.isWhole_whole _) mOut (Memref.isWhole_whole _) mGq (Memref.isWhole_whole _) mGo (Memref.isWhole_whole _)
    mXb (Memref.isWhole_whole _) mQ (Memref.isWhole_whole _) mC (Memref.isWhole_whole _) mKb (Memref.isWhole_whole _)
    mVb (Memref.isWhole_whole _) mWqs (Memref.isWhole_whole _) mWos (Memref.isWhole_whole _)
    cc0_scratch9 cc0_scratch10 cc0_scratch11 cc0_scratch12 d0 v2 v

theorem body4_raw (c : Dev nD) (v2 : BitVec 32) (v : FVec F S2048x512 .f32) (k : Fin k0_t4_loop.trips) (u : Unit) :
    body4 c v2 v k u = tripOps (k0_cond4 k = 1#1) (rawHead4 c k 0) (rawHead4 c k 1) (rawStart4 c k 0) (rawStart4 c k 1) := by
  unfold body4 k0_t4_body tripOps
  by_cases h : k0_cond4 k = 1#1
  · simp only [k0_part23_eq_skeleton, k0_part24_eq_skeleton, k0_part25_eq_skeleton, k0_part26_eq_skeleton, k0_part27_eq_skeleton, k0_part28_eq_skeleton, k0_part22_eq_skeleton, k0_part24_skel, dif_pos h]
    rfl
  · simp only [k0_part23_eq_skeleton, k0_part24_eq_skeleton, k0_part25_eq_skeleton, k0_part26_eq_skeleton, k0_part27_eq_skeleton, k0_part28_eq_skeleton, k0_part22_eq_skeleton, k0_part24_skel, dif_neg h]
    rfl

/-- The trip's number in the run. -/
abbrev g4 (k : Fin k0_t4_loop.trips) : Fin 16 := ⟨12 + k.val, by have := k.isLt; have h : k0_t4_loop.trips = 4 := (by decide +kernel); omega⟩

theorem rawHead4_eq (c : Dev nD) (k : Fin k0_t4_loop.trips) (r : Fin 2) : rawHead4 c k r = headArgs c (nth (g4 k) r) := by
  apply HeadArgs.ext' <;> (revert c k r; decide +kernel)

theorem rawStart4_eq (c : Dev nD) (k : Fin k0_t4_loop.trips) (r : Fin 2) (h : k0_cond4 k = 1#1) (h' : (g4 k).val < 15) :
    rawStart4 c k r h = startArgs c (nthNext (g4 k) h' r) := by
  apply StartArgs.ext' <;> (revert h'; revert h; revert c k r; decide +kernel)

theorem body4_eq (c : Dev nD) (v2 : BitVec 32) (v : FVec F S2048x512 .f32) (k : Fin k0_t4_loop.trips) (u : Unit) :
    body4 c v2 v k u = trip c (g4 k) := by
  rw [body4_raw]
  exact tripOps_congr (by clear u v v2 c; revert k; decide +kernel) (rawHead4_eq c k 0) (rawHead4_eq c k 1)
    (rawStart4_eq c k 0) (rawStart4_eq c k 1)

end Cert.RingAttn

end
-- ==== Proof.Stages.lean ====
/-
# 01_k — the body's stages

The prologue (first copies started, the device's own weight blocks gathered, the neighbours met at the barrier), a hop of
the ring (its four copies started, and later awaited) and a phase of work (project the queries, attend, add the output
product), each over the offsets it works at; and the equation between the printed body and the sequence of stages.
-/
module

public import proofs.«01_k».proof.Proof.Trips

@[expose] public section

set_option maxRecDepth 65536

noncomputable section

namespace Cert.RingAttn

open Cert.KernelIdeal Cert.KernelIdeal.Gen

open Idealize.ShloMosaic
open Idealize.ShloMosaic.TcCoe
open Idealize.SL Idealize.SL.Sem

variable {F : FTy → Type} [FloatOps F] {α : Type}

/-! ## Offsets a store or a copy of halved words works at -/

/-- An offset whose rectangle a store of bf16 covers in whole words. -/
structure OffP (s : Shape) (size : Fin s.rank → ℕ) extends Off s size where
  packed : toOff.rect.PackedRows (EltTy.packing .bf16)
/-- An offset whose rectangle a copy of bf16 moves in whole words. -/
structure OffW (s : Shape) (size : Fin s.rank → ℕ) extends Off s size where
  words : toOff.rect.WholeWords (EltTy.packing .bf16)

theorem OffP.ext' {s : Shape} {size : Fin s.rank → ℕ} {x y : OffP s size} (h : x.o = y.o) : x = y := by
  obtain ⟨⟨o, i⟩, p⟩ := x; obtain ⟨⟨o', i'⟩, p'⟩ := y; cases h; rfl
theorem OffW.ext' {s : Shape} {size : Fin s.rank → ℕ} {x y : OffW s size} (h : x.o = y.o) : x = y := by
  obtain ⟨⟨o, i⟩, p⟩ := x; obtain ⟨⟨o', i'⟩, p'⟩ := y; cases h; rfl

abbrev GqP : Type := OffP S4x2x1024x512 S1x1x1024x512.size
abbrev GqW : Type := OffW S4x2x1024x512 S1x1x1024x512.size
abbrev GoP : Type := OffP S4x2x512x1024 S1x1x512x1024.size
abbrev GoW : Type := OffW S4x2x512x1024 S1x1x512x1024.size

/-! ## The prologue -/

abbrev inSem (i j : Fin 2) (h : ∀ a, (![i.val, j.val] : Fin 2 → ℕ) a + S1x1.size a ≤ S2x2.size a) : DmaSem sig :=
  ((cc0_scratch9.slice (Rect.unit (s := S2x2) ![i.val, j.val] S1x1.size h)).squeeze S_ squeezes_S1x1_S_).sem

abbrev wqV (o : Off S1024x1024 S1024x512.size) : Memref sig .tc .hbm S1024x512 .f32 := mWq.slice o.rect (fun _ => rfl)
abbrev woV (o : Off S1024x1024 S512x1024.size) : Memref sig .tc .hbm S512x1024 .f32 := mWo.slice o.rect (fun _ => rfl)

/-- Start staging half `h` of the device's own weight blocks. -/
abbrev stageStart (sq so : DmaSem sig) (oq : Off S1024x1024 S1024x512.size) (oo : Off S1024x1024 S512x1024.size) (k : P F α) : P F α :=
  .op (.enqueueDma (wqV oq) (.here mWqs) (.dma sq) (View.wordExact_bits rfl) (Memref.isWhole_whole cc0_scratch7).wordExact ⟨Or.inl rfl, trivial⟩) fun _ =>
  .op (.enqueueDma (woV oo) (.here mWos) (.dma so) (View.wordExact_bits rfl) (Memref.isWhole_whole cc0_scratch8).wordExact ⟨Or.inl rfl, trivial⟩) fun _ => k

/-- The device's half block of Wq, as the ring's buffer holds it. -/
def wqPay (w : Vec F S1024x512 .f32) : Vec F S1x1x1024x512 .bf16 := k0_pay75 w
/-- The device's half block of Wo, as the ring's buffer holds it. -/
def woPay (w : Vec F S512x1024 .f32) : Vec F S1x1x512x1024 .bf16 := k0_pay77 (k0_pay76 w)

/-- Await the staged halves and store them into the ring's buffers. -/
abbrev stageWait (sq so : DmaSem sig) (oq : Off S1024x1024 S1024x512.size) (oo : Off S1024x1024 S512x1024.size) (dq : GqP) (d_o : GoP) (k : P F α) : P F α :=
  .op (.waitDma2 sq (wqV oq) mWqs (View.wordExact_bits rfl) (Memref.isWhole_whole cc0_scratch7).wordExact) fun _ =>
  .op (.load mWqs (Rect.unit (s := S1024x512) ![0, 0] S1024x512.size inb_S1024x512_S1024x512_0_0).toLoadRect (View.loadsAt_vmem h_S1024x512)) fun w =>
  .op (.load mGq dq.rect.toLoadRect (View.loadsAt_vmem h_S1x1x1024x512)) fun _ =>
  .op (.store mGq dq.rect (wqPay w) Finset.univ (View.stores_vmem h_S1x1x1024x512 ((Memref.isWhole_whole cc0_scratch0).storeExact_slice rfl _ dq.packed)
    (fun _ => rfl)) (.inl rfl)) fun _ =>
  .op (.waitDma2 so (woV oo) mWos (View.wordExact_bits rfl) (Memref.isWhole_whole cc0_scratch8).wordExact) fun _ =>
  .op (.load mWos (Rect.unit (s := S512x1024) ![0, 0] S512x1024.size inb_S512x1024_S512x1024_0_0).toLoadRect (View.loadsAt_vmem h_S512x1024)) fun w =>
  .op (.load mGo d_o.rect.toLoadRect (View.loadsAt_vmem h_S1x1x512x1024)) fun _ =>
  .op (.store mGo d_o.rect (woPay w) Finset.univ (View.stores_vmem h_S1x1x512x1024 ((Memref.isWhole_whole cc0_scratch1).storeExact_slice rfl _ d_o.packed)
    (fun _ => rfl)) (.inl rfl)) fun _ => k

/-- The whole of x, its cast's place, and the whole of the output. -/
abbrev rX : Rect S1x2048x1024 := Rect.unit (s := S1x2048x1024) ![0, 0, 0] S1x2048x1024.size inb_S1x2048x1024_S1x2048x1024_0_0_0
abbrev rXb : Rect S2048x1024 := Rect.unit (s := S2048x1024) ![0, 0] S2048x1024.size inb_S2048x1024_S2048x1024_0_0

/-- Cast the device's x once, and clear the output. -/
abbrev castX (k : P F α) : P F α :=
  .op (.load mX rX.toLoadRect (View.loadsAt_vmem h_S1x2048x1024)) fun x =>
  .op (.load mXb rXb.toLoadRect (View.loadsAt_vmem h_S2048x1024)) fun _ =>
  .op (.store mXb rXb (k0_pay73 x) Finset.univ (View.stores_vmem h_S2048x1024 ((Memref.isWhole_whole cc0_scratch2).storeExact_slice rfl _
    packedbf16_S2048x1024_S2048x1024_0_0) (fun _ => rfl)) (.inl rfl)) fun _ =>
  .op (.load mOut rX.toLoadRect (View.loadsAt_vmem h_S1x2048x1024)) fun _ =>
  .op (.store mOut rX (k0_pay74 (F := F)) Finset.univ (View.stores_vmem_bits_univ h_S1x2048x1024 rfl) (.inl rfl)) fun _ => k

/-- The barrier's semaphore. -/
abbrev barSem : Sem sig := (SemArray.scalar (sig.barrier 0 rfl) : Sems sig S_).sem

/-- Tell both neighbours this device is ready, and await both. -/
abbrev meet (l r : Dev nD) (k : P F α) : P F α :=
  .op (.semSignal ((l : Thread nD τ)) barSem (1#32 : BitVec 32).toInt) fun _ =>
  .op (.semSignal ((r : Thread nD τ)) barSem (1#32 : BitVec 32).toInt) fun _ =>
  .op (.semWait barSem (2#32 : BitVec 32).toInt) fun _ => k

/-- What the prologue works at. -/
structure ProArgs where
  s0 : StartArgs
  s1 : StartArgs
  q0 : GqP
  q1 : GqP
  o0 : GoP
  o1 : GoP
  l : Dev nD
  r : Dev nD

abbrev wqOff (h : Fin 2) : Off S1024x1024 S1024x512.size := ⟨![0, 512 * h.val], by revert h; decide +kernel⟩
abbrev woOff (h : Fin 2) : Off S1024x1024 S512x1024.size := ⟨![512 * h.val, 0], by revert h; decide +kernel⟩

abbrev prologue (a : ProArgs) (k : P F α) : P F α :=
  startTwo a.s0 a.s1 <|
  stageStart (inSem 0 0 inb_S2x2_S1x1_0_0) (inSem 1 0 inb_S2x2_S1x1_1_0) (wqOff 0) (woOff 0) <|
  castX <|
  stageWait (inSem 0 0 inb_S2x2_S1x1_0_0) (inSem 1 0 inb_S2x2_S1x1_1_0) (wqOff 0) (woOff 0) a.q0 a.o0 <|
  stageStart (inSem 0 1 inb_S2x2_S1x1_0_1) (inSem 1 1 inb_S2x2_S1x1_1_1) (wqOff 1) (woOff 1) <|
  stageWait (inSem 0 1 inb_S2x2_S1x1_0_1) (inSem 1 1 inb_S2x2_S1x1_1_1) (wqOff 1) (woOff 1) a.q1 a.o1 <|
  meet a.l a.r k

/-! ## A hop of the ring -/

abbrev gqV (x : GqW) : Memref sig .tc .vmem S1024x512 .bf16 := (mGq.slice x.rect (fun _ => rfl)).squeeze S1024x512 squeezes_S1x1x1024x512_S1024x512
abbrev goV (x : GoW) : Memref sig .tc .vmem S512x1024 .bf16 := (mGo.slice x.rect (fun _ => rfl)).squeeze S512x1024 squeezes_S1x1x512x1024_S512x1024

abbrev ringOff (t : Fin 3) (h w : Fin 2) : Off S3x2x2 S1x1x1.size := ⟨![t.val, h.val, w.val], by revert t h w; decide +kernel⟩
/-- The semaphores of hop `t`'s copy in direction `h` of Wq (`w = 0`) or Wo (`w = 1`). -/
abbrev sendSem (t : Fin 3) (h w : Fin 2) : DmaSem sig := ((cc0_scratch11.slice (ringOff t h w).rect).squeeze S_ squeezes_S1x1x1_S_).sem
abbrev recvSem (t : Fin 3) (h w : Fin 2) : DmaSem sig := ((cc0_scratch12.slice (ringOff t h w).rect).squeeze S_ squeezes_S1x1x1_S_).sem

/-- Send a half block of Wq to a device, into the same place there. -/
abbrev sendQ (t : Fin 3) (h : Fin 2) (x : GqW) (d : Dev nD) (k : P F α) : P F α :=
  .op (.enqueueDma (gqV x) (.remote (Dev.tc d) (gqV x) (.dma (sendSem t h 0))) (.dma (recvSem t h 0))
    (((Memref.isWhole_whole cc0_scratch0).wordExact_slice rfl _ x.words).reshape _ _)
    (((Memref.isWhole_whole cc0_scratch0).wordExact_slice rfl _ x.words).reshape _ _) ⟨⟨rfl, Or.inl rfl⟩, trivial⟩) fun _ => k
/-- Send a half block of Wo. -/
abbrev sendO (t : Fin 3) (h : Fin 2) (x : GoW) (d : Dev nD) (k : P F α) : P F α :=
  .op (.enqueueDma (goV x) (.remote (Dev.tc d) (goV x) (.dma (sendSem t h 1))) (.dma (recvSem t h 1))
    (((Memref.isWhole_whole cc0_scratch1).wordExact_slice rfl _ x.words).reshape _ _)
    (((Memref.isWhole_whole cc0_scratch1).wordExact_slice rfl _ x.words).reshape _ _) ⟨⟨rfl, Or.inl rfl⟩, trivial⟩) fun _ => k
/-- Await a copy of a half block of Wq. -/
abbrev waitQ (s : DmaSem sig) (x : GqW) (k : P F α) : P F α :=
  .op (.waitDma2 s (gqV x) (gqV x) (((Memref.isWhole_whole cc0_scratch0).wordExact_slice rfl _ x.words).reshape _ _)
    (((Memref.isWhole_whole cc0_scratch0).wordExact_slice rfl _ x.words).reshape _ _)) fun _ => k
abbrev waitO (s : DmaSem sig) (x : GoW) (k : P F α) : P F α :=
  .op (.waitDma2 s (goV x) (goV x) (((Memref.isWhole_whole cc0_scratch1).wordExact_slice rfl _ x.words).reshape _ _)
    (((Memref.isWhole_whole cc0_scratch1).wordExact_slice rfl _ x.words).reshape _ _)) fun _ => k

/-- What a hop works at: the half blocks that travel right (0) and left (1), and the devices they go to. -/
structure HopArgs where
  q0 : GqW
  q1 : GqW
  o0 : GoW
  o1 : GoW
  rq : Dev nD
  lq : Dev nD
  ro : Dev nD
  lo : Dev nD

abbrev hopStart (t : Fin 3) (a : HopArgs) (k : P F α) : P F α :=
  sendQ t 0 a.q0 a.rq <| sendQ t 1 a.q1 a.lq <| sendO t 0 a.o0 a.ro <| sendO t 1 a.o1 a.lo k

abbrev hopWait (t : Fin 3) (a : HopArgs) (k : P F α) : P F α :=
  waitQ (sendSem t 0 0) a.q0 <| waitQ (recvSem t 0 0) a.q0 <| waitQ (sendSem t 1 0) a.q1 <| waitQ (recvSem t 1 0) a.q1 <|
  waitO (sendSem t 0 1) a.o0 <| waitO (recvSem t 0 1) a.o0 <| waitO (sendSem t 1 1) a.o1 <| waitO (recvSem t 1 1) a.o1 k

/-! ## A phase of work -/

abbrev ldXb (k : Vec F S2048x1024 .bf16 → P F α) : P F α := .op (.load mXb rXb.toLoadRect (View.loadsAt_vmem h_S2048x1024)) k
abbrev ldGq (x : GqOff) (k : Vec F S1x1x1024x512 .bf16 → P F α) : P F α := .op (.load mGq x.rect.toLoadRect (View.loadsAt_vmem h_S1x1x1024x512)) k
abbrev ldGo (x : GoOff) (k : Vec F S1x1x512x1024 .bf16 → P F α) : P F α := .op (.load mGo x.rect.toLoadRect (View.loadsAt_vmem h_S1x1x512x1024)) k

/-- Rows `512 j … 512 j + 511` of the output. -/
abbrev outOff (j : Fin 4) : Off S1x2048x1024 S1x512x1024.size := ⟨![0, 512 * j.val, 0], by revert j; decide +kernel⟩

abbrev ldOut (j : Fin 4) (k : Vec F S1x512x1024 .f32 → P F α) : P F α := .op (.load mOut (outOff j).rect.toLoadRect (View.loadsAt_vmem h_S1x512x1024)) k
abbrev stOut (j : Fin 4) (w : Vec F S1x512x1024 .f32) (k : P F α) : P F α :=
  .op (.store mOut (outOff j).rect w Finset.univ (View.stores_vmem_bits_univ h_S1x512x1024 rfl) (.inl rfl)) fun _ => k

/-- The queries of the `j`-th head of a half block: x times its 128 columns of Wq. -/
def qPay (j : Fin 4) (x : Vec F S2048x1024 .bf16) (w : Vec F S1x1x1024x512 .bf16) : Vec F S1x2048x128 .bf16 :=
  match j with
  | 0 => k0_pay81 x w
  | 1 => k0_pay82 x w
  | 2 => k0_pay83 x w
  | 3 => k0_pay84 x w

/-- The contexts of four heads side by side. -/
def ctxA (c0 c1 c2 c3 : Vec F S1x2048x128 .bf16) : FVec F S2048x512 .bf16 := k0_pay93 (k0_pay91 c0) (k0_pay92 c1) c2 c3
def ctxB (c0 c1 c2 c3 : Vec F S1x2048x128 .bf16) : FVec F S2048x512 .bf16 := k0_pay94 c0 c1 c2 c3

/-- A quarter of the output with a phase's product added. -/
def outPay (j : Fin 4) (c0 c1 c2 c3 c4 c5 c6 c7 : Vec F S1x2048x128 .bf16) (o : Vec F S1x512x1024 .f32) (wC wD : Vec F S1x1x512x1024 .bf16) :
    Vec F S1x512x1024 .f32 :=
  match j with
  | 0 => k0_pay95 (k0_pay91 c0) (k0_pay92 c1) c2 c3 c4 c5 c6 c7 o wC wD
  | 1 => k0_pay96 (ctxA c0 c1 c2 c3) (ctxB c4 c5 c6 c7) o wC wD
  | 2 => k0_pay98 (k0_pay97 (ctxA c0 c1 c2 c3) (ctxB c4 c5 c6 c7) o wC wD)
  | 3 => k0_pay99 (ctxA c0 c1 c2 c3) (ctxB c4 c5 c6 c7) o wC wD

/-- Project the queries of the phase's eight heads. -/
abbrev project (A B : GqOff) (k : P F α) : P F α :=
  ldXb fun x => ldGq A fun w =>
  stQ (headOff 0) (qPay 0 x w) <| stQ (headOff 1) (qPay 1 x w) <| stQ (headOff 2) (qPay 2 x w) <| stQ (headOff 3) (qPay 3 x w) <|
  ldXb fun x => ldGq B fun w =>
  stQ (headOff 4) (qPay 0 x w) <| stQ (headOff 5) (qPay 1 x w) <| stQ (headOff 6) (qPay 2 x w) <| stQ (headOff 7) (qPay 3 x w) k

/-- Add the phase's product to a quarter of the output. -/
abbrev addOut (j : Fin 4) (C D : GoOff) (f : Vec F S1x512x1024 .f32 → Vec F S1x1x512x1024 .bf16 → Vec F S1x1x512x1024 .bf16 → Vec F S1x512x1024 .f32)
    (k : P F α) : P F α :=
  ldOut j fun o => ldGo C fun wC => ldGo D fun wD => ldOut j fun _ => stOut j (f o wC wD) k

/-- Add the phase's product to the output, a quarter of its rows at a time. -/
abbrev output (C D : GoOff) (k : P F α) : P F α :=
  ldHead mC (headOff 0) fun c0 => ldHead mC (headOff 1) fun c1 => ldHead mC (headOff 2) fun c2 => ldHead mC (headOff 3) fun c3 =>
  ldHead mC (headOff 4) fun c4 => ldHead mC (headOff 5) fun c5 => ldHead mC (headOff 6) fun c6 => ldHead mC (headOff 7) fun c7 =>
  addOut 0 C D (outPay 0 c0 c1 c2 c3 c4 c5 c6 c7) <| addOut 1 C D (outPay 1 c0 c1 c2 c3 c4 c5 c6 c7) <|
  addOut 2 C D (outPay 2 c0 c1 c2 c3 c4 c5 c6 c7) <| addOut 3 C D (outPay 3 c0 c1 c2 c3 c4 c5 c6 c7) k

/-- The half blocks a phase works with. -/
structure PhaseArgs where
  A : GqOff
  B : GqOff
  C : GoOff
  D : GoOff

abbrev phase (a : PhaseArgs) (L : P F Unit) (k : P F α) : P F α :=
  project a.A a.B (L >>= fun _ => output a.C a.D k)

/-! ## The offsets as printed -/

abbrev rawPro (c : Dev nD) : ProArgs where
  s0 := ⟨⟨k0_off1 (BitVec.ofNat 32 (0 : Fin 2).val), k0_off1_inb 0⟩, ⟨k0_off4 (BitVec.ofNat 32 (0 : Fin 2).val), k0_off4_inb 0⟩,
    ⟨k0_off2 (BitVec.ofNat 32 (0 : Fin 2).val), k0_off2_inb 0⟩, ⟨k0_off3 c 0#32 0#32, k0_off3_inb c 0⟩⟩
  s1 := ⟨⟨k0_off1 (BitVec.ofNat 32 (1 : Fin 2).val), k0_off1_inb 1⟩, ⟨k0_off4 (BitVec.ofNat 32 (1 : Fin 2).val), k0_off4_inb 1⟩,
    ⟨k0_off2 (BitVec.ofNat 32 (1 : Fin 2).val), k0_off2_inb 1⟩, ⟨k0_off3 c 1#32 1#32, k0_off3_inb c 1⟩⟩
  q0 := ⟨⟨k0_off5 c, k0_off5_inb c⟩, k0_off5_packedbf16 c⟩
  q1 := ⟨⟨k0_off7 c, k0_off7_inb c⟩, k0_off7_packedbf16 c⟩
  o0 := ⟨⟨k0_off6 c, k0_off6_inb c⟩, k0_off6_packedbf16 c⟩
  o1 := ⟨⟨k0_off8 c, k0_off8_inb c⟩, k0_off8_packedbf16 c⟩
  l := ⟨k0_dev1 c, k0_dev1_lt c⟩
  r := ⟨k0_dev2 c, k0_dev2_lt c⟩

abbrev rawHop (c : Dev nD) (t : Fin 3) (rq lq ro lo : Dev nD) : HopArgs where
  q0 := ⟨⟨k0_off9 c (BitVec.ofNat 32 t.val), k0_off9_inb c t⟩, k0_off9_wordsbf16 c t⟩
  q1 := ⟨⟨k0_off10 c (BitVec.ofNat 32 t.val), k0_off10_inb c t⟩, k0_off10_wordsbf16 c t⟩
  o0 := ⟨⟨k0_off11 c (BitVec.ofNat 32 t.val), k0_off11_inb c t⟩, k0_off11_wordsbf16 c t⟩
  o1 := ⟨⟨k0_off12 c (BitVec.ofNat 32 t.val), k0_off12_inb c t⟩, k0_off12_wordsbf16 c t⟩
  rq := rq
  lq := lq
  ro := ro
  lo := lo

abbrev rawHop0 (c : Dev nD) : HopArgs := rawHop c 0 ⟨k0_dev3 c, k0_dev3_lt c⟩ ⟨k0_dev4 c, k0_dev4_lt c⟩ ⟨k0_dev5 c, k0_dev5_lt c⟩ ⟨k0_dev6 c, k0_dev6_lt c⟩
abbrev rawHop1 (c : Dev nD) : HopArgs := rawHop c 1 ⟨k0_dev7 c, k0_dev7_lt c⟩ ⟨k0_dev8 c, k0_dev8_lt c⟩ ⟨k0_dev9 c, k0_dev9_lt c⟩ ⟨k0_dev10 c, k0_dev10_lt c⟩
abbrev rawHop2 (c : Dev nD) : HopArgs := rawHop c 2 ⟨k0_dev11 c, k0_dev11_lt c⟩ ⟨k0_dev12 c, k0_dev12_lt c⟩ ⟨k0_dev13 c, k0_dev13_lt c⟩ ⟨k0_dev14 c, k0_dev14_lt c⟩

abbrev rawPhase0 (c : Dev nD) : PhaseArgs := ⟨⟨k0_off5 c, k0_off5_inb c⟩, ⟨k0_off7 c, k0_off7_inb c⟩, ⟨k0_off6 c, k0_off6_inb c⟩, ⟨k0_off8 c, k0_off8_inb c⟩⟩
abbrev rawPhase (c : Dev nD) (r : Fin 3) : PhaseArgs :=
  ⟨⟨k0_off23 c (BitVec.ofNat 32 (1 + r.val)), k0_off23_inb c r⟩, ⟨k0_off24 c (BitVec.ofNat 32 (1 + r.val)), k0_off24_inb c r⟩,
   ⟨k0_off35 c (BitVec.ofNat 32 (1 + r.val)), k0_off35_inb c r⟩, ⟨k0_off36 c (BitVec.ofNat 32 (1 + r.val)), k0_off36_inb c r⟩⟩

/-- The phases' loops. -/
abbrev loop1 (c : Dev nD) : P F Unit := Scf.Loop.for k0_t1_loop k0_t1_ok ⟨⟩ (fun k _ => trip c (g1 k))
abbrev loop2 (c : Dev nD) : P F Unit := Scf.Loop.for k0_t2_loop k0_t2_ok ⟨⟩ (fun k _ => trip c (g2 k))
abbrev loop3 (c : Dev nD) : P F Unit := Scf.Loop.for k0_t3_loop k0_t3_ok ⟨⟩ (fun k _ => trip c (g3 k))
abbrev loop4 (c : Dev nD) : P F Unit := Scf.Loop.for k0_t4_loop k0_t4_ok ⟨⟩ (fun k _ => trip c (g4 k))

/-- The body as stages, at the printed offsets. -/
abbrev rawOps (c : Dev nD) : P F Unit :=
  prologue (rawPro c) <|
  hopStart 0 (rawHop0 c) <| phase (rawPhase0 c) (loop1 c) <| hopWait 0 (rawHop0 c) <|
  hopStart 1 (rawHop1 c) <| phase (rawPhase c 0) (loop2 c) <| hopWait 1 (rawHop1 c) <|
  hopStart 2 (rawHop2 c) <| phase (rawPhase c 1) (loop3 c) <| hopWait 2 (rawHop2 c) <|
  phase (rawPhase c 2) (loop4 c) (.ret ⟨⟩)

/-- The kernel's body on the buffers the launch gives it. -/
abbrev bodyProg : P F PUnit :=
  cc0_body mX (Memref.isWhole_whole _) mWq (Memref.isWhole_whole _) mK (Memref.isWhole_whole _) mV (Memref.isWhole_whole _)
    mWo (Memref.isWhole_whole _) mOut (Memref.isWhole_whole _) mGq (Memref.isWhole_whole _) mGo (Memref.isWhole_whole _)
    mXb (Memref.isWhole_whole _) mQ (Memref.isWhole_whole _) mC (Memref.isWhole_whole _) mKb (Memref.isWhole_whole _)
    mVb (Memref.isWhole_whole _) mWqs (Memref.isWhole_whole _) mWos (Memref.isWhole_whole _)
    cc0_scratch9 cc0_scratch10 cc0_scratch11 cc0_scratch12

theorem body1_fun (c : Dev nD) (v2 : BitVec 32) (v : Vec F S2048x1024 .bf16) : body1 c v2 v = fun k _ => trip c (g1 k) := by
  funext k u; exact body1_eq c v2 v k u
theorem body2_fun (c : Dev nD) (v2 : BitVec 32) (v : FVec F S2048x512 .f32) (w : FVec F S2048x128 .bf16) : body2 c v2 v w = fun k _ => trip c (g2 k) := by
  funext k u; exact body2_eq c v2 v w k u
theorem body3_fun (c : Dev nD) (v2 : BitVec 32) (w : BitVec 32) : body3 (F := F) c v2 w = fun k _ => trip c (g3 k) := by
  funext k u; exact body3_eq c v2 w k u
theorem body4_fun (c : Dev nD) (v2 : BitVec 32) (v : FVec F S2048x512 .f32) : body4 c v2 v = fun k _ => trip c (g4 k) := by
  funext k u; exact body4_eq c v2 v k u

end Cert.RingAttn

end
-- ==== Proof.BodyEq.lean ====
/-
# 01_k — the printed body is the stages

The body as printed, with its parts put together, runs the stages one after the other.
-/
module

public import proofs.«01_k».proof.Proof.Stages

@[expose] public section

set_option maxRecDepth 65536

noncomputable section

namespace Cert.RingAttn

open Cert.KernelIdeal Cert.KernelIdeal.Gen

open Idealize.ShloMosaic
open Idealize.ShloMosaic.TcCoe
open Idealize.SL Idealize.SL.Sem

variable {F : FTy → Type} [FloatOps F] {α : Type}

/-- The printed body is the stages at the offsets as they are printed. -/
theorem body_raw : (bodyProg : P F PUnit) = .op .deviceId fun c => rawOps c := by
  unfold bodyProg
  rw [cc0_body_eq_skeleton]
  unfold cc0_body_skel
  simp only [k0_part66_eq_skeleton, k0_part66_skel, k0_part36_eq_skeleton, k0_part36_skel, k0_part46_eq_skeleton, k0_part46_skel,
    k0_part55_eq_skeleton, k0_part55_skel, k0_part63_eq_skeleton, k0_part63_skel, body1_fun, body2_fun, body3_fun, body4_fun,
    Prog.bind_assoc]
  rfl

end Cert.RingAttn

end
-- ==== Proof.Canon.lean ====
/-
# 01_k — the body's stages at their places by number

Every offset of the body is one of a handful of places: half `h` of slot `j` of the gathered weights, a head's rows, a
slot of the K and V buffers. Here the body is read at those places, with the devices around the ring named: `fw c p` is
`p` places ahead of `c` and `bk c p` is `p` places behind.
-/
module

public import proofs.«01_k».proof.Proof.BodyEq

@[expose] public section

set_option maxRecDepth 65536

noncomputable section

namespace Cert.RingAttn

open Cert.KernelIdeal Cert.KernelIdeal.Gen

open Idealize.ShloMosaic
open Idealize.ShloMosaic.TcCoe
open Idealize.SL Idealize.SL.Sem

variable {F : FTy → Type} [FloatOps F] {α : Type}

/-- The device `p` places ahead of `c` on the ring. -/
def fw (c : Dev nD) (p : Fin 4) : Dev nD := ⟨(c.val + p.val) % 4, Nat.mod_lt _ (by decide)⟩
/-- The device `p` places behind. -/
def bk (c : Dev nD) (p : Fin 4) : Dev nD := ⟨(c.val + 4 - p.val) % 4, Nat.mod_lt _ (by decide)⟩

/-- Half `h` of slot `j` of the gathered Wq. -/
abbrev gqOff (j : Dev nD) (h : Fin 2) : GqOff := ⟨![j.val, h.val, 0, 0], by revert j h; decide +kernel⟩
abbrev gqP (j : Dev nD) (h : Fin 2) : GqP := ⟨gqOff j h, by revert j h; decide +kernel⟩
abbrev gqW (j : Dev nD) (h : Fin 2) : GqW := ⟨gqOff j h, by revert j h; decide +kernel⟩
/-- Half `h` of slot `j` of the gathered Wo. -/
abbrev goOff (j : Dev nD) (h : Fin 2) : GoOff := ⟨![j.val, h.val, 0, 0], by revert j h; decide +kernel⟩
abbrev goP (j : Dev nD) (h : Fin 2) : GoP := ⟨goOff j h, by revert j h; decide +kernel⟩
abbrev goW (j : Dev nD) (h : Fin 2) : GoW := ⟨goOff j h, by revert j h; decide +kernel⟩

/-- A phase's number, of a hop's. -/
abbrev hopNo (t : Fin 3) : Fin 4 := ⟨t.val, by omega⟩

abbrev pro (c : Dev nD) : ProArgs := ⟨startArgs c 0, startArgs c 1, gqP c 0, gqP c 1, goP c 0, goP c 1, bk c 1, fw c 1⟩
abbrev hop (c : Dev nD) (t : Fin 3) : HopArgs :=
  ⟨gqW (bk c (hopNo t)) 0, gqW (fw c (hopNo t)) 1, goW (bk c (hopNo t)) 0, goW (fw c (hopNo t)) 1, fw c 1, bk c 1, fw c 1, bk c 1⟩
abbrev ph (c : Dev nD) (p : Fin 4) : PhaseArgs := ⟨gqOff (bk c p) 0, gqOff (fw c p) 1, goOff (bk c p) 0, goOff (fw c p) 1⟩

/-- The body as stages, at the places by number. -/
abbrev ops (c : Dev nD) : P F Unit :=
  prologue (pro c) <|
  hopStart 0 (hop c 0) <| phase (ph c 0) (loop1 c) <| hopWait 0 (hop c 0) <|
  hopStart 1 (hop c 1) <| phase (ph c 1) (loop2 c) <| hopWait 1 (hop c 1) <|
  hopStart 2 (hop c 2) <| phase (ph c 2) (loop3 c) <| hopWait 2 (hop c 2) <|
  phase (ph c 3) (loop4 c) (.ret ⟨⟩)

theorem ProArgs.ext' {a b : ProArgs} (h₀ : a.s0 = b.s0) (h₁ : a.s1 = b.s1) (h₂ : a.q0.o = b.q0.o) (h₃ : a.q1.o = b.q1.o)
    (h₄ : a.o0.o = b.o0.o) (h₅ : a.o1.o = b.o1.o) (h₆ : a.l = b.l) (h₇ : a.r = b.r) : a = b := by
  obtain ⟨a₁, a₂, a₃, a₄, a₅, a₆, a₇, a₈⟩ := a
  obtain ⟨b₁, b₂, b₃, b₄, b₅, b₆, b₇, b₈⟩ := b
  rw [ProArgs.mk.injEq]
  exact ⟨h₀, h₁, OffP.ext' h₂, OffP.ext' h₃, OffP.ext' h₄, OffP.ext' h₅, h₆, h₇⟩

theorem HopArgs.ext' {a b : HopArgs} (h₀ : a.q0.o = b.q0.o) (h₁ : a.q1.o = b.q1.o) (h₂ : a.o0.o = b.o0.o) (h₃ : a.o1.o = b.o1.o)
    (h₄ : a.rq = b.rq) (h₅ : a.lq = b.lq) (h₆ : a.ro = b.ro) (h₇ : a.lo = b.lo) : a = b := by
  obtain ⟨a₁, a₂, a₃, a₄, a₅, a₆, a₇, a₈⟩ := a
  obtain ⟨b₁, b₂, b₃, b₄, b₅, b₆, b₇, b₈⟩ := b
  rw [HopArgs.mk.injEq]
  exact ⟨OffW.ext' h₀, OffW.ext' h₁, OffW.ext' h₂, OffW.ext' h₃, h₄, h₅, h₆, h₇⟩

theorem PhaseArgs.ext' {a b : PhaseArgs} (h₀ : a.A.o = b.A.o) (h₁ : a.B.o = b.B.o) (h₂ : a.C.o = b.C.o) (h₃ : a.D.o = b.D.o) : a = b := by
  obtain ⟨a₁, a₂, a₃, a₄⟩ := a
  obtain ⟨b₁, b₂, b₃, b₄⟩ := b
  rw [PhaseArgs.mk.injEq]
  exact ⟨Off.ext' h₀, Off.ext' h₁, Off.ext' h₂, Off.ext' h₃⟩

theorem rawPro_eq (c : Dev nD) : rawPro c = pro c := by
  apply ProArgs.ext'
  · apply StartArgs.ext' <;> (revert c; decide +kernel)
  · apply StartArgs.ext' <;> (revert c; decide +kernel)
  all_goals (revert c; decide +kernel)

theorem rawHop0_eq (c : Dev nD) : rawHop0 c = hop c 0 := by apply HopArgs.ext' <;> (revert c; decide +kernel)
theorem rawHop1_eq (c : Dev nD) : rawHop1 c = hop c 1 := by apply HopArgs.ext' <;> (revert c; decide +kernel)
theorem rawHop2_eq (c : Dev nD) : rawHop2 c = hop c 2 := by apply HopArgs.ext' <;> (revert c; decide +kernel)
theorem rawPhase0_eq (c : Dev nD) : rawPhase0 c = ph c 0 := by apply PhaseArgs.ext' <;> (revert c; decide +kernel)
theorem rawPhase1_eq (c : Dev nD) : rawPhase c 0 = ph c 1 := by apply PhaseArgs.ext' <;> (revert c; decide +kernel)
theorem rawPhase2_eq (c : Dev nD) : rawPhase c 1 = ph c 2 := by apply PhaseArgs.ext' <;> (revert c; decide +kernel)
theorem rawPhase3_eq (c : Dev nD) : rawPhase c 2 = ph c 3 := by apply PhaseArgs.ext' <;> (revert c; decide +kernel)

/-- The printed body is the stages at their places. -/
theorem body_eq : (bodyProg : P F PUnit) = .op .deviceId fun c => ops c := by
  rw [body_raw]
  congr 1
  funext c
  unfold rawOps
  rw [rawPro_eq, rawHop0_eq, rawHop1_eq, rawHop2_eq, rawPhase0_eq, rawPhase1_eq, rawPhase2_eq, rawPhase3_eq]

end Cert.RingAttn

end
-- ==== Proof.Slots.lean ====
/-
# 01_k — the double-buffered copies of K and V

A head of K or V is copied into one of four slots, two heads ahead of its use. Each slot keeps a quarter share of the
whole of K and of V to copy from, so a slot is in one of three states: idle, with its copy in flight, or landed and
holding its head. Also the levels by which the run's waits are ordered, and what a core owes while it waits.
-/
module

public import proofs.«01_k».proof.Proof.Canon

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Levels -/

/-- A credit to the barrier is at level 1, one to hop `t`'s receive semaphores at level `2 + t`, every other at 0: a core
    may wait for a credit only of a lower level than everything it still owes. -/
def lv (g : GSem nD τ sig) (_ : Unit) : ℕ :=
  match g.2 with
  | .reg _ => 1
  | .dma q => if 26 ≤ q.val then 2 + (q.val - 26) / 4 else 0

/-- Every cell of a TensorCore has the one index. -/
def L (g : GSem nD τ sig) : Finset Unit := if g.1.2 = .tc then {()} else ∅

/-- What a core owes is all to TensorCores' cells, above level `n`. -/
def Above (n : ℕ) (O : CellTallies nD τ sig Unit) : Prop := ∀ g u, 0 < O g u → g.1.2 = .tc ∧ n < lv g u

theorem Above.mono {n m : ℕ} (h : m ≤ n) {O : CellTallies nD τ sig Unit} (hO : Above n O) : Above m O :=
  fun g u hg => ⟨(hO g u hg).1, Nat.lt_of_le_of_lt h (hO g u hg).2⟩

theorem mayWait_above (c : Dev nD) {sm : SemLoc sig} {n : ℕ} (hsm : lv ((c : Thread nD τ), sm) () ≤ n) {O : CellTallies nD τ sig Unit}
    (hO : Above n O) : (levAts L lv : sProp 𝕄) ⊢ MayWait (c : Thread nD τ) sm () O :=
  Pipeline.mayWait_of_levAts (by simp [L]) fun g i hg => by
    have := hO g i hg
    refine ⟨?_, Nat.lt_of_le_of_lt hsm this.2⟩
    simp [L, this.1]

/-- What a core owes, whatever it has waited for. -/
def Ow (c : Dev nD) (O : CellTallies nD τ sig Unit) : sProp 𝕄 := iprop(∃ W, owes (c : Thread nD τ) O W)

/-- Await a local copy. -/
theorem wp_await (c : Dev nD) {α : Type} {Q : α → sProp 𝕄} {s : Shape} {e : EltTy} {sp sp' : Space} {n N : ℕ} {q : DmaSem sig}
    {srcw : Memref sig .tc sp s e} {dstw : Memref sig .tc sp' s e} {hsrc : srcw.view.WordExact} {hdst : dstw.view.WordExact}
    {O : CellTallies nD τ sig Unit} (hO : Above n O) (hq : lv ((c : Thread nD τ), SemLoc.dma q) () ≤ n) (hN : dstw.view.dmaCredit = N)
    {D : sProp 𝕄} {k : PUnit → P F α} :
    iprop(levAts L lv ∗ Ow c O ∗ Flight EC (c : Thread nD τ) (.dma q) () N D)
      ⊢ (iprop((Ow c O ∗ D ∗ semVal ((c : Thread nD τ), SemLoc.dma q) 0 -∗ WP c (k ⟨⟩) Q)
          -∗ WP c (.op (.waitDma2 q srcw dstw hsrc hdst) k) Q) : sProp 𝕄) := by
  iintro ⟨#Hlev, HO, HF⟩ Hk
  unfold Ow
  icases HO with ⟨%W, HO⟩
  ihave HM := (mayWait_above (F := F) c hq hO) $$ Hlev
  iapply (wp_waitLocalO EC 𝒱₀ (c : Thread nD τ) none () hN) $$ [HF HO HM]
  · isplitl [HF]; · iexact HF
    isplitl [HO] <;> iassumption
  iintro ⟨HD, Hv, HO⟩
  iapply Hk
  isplitl [HO]; · iexists _; iexact HO
  isplitl [HD] <;> iassumption

/-! ## A slot -/

/-- A quarter share for each slot. -/
def kvShare (σ : Fin 4) : PosShare TreeShare :=
  match σ with
  | 0 => fullShare.left.left
  | 1 => fullShare.left.right
  | 2 => fullShare.right.left
  | 3 => fullShare.right.right

/-- The contents of a view, read through one it was squeezed from. -/
abbrev unsqueezed {s s' : Shape} {e : EltTy} (h : s.Squeezes s') (Y : s'.Idx → Elt F e) : s.Idx → Elt F e :=
  fun x => Y ((Shape.reshapeEquiv h.numel_eq).symm x)

theorem squeezed_unsqueezed {s s' : Shape} {e : EltTy} (h : s.Squeezes s') (Y : s'.Idx → Elt F e) :
    squeezed (F := F) h (unsqueezed h Y) = Y := by
  funext x; simp [squeezed, unsqueezed]

section Slot

variable (c : Dev nD) (mB : Memref sig .tc .vmem S4x2048x128 .f32) (mA : Memref sig .tc .hbm S4x2048x32x128 .f32) (w : Fin 2)
variable (fA : Buf (Elt F) (mA.view.loc (c : Thread nD τ)))

/-- The slot's memref, as it is loaded. -/
abbrev slotM (σ : Fin 4) : Memref sig .tc .vmem S1x2048x128 .f32 := mB.slice (slotOff σ).rect (fun _ => rfl)

/-- What the run's head number `s` is in K or V. -/
def headVal (s : Fin 32) : Vec F S1x2048x128 .f32 :=
  unsqueezed squeezes_S1x2048x128_S2048x128 ((srcV mA (srcOff c (gidx c s))).view.read (Elt F) fA)

/-- The slot's share of the whole source. -/
abbrev srcPt (σ : Fin 4) : sProp 𝕄 := mA.view.loc (c : Thread nD τ) ↦{kvShare σ} fA
/-- The slot's cell, at zero. -/
abbrev kvCell (σ : Fin 4) : sProp 𝕄 := semVal ((c : Thread nD τ), SemLoc.dma (kvSem (semOff σ w))) 0

/-- The slot holds `Y`, with no copy in flight. -/
def Held (σ : Fin 4) (Y : Vec F S1x2048x128 .f32) : sProp 𝕄 :=
  iprop(owns (c : Thread nD τ) (slotM mB σ) fullShare Y ∗ srcPt c mA fA σ ∗ kvCell c w σ)

/-- The slot holds something. -/
def Idle (σ : Fin 4) : sProp 𝕄 := iprop(∃ Y, Held c mB mA w fA σ Y)

/-- The copy of head number `s` is in flight into its slot. -/
def Fly (s : Fin 32) : sProp 𝕄 :=
  iprop(Flight EC (c : Thread nD τ) (.dma (kvSem (semOff (slotOf s) w))) () (slotV mB (slotOff (slotOf s))).view.dmaCredit
      iprop(owns (c : Thread nD τ) (slotV mB (slotOff (slotOf s))) fullShare ((srcV mA (srcOff c (gidx c s))).view.read (Elt F) fA)
        ∗ (mA.view.loc (c : Thread nD τ) ↦[(srcV mA (srcOff c (gidx c s))).view.set]{kvShare (slotOf s)} fA))
    ∗ (mA.view.loc (c : Thread nD τ) ↦[Finset.univ \ (srcV mA (srcOff c (gidx c s))).view.set]{kvShare (slotOf s)} fA))

variable {c mB mA w fA}
variable {α : Type} {Q : α → sProp (MT nD τ sig Unit (Elt F) ℕ UU ℕ)} {k : PUnit → P F α}

theorem slot_credit_pos (σ : Fin 4) : 0 < (slotV mB (slotOff σ)).view.dmaCredit := View.dmaCredit_pos _ (by decide +kernel)

theorem wp_slotStart (s : Fin 32) {hsrc : (srcV mA (srcOff c (gidx c s))).view.WordExact}
    {hdst : (slotV mB (slotOff (slotOf s))).view.WordExact}
    {hsem : DmaTarget.Typed (nD := nD) (τ := τ) (p := .tc) .hbm (.dma (kvSem (semOff (slotOf s) w))) (.here (slotV mB (slotOff (slotOf s))))} :
    Idle c mB mA w fA (slotOf s)
      ⊢ (iprop((Fly c mB mA w fA s -∗ WP c (k ⟨⟩) Q)
        -∗ WP c (.op (.enqueueDma (srcV mA (srcOff c (gidx c s))) (.here (slotV mB (slotOff (slotOf s))))
              (.dma (kvSem (semOff (slotOf s) w))) hsrc hdst hsem) k) Q) : sProp 𝕄) := by
  unfold Idle Held Fly srcPt kvCell
  iintro ⟨%Y, Hd, Hs, Hv⟩ Hk
  ihave Hd := (Entails.of_eq (owns_squeeze (F := F) c squeezes_S1x2048x128_S2048x128 Y).symm) $$ Hd
  ihave ⟨Hs, Hr⟩ := (pointsTo_split_subset (Finset.subset_univ ((srcV mA (srcOff c (gidx c s))).view.set))).1 $$ Hs
  have hN : (slotV mB (slotOff (slotOf s))).view.amount (.dma (kvSem (semOff (slotOf s) w)))
      = (slotV mB (slotOff (slotOf s))).view.dmaCredit := rfl
  have hN0 := slot_credit_pos (mB := mB) (slotOf s)
  have key := wp_copy_owns (F := F) c (Q := Q) (q := kvShare (slotOf s)) (fs := fA) (src := srcV mA (srcOff c (gidx c s)))
    (dst := slotV mB (slotOff (slotOf s))) (sm := .dma (kvSem (semOff (slotOf s) w))) (hsrc := hsrc) (hdst := hdst) (hsem := hsem)
    (k := k) (Y := squeezed squeezes_S1x2048x128_S2048x128 Y) _ hN hN0
  iapply key $$ [Hd Hs Hv]
  · isplitl [Hs]; · iexact Hs
    isplitl [Hd] <;> iassumption
  iintro HF
  iapply Hk
  isplitl [HF]; · iexact HF
  iexact Hr

theorem kvSem_low (σ : Fin 4) (w : Fin 2) : lv ((c : Thread nD τ), SemLoc.dma (kvSem (semOff σ w))) () ≤ 0 := by
  have h : ∀ (σ : Fin 4) (w : Fin 2), (kvSem (semOff σ w)).val < 26 := by decide +kernel
  have := h σ w
  show (if 26 ≤ (kvSem (semOff σ w)).val then _ else 0) ≤ 0
  rw [if_neg (by omega)]

theorem wp_slotWait (s : Fin 32) {hsrc : (srcV mA (srcOff c (gidx c s))).view.WordExact}
    {hdst : (slotV mB (slotOff (slotOf s))).view.WordExact} {O : CellTallies nD τ sig Unit} (hO : Above 0 O) :
    iprop(levAts L lv ∗ Ow c O ∗ Fly c mB mA w fA s)
      ⊢ (iprop((Ow c O ∗ Held c mB mA w fA (slotOf s) (headVal c mA fA s) -∗ WP c (k ⟨⟩) Q)
        -∗ WP c (.op (.waitDma2 (kvSem (semOff (slotOf s) w)) (srcV mA (srcOff c (gidx c s))) (slotV mB (slotOff (slotOf s))) hsrc hdst) k) Q) : sProp 𝕄) := by
  unfold Held Fly srcPt kvCell
  iintro ⟨#Hlev, HO, HF, Hr⟩ Hk
  iapply (wp_await (F := F) c hO (kvSem_low _ _) rfl) $$ [HO HF]
  · isplitr; · iexact Hlev
    isplitl [HO] <;> iassumption
  iintro ⟨HO, ⟨Hd, Hs⟩, Hv⟩
  iapply Hk
  isplitl [HO]; · iexact HO
  isplitl [Hd]
  · rw [← owns_squeeze (F := F) c squeezes_S1x2048x128_S2048x128]
    unfold headVal
    rw [squeezed_unsqueezed]
    iexact Hd
  isplitr [Hv]
  · iapply (pointsTo_split_subset (Finset.subset_univ ((srcV mA (srcOff c (gidx c s))).view.set))).2
    isplitl [Hs] <;> iassumption
  iexact Hv

theorem Held_Idle {σ : Fin 4} {Y : Vec F S1x2048x128 .f32} : Held c mB mA w fA σ Y ⊢ (Idle c mB mA w fA σ : sProp 𝕄) := by
  unfold Idle; iintro H; iexists Y; iexact H

/-- A load of a slot. -/
theorem wp_ldSlot {σ : Fin 4} {Y : Vec F S1x2048x128 .f32} {hl : mB.view.LoadsAt (slotOff σ).rect.toLoadRect} {k : Vec F S1x2048x128 .f32 → P F α} :
    Held c mB mA w fA σ Y
      ⊢ (iprop((Held c mB mA w fA σ Y -∗ WP c (k Y) Q) -∗ WP c (.op (.load mB (slotOff σ).rect.toLoadRect hl) k) Q) : sProp 𝕄) := by
  unfold Held
  iintro ⟨H, Hr⟩ Hk
  iapply (wp_load_owns (F := F) c (r := (slotOff σ).rect) (fun _ => rfl)) $$ H
  iintro H
  iapply Hk
  isplitl [H] <;> iassumption

end Slot

end Cert.RingAttn

end
-- ==== Proof.TripRun.lean ====
/-
# 01_k — buffers held in pieces, and one trip of the attention loop

The query and context buffers are held a head at a time, the output a quarter of its rows at a time. A trip awaits the K
and V of two heads, starts the copies of the next two, and leaves the two heads' contexts in the context buffer.
-/
module

public import proofs.«01_k».proof.Proof.Slots

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Pieces -/

/-- The pieces `M i` of a buffer, each holding `Y i`. -/
def Pieces (c : Dev nD) {ι : Type} [Fintype ι] {t : Shape} {e : EltTy} {sp : Space} (M : ι → Memref sig .tc sp t e) (Y : ι → t.Idx → Elt F e) : sProp 𝕄 :=
  bigSep Finset.univ fun i => owns (c : Thread nD τ) (M i) fullShare (Y i)

theorem bigSep_out {ι : Type} [DecidableEq ι] {s : Finset ι} {i : ι} (h : i ∈ s) {Φ : ι → sProp 𝕄} :
    bigSep s Φ = iprop(Φ i ∗ bigSep (s.erase i) Φ) := BI.bigSep_erase h

theorem Pieces_access (c : Dev nD) {ι : Type} [Fintype ι] [DecidableEq ι] {t : Shape} {e : EltTy} {sp : Space} {M : ι → Memref sig .tc sp t e}
    {Y : ι → t.Idx → Elt F e} (i : ι) :
    Pieces c M Y ⊢ (iprop(owns (c : Thread nD τ) (M i) fullShare (Y i)
      ∗ ∀ w, owns (c : Thread nD τ) (M i) fullShare w -∗ Pieces c M (Function.update Y i w)) : sProp 𝕄) := by
  unfold Pieces
  rw [bigSep_out (Finset.mem_univ i)]
  iintro ⟨H, Hr⟩
  isplitl [H]; · iexact H
  iintro %w Hw
  rw [bigSep_out (Finset.mem_univ i) (Φ := fun j => owns (c : Thread nD τ) (M j) fullShare (Function.update Y i w j))]
  rw [Function.update_self]
  isplitl [Hw]; · iexact Hw
  have e : (bigSep (Finset.univ.erase i) fun j => owns (c : Thread nD τ) (M j) fullShare (Function.update Y i w j) : sProp 𝕄)
      = bigSep (Finset.univ.erase i) fun j => owns (c : Thread nD τ) (M j) fullShare (Y j) :=
    bigSep_congr fun j hj => by rw [Function.update_of_ne (Finset.ne_of_mem_erase hj)]
  rw [e]
  iexact Hr

/-- The rows of head `h`. -/
abbrev headM (m : Memref sig .tc .vmem S8x2048x128 .bf16) (h : Fin 8) : Memref sig .tc .vmem S1x2048x128 .bf16 := m.slice (headOff h).rect (fun _ => rfl)
/-- A buffer of eight heads. -/
abbrev Heads (c : Dev nD) (m : Memref sig .tc .vmem S8x2048x128 .bf16) (Y : Fin 8 → Vec F S1x2048x128 .bf16) : sProp 𝕄 := Pieces c (headM m) Y

/-- A program that has returned. -/
theorem wp_done {c : Dev nD} {Q : Unit → sProp (MT nD τ sig Unit (Elt F) ℕ UU ℕ)} : Q ⟨⟩ ⊢ (WP c (.ret ⟨⟩) Q : sProp 𝕄) := BI.fupd_intro

section Rules

variable {c : Dev nD} {α : Type} {Q : α → sProp (MT nD τ sig Unit (Elt F) ℕ UU ℕ)}

theorem wp_ldHead {m : Memref sig .tc .vmem S8x2048x128 .bf16} {Y : Fin 8 → Vec F S1x2048x128 .bf16} (h : Fin 8)
    {k : Vec F S1x2048x128 .bf16 → P F α} :
    Heads c m Y ⊢ (iprop((Heads c m Y -∗ WP c (k (Y h)) Q) -∗ WP c (ldHead m (headOff h) k) Q) : sProp 𝕄) := by
  iintro H Hk
  ihave ⟨H, Hr⟩ := (Pieces_access (F := F) c (M := headM m) (Y := Y) h) $$ H
  have key := wp_load_owns (F := F) c (Q := Q) (m := m) (r := (headOff h).rect) (fun _ => rfl) (hl := View.loadsAt_vmem h_S1x2048x128)
    (k := k) (q := fullShare) (X := Y h)
  iapply key $$ H
  iintro H
  iapply Hk
  ihave H := Hr $$ %(Y h) H
  rw [Function.update_eq_self]
  iexact H

theorem wp_stQ {Y : Fin 8 → Vec F S1x2048x128 .bf16} (h : Fin 8) (w : Vec F S1x2048x128 .bf16) {k : P F α} :
    Heads c mQ Y ⊢ (iprop((Heads c mQ (Function.update Y h w) -∗ WP c k Q) -∗ WP c (stQ (headOff h) w k) Q) : sProp 𝕄) := by
  iintro H Hk
  iapply (wp_ldHead (F := F) (Y := Y) h) $$ H
  iintro H
  ihave ⟨H, Hr⟩ := (Pieces_access (F := F) c (M := headM mQ) (Y := Y) h) $$ H
  have key := wp_store_owns (F := F) c (Q := Q) (m := mQ) (r := (headOff h).rect) (fun _ => rfl) (w := w)
    (hx := View.stores_vmem h_S1x2048x128 ((Memref.isWhole_whole cc0_scratch3).storeExact_slice rfl _ (headOff h).packed) (fun _ => rfl))
    (hm := .inl rfl) (k := fun _ => k) (X := Y h)
  iapply key $$ H
  iintro H
  iapply Hk
  iapply Hr $$ H

theorem wp_stC {Y : Fin 8 → Vec F S1x2048x128 .bf16} (h : Fin 8) (w : Vec F S1x2048x128 .bf16) {k : P F α} :
    Heads c mC Y ⊢ (iprop((Heads c mC (Function.update Y h w) -∗ WP c k Q) -∗ WP c (stC (headOff h) w k) Q) : sProp 𝕄) := by
  iintro H Hk
  iapply (wp_ldHead (F := F) (Y := Y) h) $$ H
  iintro H
  ihave ⟨H, Hr⟩ := (Pieces_access (F := F) c (M := headM mC) (Y := Y) h) $$ H
  have key := wp_store_owns (F := F) c (Q := Q) (m := mC) (r := (headOff h).rect) (fun _ => rfl) (w := w)
    (hx := View.stores_vmem h_S1x2048x128 ((Memref.isWhole_whole cc0_scratch4).storeExact_slice rfl _ (headOff h).packed) (fun _ => rfl))
    (hm := .inl rfl) (k := fun _ => k) (X := Y h)
  iapply key $$ H
  iintro H
  iapply Hk
  iapply Hr $$ H

end Rules

/-! ## K and V together -/

section KV

variable (c : Dev nD) (fK : Buf (Elt F) (mK.view.loc (c : Thread nD τ))) (fV : Buf (Elt F) (mV.view.loc (c : Thread nD τ)))

def IdleKV (σ : Fin 4) : sProp 𝕄 := iprop(Idle c mKb mK 0 fK σ ∗ Idle c mVb mV 1 fV σ)
def FlyKV (s : Fin 32) : sProp 𝕄 := iprop(Fly c mKb mK 0 fK s ∗ Fly c mVb mV 1 fV s)
/-- Head number `s` of K and V, landed. -/
def HeldKV (s : Fin 32) : sProp 𝕄 :=
  iprop(Held c mKb mK 0 fK (slotOf s) (headVal c mK fK s) ∗ Held c mVb mV 1 fV (slotOf s) (headVal c mV fV s))

abbrev slotNo (n : ℕ) : Fin 4 := ⟨n % 4, Nat.mod_lt _ (by decide)⟩

/-- Before trip `g`: its two heads are in flight (past the last trip, nothing is), the other two slots idle. -/
def KV (g : ℕ) : sProp 𝕄 :=
  iprop((if h : g < 16 then iprop(FlyKV c fK fV (nth ⟨g, h⟩ 0) ∗ FlyKV c fK fV (nth ⟨g, h⟩ 1)) else iprop(IdleKV c fK fV 0 ∗ IdleKV c fK fV 1))
    ∗ IdleKV c fK fV (slotNo (2 * g + 2)) ∗ IdleKV c fK fV (slotNo (2 * g + 3)))

variable {c fK fV}
variable {α : Type} {Q : α → sProp (MT nD τ sig Unit (Elt F) ℕ UU ℕ)}

theorem wp_kvStart (s : Fin 32) {k : P F α} :
    IdleKV c fK fV (slotOf s) ⊢ (iprop((FlyKV c fK fV s -∗ WP c k Q)
      -∗ WP c (kvStart (startArgs c s).sK (startArgs c s).sV (startArgs c s).d (startArgs c s).s k) Q) : sProp 𝕄) := by
  unfold IdleKV FlyKV
  iintro ⟨HK, HV⟩ Hk
  iapply (wp_slotStart (F := F) (c := c) (mB := mKb) (mA := mK) (w := 0) (fA := fK) s) $$ HK
  iintro HK
  iapply (wp_slotStart (F := F) (c := c) (mB := mVb) (mA := mV) (w := 1) (fA := fV) s) $$ HV
  iintro HV
  iapply Hk
  isplitl [HK] <;> iassumption

theorem wp_kvWait (s : Fin 32) {O : CellTallies nD τ sig Unit} (hO : Above 0 O) {k : P F α} :
    iprop(levAts L lv ∗ Ow c O ∗ FlyKV c fK fV s) ⊢ (iprop((Ow c O ∗ HeldKV c fK fV s -∗ WP c k Q)
      -∗ WP c (kvWait (headArgs c s).sK (headArgs c s).sV (headArgs c s).d (headArgs c s).s k) Q) : sProp 𝕄) := by
  unfold FlyKV HeldKV
  iintro ⟨#Hlev, HO, HK, HV⟩ Hk
  iapply (wp_slotWait (F := F) (c := c) (mB := mKb) (mA := mK) (w := 0) (fA := fK) s hO) $$ [HO HK]
  · isplitr; · iexact Hlev
    isplitl [HO] <;> iassumption
  iintro ⟨HO, HK⟩
  iapply (wp_slotWait (F := F) (c := c) (mB := mVb) (mA := mV) (w := 1) (fA := fV) s hO) $$ [HO HV]
  · isplitr; · iexact Hlev
    isplitl [HO] <;> iassumption
  iintro ⟨HO, HV⟩
  iapply Hk
  isplitl [HO]; · iexact HO
  isplitl [HK] <;> iassumption

theorem HeldKV_Idle (s : Fin 32) : HeldKV c fK fV s ⊢ (IdleKV c fK fV (slotOf s) : sProp 𝕄) := by
  unfold HeldKV IdleKV
  iintro ⟨HK, HV⟩
  isplitl [HK]
  · iapply Held_Idle $$ HK
  · iapply Held_Idle $$ HV

/-- One head's attention. -/
theorem wp_head (s : Fin 32) (f : Vec F S1x2048x128 .bf16 → Vec F S1x2048x128 .f32 → Vec F S1x2048x128 .f32 → Vec F S1x2048x128 .bf16)
    {qv Y : Fin 8 → Vec F S1x2048x128 .bf16} {k : P F α} :
    iprop(HeldKV c fK fV s ∗ Heads c mQ qv ∗ Heads c mC Y)
      ⊢ (iprop((HeldKV c fK fV s ∗ Heads c mQ qv
            ∗ Heads c mC (Function.update Y (headOf s) (f (qv (headOf s)) (headVal c mK fK s) (headVal c mV fV s))) -∗ WP c k Q)
        -∗ WP c (ldHead mQ (headArgs c s).q fun q => ldSlot mKb (headArgs c s).l fun kk => ldSlot mVb (headArgs c s).l fun v =>
            stC (headArgs c s).q (f q kk v) k) Q) : sProp 𝕄) := by
  unfold HeldKV
  iintro ⟨⟨HK, HV⟩, Hq, HC⟩ Hk
  iapply (wp_ldHead (F := F) (headOf s)) $$ Hq
  iintro Hq
  iapply (wp_ldSlot (F := F) (c := c) (mB := mKb) (mA := mK) (w := 0) (fA := fK)) $$ HK
  iintro HK
  iapply (wp_ldSlot (F := F) (c := c) (mB := mVb) (mA := mV) (w := 1) (fA := fV)) $$ HV
  iintro HV
  iapply (wp_stC (F := F) (headOf s)) $$ HC
  iintro HC
  iapply Hk
  isplitl [HK HV]; · isplitl [HK] <;> iassumption
  isplitl [Hq] <;> iassumption

/-- The contexts after trip `g`. -/
def ctxAfter (c : Dev nD) (fK : Buf (Elt F) (mK.view.loc (c : Thread nD τ))) (fV : Buf (Elt F) (mV.view.loc (c : Thread nD τ)))
    (qv Y : Fin 8 → Vec F S1x2048x128 .bf16) (g : Fin 16) : Fin 8 → Vec F S1x2048x128 .bf16 :=
  Function.update
    (Function.update Y (headOf (nth g 0)) (attnA (qv (headOf (nth g 0))) (headVal c mK fK (nth g 0)) (headVal c mV fV (nth g 0))))
    (headOf (nth g 1)) (attnB (qv (headOf (nth g 1))) (headVal c mK fK (nth g 1)) (headVal c mV fV (nth g 1)))

theorem wp_heads (g : Fin 16) {qv Y : Fin 8 → Vec F S1x2048x128 .bf16} {Q : Unit → sProp (MT nD τ sig Unit (Elt F) ℕ UU ℕ)} :
    iprop(HeldKV c fK fV (nth g 0) ∗ HeldKV c fK fV (nth g 1) ∗ Heads c mQ qv ∗ Heads c mC Y)
      ⊢ (iprop((IdleKV c fK fV (slotOf (nth g 0)) ∗ IdleKV c fK fV (slotOf (nth g 1)) ∗ Heads c mQ qv ∗ Heads c mC (ctxAfter c fK fV qv Y g) -∗ Q ⟨⟩)
        -∗ WP c (headsOps (headArgs c (nth g 0)) (headArgs c (nth g 1))) Q) : sProp 𝕄) := by
  iintro ⟨HA, HB, Hq, HC⟩ Hk
  iapply (wp_head (F := F) (nth g 0) attnA) $$ [HA Hq HC]
  · isplitl [HA]; · iexact HA
    isplitl [Hq] <;> iassumption
  iintro ⟨HA, Hq, HC⟩
  iapply (wp_head (F := F) (nth g 1) attnB) $$ [HB Hq HC]
  · isplitl [HB]; · iexact HB
    isplitl [Hq] <;> iassumption
  iintro ⟨HB, Hq, HC⟩
  iapply (wp_done (F := F))
  iapply Hk
  isplitl [HA]; · iapply HeldKV_Idle $$ HA
  isplitl [HB]; · iapply HeldKV_Idle $$ HB
  isplitl [Hq]; · iexact Hq
  iexact HC

end KV

end Cert.RingAttn

end
-- ==== Proof.LoopRun.lean ====
/-
# 01_k — a phase of work

A phase projects the queries of eight heads from the two half blocks of Wq it works with, runs four trips of the attention
loop, and adds the product of the eight contexts with the two half blocks of Wo to the output. What it reads it only
borrows, at any share, so that the ring may send the same half blocks on meanwhile.
-/
module

public import proofs.«01_k».proof.Proof.TripRun

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

section Trip

variable {c : Dev nD} {fK : Buf (Elt F) (mK.view.loc (c : Thread nD τ))} {fV : Buf (Elt F) (mV.view.loc (c : Thread nD τ))}

/-- One trip. -/
theorem wp_trip (g : Fin 16) {O : CellTallies nD τ sig Unit} (hO : Above 0 O) {qv Y : Fin 8 → Vec F S1x2048x128 .bf16}
    {Q : Unit → sProp (MT nD τ sig Unit (Elt F) ℕ UU ℕ)} :
    iprop(levAts L lv ∗ Ow c O ∗ KV c fK fV g.val ∗ Heads c mQ qv ∗ Heads c mC Y)
      ⊢ (iprop((Ow c O ∗ KV c fK fV (g.val + 1) ∗ Heads c mQ qv ∗ Heads c mC (ctxAfter c fK fV qv Y g) -∗ Q ⟨⟩)
        -∗ WP c (trip c g) Q) : sProp 𝕄) := by
  have e0 : slotNo (2 * (g.val + 1) + 2) = slotOf (nth g 0) := Fin.ext (by show (2 * (g.val + 1) + 2) % 4 = (2 * g.val + 0) % 4; omega)
  have e1 : slotNo (2 * (g.val + 1) + 3) = slotOf (nth g 1) := Fin.ext (by show (2 * (g.val + 1) + 3) % 4 = (2 * g.val + 1) % 4; omega)
  unfold KV
  rw [dif_pos g.isLt, e0, e1]
  iintro ⟨#Hlev, HO, ⟨⟨HA, HB⟩, HI0, HI1⟩, Hq, HC⟩ Hk
  unfold trip
  iapply (wp_kvWait (F := F) (nth g 0) hO) $$ [HO HA]
  · isplitr; · iexact Hlev
    isplitl [HO] <;> iassumption
  iintro ⟨HO, HA⟩
  iapply (wp_kvWait (F := F) (nth g 1) hO) $$ [HO HB]
  · isplitr; · iexact Hlev
    isplitl [HO] <;> iassumption
  iintro ⟨HO, HB⟩
  by_cases h : g.val < 15
  · rw [dif_pos h, dif_pos (show g.val + 1 < 16 by omega)]
    iapply (wp_kvStart (F := F) (nthNext g h 0)) $$ HI0
    iintro HI0
    iapply (wp_kvStart (F := F) (nthNext g h 1)) $$ HI1
    iintro HI1
    iapply (wp_heads (F := F) g) $$ [HA HB Hq HC]
    · isplitl [HA]; · iexact HA
      isplitl [HB]; · iexact HB
      isplitl [Hq] <;> iassumption
    iintro ⟨HA, HB, Hq, HC⟩
    iapply Hk
    isplitl [HO]; · iexact HO
    isplitr [Hq HC]
    · isplitl [HI0 HI1]
      · isplitl [HI0] <;> iassumption
      isplitl [HA] <;> iassumption
    isplitl [Hq] <;> iassumption
  · have hg : g.val = 15 := by omega
    have f0 : slotNo (2 * g.val + 2) = (0 : Fin 4) := Fin.ext (by show (2 * g.val + 2) % 4 = 0; omega)
    have f1 : slotNo (2 * g.val + 3) = (1 : Fin 4) := Fin.ext (by show (2 * g.val + 3) % 4 = 1; omega)
    rw [dif_neg h, dif_neg (show ¬ g.val + 1 < 16 by omega), f0, f1]
    iapply (wp_heads (F := F) g) $$ [HA HB Hq HC]
    · isplitl [HA]; · iexact HA
      isplitl [HB]; · iexact HB
      isplitl [Hq] <;> iassumption
    iintro ⟨HA, HB, Hq, HC⟩
    iapply Hk
    isplitl [HO]; · iexact HO
    isplitr [Hq HC]
    · isplitl [HI0 HI1]
      · isplitl [HI0] <;> iassumption
      isplitl [HA] <;> iassumption
    isplitl [Hq] <;> iassumption

/-- The run's head number of head `h` of phase `p`. -/
abbrev hd (p : Fin 4) (h : Fin 8) : Fin 32 := ⟨8 * p.val + h.val, by omega⟩

/-- The context of head `h` of phase `p`. -/
def ctxOf (c : Dev nD) (p : Fin 4) (fK : Buf (Elt F) (mK.view.loc (c : Thread nD τ))) (fV : Buf (Elt F) (mV.view.loc (c : Thread nD τ)))
    (qv : Fin 8 → Vec F S1x2048x128 .bf16) (h : Fin 8) : Vec F S1x2048x128 .bf16 :=
  if h.val % 2 = 0 then attnA (qv h) (headVal c mK fK (hd p h)) (headVal c mV fV (hd p h))
  else attnB (qv h) (headVal c mK fK (hd p h)) (headVal c mV fV (hd p h))

theorem ctxAfter_eq (p : Fin 4) (i : ℕ) (g : Fin 16) (hi : i < 4) (hg : g.val = 4 * p.val + i) {qv Y : Fin 8 → Vec F S1x2048x128 .bf16}
    (hY : ∀ h : Fin 8, h.val < 2 * i → Y h = ctxOf c p fK fV qv h) :
    ∀ h : Fin 8, h.val < 2 * (i + 1) → ctxAfter c fK fV qv Y g h = ctxOf c p fK fV qv h := by
  intro h hh
  have n0 : (headOf (nth g 0)).val = 2 * i := by show (2 * g.val + 0) % 8 = _; omega
  have n1 : (headOf (nth g 1)).val = 2 * i + 1 := by show (2 * g.val + 1) % 8 = _; omega
  have d0 : nth g 0 = hd p (headOf (nth g 0)) := Fin.ext (by show 2 * g.val + 0 = 8 * p.val + (headOf (nth g 0)).val; omega)
  have d1 : nth g 1 = hd p (headOf (nth g 1)) := Fin.ext (by show 2 * g.val + 1 = 8 * p.val + (headOf (nth g 1)).val; omega)
  unfold ctxAfter
  by_cases h1 : h = headOf (nth g 1)
  · subst h1
    rw [Function.update_self]
    unfold ctxOf
    rw [if_neg (by omega), ← d1]
  · rw [Function.update_of_ne h1]
    by_cases h0 : h = headOf (nth g 0)
    · subst h0
      rw [Function.update_self]
      unfold ctxOf
      rw [if_pos (by omega), ← d0]
    · rw [Function.update_of_ne h0]
      apply hY
      have a0 : h.val ≠ 2 * i := fun e => h0 (Fin.ext (by omega))
      have a1 : h.val ≠ 2 * i + 1 := fun e => h1 (Fin.ext (by omega))
      omega

/-- A phase's loop. -/
theorem wp_loop (p : Fin 4) {l : Scf.Loop 32} {hok : l.OK} (hl : l.trips = 4) (g : Fin l.trips → Fin 16) (hg : ∀ k, (g k).val = 4 * p.val + k.val)
    {O : CellTallies nD τ sig Unit} (hO : Above 0 O) {qv : Fin 8 → Vec F S1x2048x128 .bf16}
    {k : P F Unit} {Q : Unit → sProp (MT nD τ sig Unit (Elt F) ℕ UU ℕ)} :
    iprop(levAts L lv ∗ Ow c O ∗ KV c fK fV (4 * p.val) ∗ Heads c mQ qv ∗ ∃ Y, Heads c mC Y)
      ⊢ (iprop((Ow c O ∗ KV c fK fV (4 * (p.val + 1)) ∗ Heads c mQ qv ∗ Heads c mC (ctxOf c p fK fV qv) -∗ WP c k Q)
        -∗ WP c ((Scf.Loop.for l hok ⟨⟩ (fun k _ => trip c (g k)) : P F Unit) >>= fun _ => k) Q) : sProp 𝕄) := by
  iintro ⟨#Hlev, HO, HKV, Hq, HC⟩ Hk
  have key := Scf.wp_for_bind frame (wpE defs₀ 𝒱₀ (c : Thread nD τ) none) Set.univ l.lb l.ub l.st hok (⟨⟩ : Unit) (fun k _ => trip (F := F) c (g k))
    (fun i _ => iprop(levAts L lv ∗ Ow c O ∗ KV c fK fV (4 * p.val + i) ∗ Heads c mQ qv
      ∗ ∃ Y, ⌜∀ h : Fin 8, h.val < 2 * i → Y h = ctxOf c p fK fV qv h⌝ ∗ Heads c mC Y))
    (by
      intro k _
      have hk : k.val < 4 := lt_of_lt_of_eq k.isLt hl
      iintro ⟨#Hlev, HO, HKV, Hq, ⟨%Y, %hY, HC⟩⟩
      rw [← hg k]
      iapply (wp_trip (F := F) (g k) hO (qv := qv) (Y := Y)) $$ [HO HKV Hq HC]
      · isplitr; · iexact Hlev
        isplitl [HO]; · iexact HO
        isplitl [HKV]; · iexact HKV
        isplitl [Hq] <;> iassumption
      iintro ⟨HO, HKV, Hq, HC⟩
      isplitr; · iexact Hlev
      isplitl [HO]; · iexact HO
      isplitl [HKV]
      · rw [show 4 * p.val + (k.val + 1) = (g k).val + 1 from by rw [hg k]; omega]
        iexact HKV
      isplitl [Hq]; · iexact Hq
      iexists _
      isplitr
      rotate_left
      · iexact HC
      · ipureintro; exact ctxAfter_eq p k.val (g k) hk (hg k) hY)
    (kk := fun _ => k) (Q := Q)
  iapply key $$ [HO HKV Hq HC]
  · isplitr; · iexact Hlev
    isplitl [HO]; · iexact HO
    isplitl [HKV]; · iexact HKV
    isplitl [Hq]; · iexact Hq
    icases HC with ⟨%Y, HC⟩
    iexists Y
    isplitr
    · ipureintro; intro h hh; exact absurd hh (by omega)
    iexact HC
  iintro %_ ⟨_, HO, HKV, Hq, ⟨%Y, %hY, HC⟩⟩
  have hY' : Y = ctxOf c p fK fV qv := funext fun h => hY h (by rw [show Scf.trips l.lb l.ub l.st = 4 from hl]; omega)
  subst hY'
  iapply Hk
  isplitl [HO]; · iexact HO
  isplitl [HKV]
  · rw [show 4 * p.val + Scf.trips l.lb l.ub l.st = 4 * (p.val + 1) from by rw [show Scf.trips l.lb l.ub l.st = 4 from hl]; omega]
    iexact HKV
  isplitl [Hq] <;> iassumption

end Trip

end Cert.RingAttn

end
-- ==== Proof.PhaseRun.lean ====
/-
# 01_k — the projection and the output of a phase

The queries' projection before a phase's loop and the output's update after it, and the phase as a whole.
-/
module

public import proofs.«01_k».proof.Proof.LoopRun

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- Half `h` of slot `j` of the gathered Wq, as a phase loads it. -/
abbrev gqM (j : Dev nD) (h : Fin 2) : Memref sig .tc .vmem S1x1x1024x512 .bf16 := mGq.slice (gqOff j h).rect (fun _ => rfl)
/-- Half `h` of slot `j` of the gathered Wo. -/
abbrev goM (j : Dev nD) (h : Fin 2) : Memref sig .tc .vmem S1x1x512x1024 .bf16 := mGo.slice (goOff j h).rect (fun _ => rfl)
/-- The cast x, as a phase loads it. -/
abbrev xbM : Memref sig .tc .vmem S2048x1024 .bf16 := mXb.slice rXb (fun _ => rfl)
/-- A quarter of the output. -/
abbrev outM (j : Fin 4) : Memref sig .tc .vmem S1x512x1024 .f32 := mOut.slice (outOff j).rect (fun _ => rfl)

/-- The queries of a phase's eight heads. -/
def qOf (xb : Vec F S2048x1024 .bf16) (wA wB : Vec F S1x1x1024x512 .bf16) : Fin 8 → Vec F S1x2048x128 .bf16 :=
  ![qPay 0 xb wA, qPay 1 xb wA, qPay 2 xb wA, qPay 3 xb wA, qPay 0 xb wB, qPay 1 xb wB, qPay 2 xb wB, qPay 3 xb wB]

/-- The output with a phase's product added. -/
def outOf (cv : Fin 8 → Vec F S1x2048x128 .bf16) (wC wD : Vec F S1x1x512x1024 .bf16) (o : Fin 4 → Vec F S1x512x1024 .f32) (j : Fin 4) :
    Vec F S1x512x1024 .f32 :=
  outPay j (cv 0) (cv 1) (cv 2) (cv 3) (cv 4) (cv 5) (cv 6) (cv 7) (o j) wC wD

theorem qOf_updates (Y : Fin 8 → Vec F S1x2048x128 .bf16) (xb : Vec F S2048x1024 .bf16) (wA wB : Vec F S1x1x1024x512 .bf16) :
    Function.update (Function.update (Function.update (Function.update (Function.update (Function.update (Function.update (Function.update Y
      0 (qPay 0 xb wA)) 1 (qPay 1 xb wA)) 2 (qPay 2 xb wA)) 3 (qPay 3 xb wA)) 4 (qPay 0 xb wB)) 5 (qPay 1 xb wB)) 6 (qPay 2 xb wB)) 7 (qPay 3 xb wB)
      = qOf xb wA wB := by
  funext h
  fin_cases h <;> rfl

theorem outOf_updates (cv : Fin 8 → Vec F S1x2048x128 .bf16) (wC wD : Vec F S1x1x512x1024 .bf16) (o : Fin 4 → Vec F S1x512x1024 .f32) :
    Function.update (Function.update (Function.update (Function.update o
      0 (outOf cv wC wD o 0)) 1 (outOf cv wC wD o 1)) 2 (outOf cv wC wD o 2)) 3 (outOf cv wC wD o 3) = outOf cv wC wD o := by
  funext h
  fin_cases h <;> rfl

section Phase

variable {c : Dev nD} {α : Type} {Q : α → sProp (MT nD τ sig Unit (Elt F) ℕ UU ℕ)}

theorem wp_ldXb {X : Vec F S2048x1024 .bf16} {k : Vec F S2048x1024 .bf16 → P F α} :
    (owns (c : Thread nD τ) xbM fullShare X : sProp 𝕄)
      ⊢ (iprop((owns (c : Thread nD τ) xbM fullShare X -∗ WP c (k X) Q) -∗ WP c (ldXb k) Q) : sProp 𝕄) :=
  wp_load_owns (F := F) c (Q := Q) (m := mXb) (r := rXb) (fun _ => rfl) (hl := View.loadsAt_vmem h_S2048x1024)

theorem wp_ldGq {j : Dev nD} {h : Fin 2} {q : PosShare TreeShare} {X : Vec F S1x1x1024x512 .bf16} {k : Vec F S1x1x1024x512 .bf16 → P F α} :
    (owns (c : Thread nD τ) (gqM j h) q X : sProp 𝕄)
      ⊢ (iprop((owns (c : Thread nD τ) (gqM j h) q X -∗ WP c (k X) Q) -∗ WP c (ldGq (gqOff j h) k) Q) : sProp 𝕄) :=
  wp_load_owns (F := F) c (Q := Q) (m := mGq) (r := (gqOff j h).rect) (fun _ => rfl) (hl := View.loadsAt_vmem h_S1x1x1024x512)

theorem wp_ldGo {j : Dev nD} {h : Fin 2} {q : PosShare TreeShare} {X : Vec F S1x1x512x1024 .bf16} {k : Vec F S1x1x512x1024 .bf16 → P F α} :
    (owns (c : Thread nD τ) (goM j h) q X : sProp 𝕄)
      ⊢ (iprop((owns (c : Thread nD τ) (goM j h) q X -∗ WP c (k X) Q) -∗ WP c (ldGo (goOff j h) k) Q) : sProp 𝕄) :=
  wp_load_owns (F := F) c (Q := Q) (m := mGo) (r := (goOff j h).rect) (fun _ => rfl) (hl := View.loadsAt_vmem h_S1x1x512x1024)

theorem wp_ldOut {Y : Fin 4 → Vec F S1x512x1024 .f32} (j : Fin 4) {k : Vec F S1x512x1024 .f32 → P F α} :
    Pieces c outM Y ⊢ (iprop((Pieces c outM Y -∗ WP c (k (Y j)) Q) -∗ WP c (ldOut j k) Q) : sProp 𝕄) := by
  iintro H Hk
  ihave ⟨H, Hr⟩ := (Pieces_access (F := F) c (M := outM) (Y := Y) j) $$ H
  have key := wp_load_owns (F := F) c (Q := Q) (m := mOut) (r := (outOff j).rect) (fun _ => rfl) (hl := View.loadsAt_vmem h_S1x512x1024)
    (k := k) (q := fullShare) (X := Y j)
  iapply key $$ H
  iintro H
  iapply Hk
  ihave H := Hr $$ %(Y j) H
  rw [Function.update_eq_self]
  iexact H

theorem wp_stOut {Y : Fin 4 → Vec F S1x512x1024 .f32} (j : Fin 4) (w : Vec F S1x512x1024 .f32) {k : P F α} :
    Pieces c outM Y ⊢ (iprop((Pieces c outM (Function.update Y j w) -∗ WP c k Q) -∗ WP c (stOut j w k) Q) : sProp 𝕄) := by
  iintro H Hk
  ihave ⟨H, Hr⟩ := (Pieces_access (F := F) c (M := outM) (Y := Y) j) $$ H
  have key := wp_store_owns (F := F) c (Q := Q) (m := mOut) (r := (outOff j).rect) (fun _ => rfl) (w := w)
    (hx := View.stores_vmem_bits_univ h_S1x512x1024 rfl) (hm := .inl rfl) (k := fun _ => k) (X := Y j)
  iapply key $$ H
  iintro H
  iapply Hk
  iapply Hr $$ H

variable {jA jB : Dev nD} {hA hB : Fin 2} {qA qB : PosShare TreeShare}

/-- The projection of the phase's queries. -/
theorem wp_project {xb : Vec F S2048x1024 .bf16} {wA wB : Vec F S1x1x1024x512 .bf16} {k : P F α} :
    iprop(owns (c : Thread nD τ) xbM fullShare xb ∗ owns (c : Thread nD τ) (gqM jA hA) qA wA ∗ owns (c : Thread nD τ) (gqM jB hB) qB wB
        ∗ ∃ Y, Heads c mQ Y)
      ⊢ (iprop((owns (c : Thread nD τ) xbM fullShare xb ∗ owns (c : Thread nD τ) (gqM jA hA) qA wA ∗ owns (c : Thread nD τ) (gqM jB hB) qB wB
            ∗ Heads c mQ (qOf xb wA wB) -∗ WP c k Q)
        -∗ WP c (project (gqOff jA hA) (gqOff jB hB) k) Q) : sProp 𝕄) := by
  iintro ⟨Hx, HA, HB, ⟨%Y, Hq⟩⟩ Hk
  rw [← qOf_updates Y]
  unfold project
  iapply (wp_ldXb (F := F)) $$ Hx
  iintro Hx
  iapply (wp_ldGq (F := F)) $$ HA
  iintro HA
  iapply (wp_stQ (F := F) 0) $$ Hq
  iintro Hq
  iapply (wp_stQ (F := F) 1) $$ Hq
  iintro Hq
  iapply (wp_stQ (F := F) 2) $$ Hq
  iintro Hq
  iapply (wp_stQ (F := F) 3) $$ Hq
  iintro Hq
  iapply (wp_ldXb (F := F)) $$ Hx
  iintro Hx
  iapply (wp_ldGq (F := F)) $$ HB
  iintro HB
  iapply (wp_stQ (F := F) 4) $$ Hq
  iintro Hq
  iapply (wp_stQ (F := F) 5) $$ Hq
  iintro Hq
  iapply (wp_stQ (F := F) 6) $$ Hq
  iintro Hq
  iapply (wp_stQ (F := F) 7) $$ Hq
  iintro Hq
  iapply Hk
  isplitl [Hx]; · iexact Hx
  isplitl [HA]; · iexact HA
  isplitl [HB] <;> iassumption

/-- A quarter of the output's update. -/
theorem wp_addOut (j : Fin 4) {o : Fin 4 → Vec F S1x512x1024 .f32} {wA wB : Vec F S1x1x512x1024 .bf16}
    (f : Vec F S1x512x1024 .f32 → Vec F S1x1x512x1024 .bf16 → Vec F S1x1x512x1024 .bf16 → Vec F S1x512x1024 .f32) {k : P F α} :
    iprop(owns (c : Thread nD τ) (goM jA hA) qA wA ∗ owns (c : Thread nD τ) (goM jB hB) qB wB ∗ Pieces c outM o)
      ⊢ (iprop((owns (c : Thread nD τ) (goM jA hA) qA wA ∗ owns (c : Thread nD τ) (goM jB hB) qB wB
            ∗ Pieces c outM (Function.update o j (f (o j) wA wB)) -∗ WP c k Q)
        -∗ WP c (addOut j (goOff jA hA) (goOff jB hB) f k) Q) : sProp 𝕄) := by
  iintro ⟨HA, HB, Ho⟩ Hk
  unfold addOut
  iapply (wp_ldOut (F := F) j) $$ Ho
  iintro Ho
  iapply (wp_ldGo (F := F)) $$ HA
  iintro HA
  iapply (wp_ldGo (F := F)) $$ HB
  iintro HB
  iapply (wp_ldOut (F := F) j) $$ Ho
  iintro Ho
  iapply (wp_stOut (F := F) j) $$ Ho
  iintro Ho
  iapply Hk
  isplitl [HA]; · iexact HA
  isplitl [HB] <;> iassumption

/-- The output's update. -/
theorem wp_output {cv : Fin 8 → Vec F S1x2048x128 .bf16} {o : Fin 4 → Vec F S1x512x1024 .f32} {wA wB : Vec F S1x1x512x1024 .bf16} {k : P F α} :
    iprop(Heads c mC cv ∗ owns (c : Thread nD τ) (goM jA hA) qA wA ∗ owns (c : Thread nD τ) (goM jB hB) qB wB ∗ Pieces c outM o)
      ⊢ (iprop((Heads c mC cv ∗ owns (c : Thread nD τ) (goM jA hA) qA wA ∗ owns (c : Thread nD τ) (goM jB hB) qB wB
            ∗ Pieces c outM (outOf cv wA wB o) -∗ WP c k Q)
        -∗ WP c (output (goOff jA hA) (goOff jB hB) k) Q) : sProp 𝕄) := by
  iintro ⟨HC, HA, HB, Ho⟩ Hk
  rw [← outOf_updates cv wA wB o]
  unfold output
  iapply (wp_ldHead (F := F) 0) $$ HC
  iintro HC
  iapply (wp_ldHead (F := F) 1) $$ HC
  iintro HC
  iapply (wp_ldHead (F := F) 2) $$ HC
  iintro HC
  iapply (wp_ldHead (F := F) 3) $$ HC
  iintro HC
  iapply (wp_ldHead (F := F) 4) $$ HC
  iintro HC
  iapply (wp_ldHead (F := F) 5) $$ HC
  iintro HC
  iapply (wp_ldHead (F := F) 6) $$ HC
  iintro HC
  iapply (wp_ldHead (F := F) 7) $$ HC
  iintro HC
  iapply (wp_addOut (F := F) 0) $$ [HA HB Ho]
  · isplitl [HA]; · iexact HA
    isplitl [HB] <;> iassumption
  iintro ⟨HA, HB, Ho⟩
  iapply (wp_addOut (F := F) 1) $$ [HA HB Ho]
  · isplitl [HA]; · iexact HA
    isplitl [HB] <;> iassumption
  iintro ⟨HA, HB, Ho⟩
  iapply (wp_addOut (F := F) 2) $$ [HA HB Ho]
  · isplitl [HA]; · iexact HA
    isplitl [HB] <;> iassumption
  iintro ⟨HA, HB, Ho⟩
  iapply (wp_addOut (F := F) 3) $$ [HA HB Ho]
  · isplitl [HA]; · iexact HA
    isplitl [HB] <;> iassumption
  iintro ⟨HA, HB, Ho⟩
  iapply Hk
  isplitl [HC]; · iexact HC
  isplitl [HA]; · iexact HA
  isplitl [HB]; · iexact HB
  iexact Ho

end Phase

/-- What a phase works on and leaves as it was: the cast x and the half blocks, at shares `q`. -/
def Lent (c : Dev nD) (p : Fin 4) (q : PosShare TreeShare) (xb : Vec F S2048x1024 .bf16) (wA wB : Vec F S1x1x1024x512 .bf16)
    (wC wD : Vec F S1x1x512x1024 .bf16) : sProp 𝕄 :=
  iprop(owns (c : Thread nD τ) xbM fullShare xb
    ∗ owns (c : Thread nD τ) (gqM (bk c p) 0) q wA ∗ owns (c : Thread nD τ) (gqM (fw c p) 1) q wB
    ∗ owns (c : Thread nD τ) (goM (bk c p) 0) q wC ∗ owns (c : Thread nD τ) (goM (fw c p) 1) q wD)

/-- What a phase works on and changes: the copies of K and V, the query and context buffers and the output. -/
def Work (c : Dev nD) (p : ℕ) (fK : Buf (Elt F) (mK.view.loc (c : Thread nD τ))) (fV : Buf (Elt F) (mV.view.loc (c : Thread nD τ)))
    (o : Fin 4 → Vec F S1x512x1024 .f32) : sProp 𝕄 :=
  iprop(KV c fK fV (4 * p) ∗ (∃ Y, Heads c mQ Y) ∗ (∃ Y, Heads c mC Y) ∗ Pieces c outM o)

/-- A phase. -/
theorem wp_phase {c : Dev nD} {fK : Buf (Elt F) (mK.view.loc (c : Thread nD τ))} {fV : Buf (Elt F) (mV.view.loc (c : Thread nD τ))}
    (p : Fin 4) {l : Scf.Loop 32} {hok : l.OK} (hl : l.trips = 4) (g : Fin l.trips → Fin 16) (hg : ∀ k, (g k).val = 4 * p.val + k.val)
    {O : CellTallies nD τ sig Unit} (hO : Above 0 O) {q : PosShare TreeShare} {xb : Vec F S2048x1024 .bf16} {wA wB : Vec F S1x1x1024x512 .bf16}
    {wC wD : Vec F S1x1x512x1024 .bf16} {o : Fin 4 → Vec F S1x512x1024 .f32} {k : P F Unit} {Q : Unit → sProp (MT nD τ sig Unit (Elt F) ℕ UU ℕ)} :
    iprop(levAts L lv ∗ Ow c O ∗ Lent c p q xb wA wB wC wD ∗ Work c p.val fK fV o)
      ⊢ (iprop((Ow c O ∗ Lent c p q xb wA wB wC wD ∗ Work c (p.val + 1) fK fV (outOf (ctxOf c p fK fV (qOf xb wA wB)) wC wD o) -∗ WP c k Q)
        -∗ WP c (phase (ph c p) (Scf.Loop.for l hok ⟨⟩ (fun k _ => trip c (g k))) k) Q) : sProp 𝕄) := by
  unfold Lent Work
  iintro ⟨#Hlev, HO, ⟨Hx, HA, HB, HC, HD⟩, HKV, Hq, Hc, Ho⟩ Hk
  iapply (wp_project (F := F)) $$ [Hx HA HB Hq]
  · isplitl [Hx]; · iexact Hx
    isplitl [HA]; · iexact HA
    isplitl [HB] <;> iassumption
  iintro ⟨Hx, HA, HB, Hq⟩
  iapply (wp_loop (F := F) p hl g hg hO) $$ [HO HKV Hq Hc]
  · isplitr; · iexact Hlev
    isplitl [HO]; · iexact HO
    isplitl [HKV]; · iexact HKV
    isplitl [Hq] <;> iassumption
  iintro ⟨HO, HKV, Hq, Hc⟩
  iapply (wp_output (F := F)) $$ [Hc HC HD Ho]
  · isplitl [Hc]; · iexact Hc
    isplitl [HC]; · iexact HC
    isplitl [HD] <;> iassumption
  iintro ⟨Hc, HC, HD, Ho⟩
  iapply Hk
  isplitl [HO]; · iexact HO
  isplitl [Hx HA HB HC HD]
  · isplitl [Hx]; · iexact Hx
    isplitl [HA]; · iexact HA
    isplitl [HB]; · iexact HB
    isplitl [HC] <;> iassumption
  isplitl [HKV]; · iexact HKV
  isplitl [Hq]; · iexists _; iexact Hq
  isplitl [Hc]; · iexists _; iexact Hc
  iexact Ho

end Cert.RingAttn

end
-- ==== Proof.Schedule.lean ====
/-
# 01_k — the ring's protocol

Every device meets its two neighbours at the barrier, and by that hands each of them the places on itself which that
neighbour will write: the device behind it (whose half blocks 0 travel ahead) gets half 0 of three slots, the device
ahead of it half 1 of three slots. Hop `t` then moves, in direction `h`, half `h` of the block of the device `t` places
back along that direction, of Wq (`w = 0`) and of Wo (`w = 1`). A copy's send semaphore gives the sender its share of the
source back; its receive semaphore gives the receiver the place, now holding that block.
-/
module

public import proofs.«01_k».proof.Proof.PhaseRun

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Contents -/

/-- Half `h` of device `j`'s block of Wq, as gathered. -/
def gqVal (j : Dev nD) (h : Fin 2) : Vec F S1x1x1024x512 .bf16 :=
  wqPay ((wqV (wqOff h)).view.read (Elt F) (m ((j : Thread nD τ).loc main_arg1)))
/-- Half `h` of device `j`'s block of Wo, as gathered. -/
def goVal (j : Dev nD) (h : Fin 2) : Vec F S1x1x512x1024 .bf16 :=
  woPay ((woV (woOff h)).view.read (Elt F) (m ((j : Thread nD τ).loc main_arg4)))

/-- Device `c` holds, at share `q`, half `h` of device `j`'s block of Wq or Wo in its slot `j`. -/
def Blk (c : Dev nD) (w : Fin 2) (j : Dev nD) (h : Fin 2) (q : PosShare TreeShare) : sProp 𝕄 :=
  match w with
  | 0 => owns (c : Thread nD τ) (gqM j h) q (gqVal m j h)
  | 1 => owns (c : Thread nD τ) (goM j h) q (goVal m j h)

/-- Device `c` holds that place, with any contents. -/
def Spot (c : Dev nD) (w : Fin 2) (j : Dev nD) (h : Fin 2) : sProp 𝕄 :=
  match w with
  | 0 => iprop(∃ Y, owns (c : Thread nD τ) (gqM j h) fullShare Y)
  | 1 => iprop(∃ Y, owns (c : Thread nD τ) (goM j h) fullShare Y)

instance Blk_storable (c : Dev nD) (w : Fin 2) (j : Dev nD) (h : Fin 2) (q : PosShare TreeShare) :
    BI.Storable (upEmb : UEmb _ 𝕄) (Blk m c w j h q) := by
  unfold Blk; split <;> infer_instance
instance Spot_storable (c : Dev nD) (w : Fin 2) (j : Dev nD) (h : Fin 2) : BI.Storable (upEmb : UEmb _ 𝕄) (Spot (F := F) c w j h) := by
  unfold Spot; split <;> infer_instance

/-! ## Places and cells -/

/-- A copy of the ring: its hop, direction and which weights. -/
abbrev X : Type := Fin 3 × Fin 2 × Fin 2

/-- The device the copies of direction `h` go to. -/
def dst (c : Dev nD) (h : Fin 2) : Dev nD := match h with | 0 => fw c 1 | 1 => bk c 1
/-- The device whose half block `h` is at hand at phase `p`. -/
def from' (c : Dev nD) (h : Fin 2) (p : Fin 4) : Dev nD := match h with | 0 => bk c p | 1 => fw c p
/-- The other direction. -/
def opp (h : Fin 2) : Fin 2 := match h with | 0 => 1 | 1 => 0

/-- The phase after a hop. -/
abbrev after (t : Fin 3) : Fin 4 := ⟨t.val + 1, by omega⟩

theorem from_dst (c : Dev nD) (h : Fin 2) (t : Fin 3) : from' (dst c h) h (after t) = from' c h (hopNo t) := by revert c h t; decide +kernel
theorem dst_opp (c : Dev nD) (h : Fin 2)   : dst (dst c (opp h)) h = c := by revert c h; decide +kernel
theorem dst_opp' (c : Dev nD) (h : Fin 2)   : dst (dst c h) (opp h) = c := by revert c h; decide +kernel

abbrev barCell (c : Dev nD) : GSem nD τ sig := ((c : Thread nD τ), .reg barSem)
abbrev sendCell (c : Dev nD) (x : X) : GSem nD τ sig := ((c : Thread nD τ), .dma (sendSem x.1 x.2.1 x.2.2))
abbrev recvCell (c : Dev nD) (x : X) : GSem nD τ sig := ((c : Thread nD τ), .dma (recvSem x.1 x.2.1 x.2.2))

/-- The copy a semaphore's number names, for the send semaphores (14–25) and the receive semaphores (26–37). -/
def copyOf (n : ℕ) : X := (⟨(n - 14) / 4 % 3, Nat.mod_lt _ (by decide)⟩, ⟨(n - 14) / 2 % 2, Nat.mod_lt _ (by decide)⟩, ⟨(n - 14) % 2, Nat.mod_lt _ (by decide)⟩)

theorem sendSem_val : ∀ x : X, (sendSem x.1 x.2.1 x.2.2).val = 14 + 4 * x.1.val + 2 * x.2.1.val + x.2.2.val := by decide +kernel
theorem recvSem_val : ∀ x : X, (recvSem x.1 x.2.1 x.2.2).val = 26 + 4 * x.1.val + 2 * x.2.1.val + x.2.2.val := by decide +kernel
theorem sendSem_lt (x : X) : ¬ 26 ≤ (sendSem x.1 x.2.1 x.2.2).val := by revert x; decide +kernel
theorem sendSem_ge (x : X) : 14 ≤ (sendSem x.1 x.2.1 x.2.2).val := by revert x; decide +kernel
theorem recvSem_ge (x : X) : 26 ≤ (recvSem x.1 x.2.1 x.2.2).val := by revert x; decide +kernel
theorem recvSem_ge' (x : X) : 14 ≤ (recvSem x.1 x.2.1 x.2.2).val := by revert x; decide +kernel
theorem copyOf_send (x : X) : copyOf (sendSem x.1 x.2.1 x.2.2).val = x := by revert x; decide +kernel
theorem copyOf_recv (x : X) : copyOf ((recvSem x.1 x.2.1 x.2.2).val - 12) = x := by revert x; decide +kernel

/-- What a copy credits. -/
def amt (w : Fin 2) : ℕ := match w with
  | 0 => (gqV (gqW 0 0)).view.dmaCredit
  | 1 => (goV (goW 0 0)).view.dmaCredit
theorem amt_pos (w : Fin 2) : 0 < amt w := by
  unfold amt; split <;> exact View.dmaCredit_pos _ (by decide +kernel)
theorem credit_gq (j : Dev nD) (h : Fin 2) : (gqV (gqW j h)).view.dmaCredit = amt 0 := rfl
theorem credit_go (j : Dev nD) (h : Fin 2) : (goV (goW j h)).view.dmaCredit = amt 1 := rfl

/-! ## The schedule -/

/-- What the device `dst c h` hands `c` at the barrier: the places on it that `c` will write. -/
def barPay (c : Dev nD) (h : Fin 2) : sProp 𝕄 :=
  bigSep Finset.univ fun tw : Fin 3 × Fin 2 => Spot (dst c h) tw.2 (from' c h (hopNo tw.1)) h
def sendPay (c : Dev nD) (x : X) : sProp 𝕄 := Blk m c x.2.2 (from' c x.2.1 (hopNo x.1)) x.2.1 fullShare.left
def recvPay (c : Dev nD) (x : X) : sProp 𝕄 := Blk m c x.2.2 (from' c x.2.1 (after x.1)) x.2.1 fullShare

/-- One round: the barrier's two duties of a unit each, and one duty of a copy's credit for a send or receive cell. -/
def Rd : Rounds.Schedule (GSem nD τ sig) (Fin 2) 𝕄 where
  duties g r := if r = 0 ∧ g.1.2 = .tc then (match g.2 with | .reg _ => Finset.univ | .dma q => if 14 ≤ q.val then {0} else ∅) else ∅
  unitless _ := False
  amount g _ _ := match g.2 with | .reg _ => 1 | .dma q => if 26 ≤ q.val then amt (copyOf (q.val - 12)).2.2 else amt (copyOf q.val).2.2
  payload g _ d := match g.2 with
    | .reg _ => barPay g.1.1 d
    | .dma q => if 26 ≤ q.val then recvPay m g.1.1 (copyOf (q.val - 12)) else sendPay m g.1.1 (copyOf q.val)
  amount_pos g _ _ _ := by
    split
    · exact Nat.one_pos
    · split <;> exact amt_pos _

instance Rd_storable (g : GSem nD τ sig) (r : ℕ) (d : Fin 2) : BI.Storable (upEmb : UEmb _ 𝕄) ((Rd m).payload g r d) := by
  show BI.Storable upEmb (match g.2 with
    | .reg _ => barPay g.1.1 d
    | .dma q => if 26 ≤ q.val then recvPay m g.1.1 (copyOf (q.val - 12)) else sendPay m g.1.1 (copyOf q.val))
  unfold barPay recvPay sendPay
  (repeat' split) <;> infer_instance

section Sched
variable (c : Dev nD) (x : X)

theorem duties_bar : (Rd m).duties (barCell c) 0 = Finset.univ := rfl
theorem duties_send : (Rd m).duties (sendCell c x) 0 = {0} := by
  show (if 0 = 0 ∧ (c : Thread nD τ).2 = .tc then (if 14 ≤ (sendSem x.1 x.2.1 x.2.2).val then ({0} : Finset (Fin 2)) else ∅) else ∅) = {0}
  rw [if_pos ⟨rfl, rfl⟩, if_pos (sendSem_ge x)]
theorem duties_recv : (Rd m).duties (recvCell c x) 0 = {0} := by
  show (if 0 = 0 ∧ (c : Thread nD τ).2 = .tc then (if 14 ≤ (recvSem x.1 x.2.1 x.2.2).val then ({0} : Finset (Fin 2)) else ∅) else ∅) = {0}
  rw [if_pos ⟨rfl, rfl⟩, if_pos (recvSem_ge' x)]
theorem duties_later (g : GSem nD τ sig) : ∀ r, 1 ≤ r → (Rd m).duties g r = ∅ := fun r hr => if_neg fun h => by omega

theorem amount_bar (d : Fin 2) : (Rd m).amount (barCell c) 0 d = 1 := rfl
theorem amount_send (d : Fin 2) : (Rd m).amount (sendCell c x) 0 d = amt x.2.2 := by
  show (if 26 ≤ _ then _ else _) = _
  rw [if_neg (sendSem_lt x), copyOf_send]
theorem amount_recv (d : Fin 2) : (Rd m).amount (recvCell c x) 0 d = amt x.2.2 := by
  show (if 26 ≤ _ then _ else _) = _
  rw [if_pos (recvSem_ge x), copyOf_recv]

theorem payload_bar (d : Fin 2) : (Rd m).payload (barCell c) 0 d = barPay c d := rfl
theorem payload_send (d : Fin 2) : (Rd m).payload (sendCell c x) 0 d = sendPay m c x := by
  show (if 26 ≤ _ then _ else _) = _
  rw [if_neg (sendSem_lt x), copyOf_send]
theorem payload_recv (d : Fin 2) : (Rd m).payload (recvCell c x) 0 d = recvPay m c x := by
  show (if 26 ≤ _ then _ else _) = _
  rw [if_pos (recvSem_ge x), copyOf_recv]

theorem expect_bar : (Rd m).expect (barCell c) 0 = 2 := by
  unfold Schedule.expect Schedule.amountOf
  rw [duties_bar, Finset.sum_congr rfl fun d _ => amount_bar m c d, Finset.sum_const, Finset.card_univ, Fintype.card_fin, smul_eq_mul]
theorem expect_send : (Rd m).expect (sendCell c x) 0 = amt x.2.2 := by
  unfold Schedule.expect Schedule.amountOf; rw [duties_send, Finset.sum_singleton, amount_send]
theorem expect_recv : (Rd m).expect (recvCell c x) 0 = amt x.2.2 := by
  unfold Schedule.expect Schedule.amountOf; rw [duties_recv, Finset.sum_singleton, amount_recv]

theorem rest_bar : bigSep ((Rd m).duties (barCell c) 0 \ ∅) (fun d => (Rd m).payload (barCell c) 0 d) = iprop(barPay c 0 ∗ barPay c 1) := by
  rw [Finset.sdiff_empty, duties_bar]; exact BI.bigSep_fin_two _
theorem rest_send : bigSep ((Rd m).duties (sendCell c x) 0 \ ∅) (fun d => (Rd m).payload (sendCell c x) 0 d) = sendPay m c x := by
  rw [Finset.sdiff_empty, duties_send, bigSep_singleton, payload_send]
theorem rest_recv : bigSep ((Rd m).duties (recvCell c x) 0 \ ∅) (fun d => (Rd m).payload (recvCell c x) 0 d) = recvPay m c x := by
  rw [Finset.sdiff_empty, duties_recv, bigSep_singleton, payload_recv]

end Sched

/-! ## What a device owes -/

/-- The credit of device `c`'s copies `xs` to their receive cells, the first of them last. -/
def oweL (c : Dev nD) : List X → CellTallies nD τ sig Unit
  | [] => 0
  | x :: xs => oweL c xs + tallyAt (recvCell (dst c x.2.1) x) () (amt x.2.2)

/-- A hop's copies in the order they start. -/
abbrev hopL (t : Fin 3) (xs : List X) : List X := (t, 0, 0) :: (t, 1, 0) :: (t, 0, 1) :: (t, 1, 1) :: xs
abbrev l3 : List X := []
abbrev l2 : List X := hopL 2 l3
abbrev l1 : List X := hopL 1 l2
abbrev l0 : List X := hopL 0 l1

/-- What a device owes at launch: the copies, and a unit to each neighbour's barrier. -/
def Oc (c : Dev nD) : CellTallies nD τ sig Unit := oweL c l0 + tallyAt (barCell (fw c 1)) () 1
def O₀ (c : Dev nD) : CellTallies nD τ sig Unit := Oc c + tallyAt (barCell (bk c 1)) () 1

theorem oweL_pos {c : Dev nD} {xs : List X} {g : GSem nD τ sig} {u : Unit} (h : 0 < oweL c xs g u) : ∃ x ∈ xs, g = recvCell (dst c x.2.1) x := by
  induction xs with
  | nil => exact absurd h (Nat.lt_irrefl 0)
  | cons x xs ih =>
    rcases Pipeline.add_pos_cases h with h | h
    · obtain ⟨y, hy, e⟩ := ih h
      exact ⟨y, List.mem_cons_of_mem _ hy, e⟩
    · rw [tallyAt_apply] at h
      by_cases e : g = recvCell (dst c x.2.1) x ∧ u = ()
      · exact ⟨x, List.mem_cons_self, e.1⟩
      · rw [if_neg e] at h; exact absurd h (Nat.lt_irrefl 0)

theorem lv_recv (c : Dev nD) (x : X) : lv (recvCell c x) () = 2 + x.1.val := by
  show (if 26 ≤ _ then _ else _) = _
  rw [if_pos (recvSem_ge x), recvSem_val x]
  have := x.2.1.isLt; have := x.2.2.isLt
  omega
theorem lv_send (c : Dev nD) (x : X) : lv (sendCell c x) () = 0 := if_neg (sendSem_lt x)
theorem lv_bar (c : Dev nD) : lv (barCell c) () = 1 := rfl

theorem oweL_above {c : Dev nD} {xs : List X} {n : ℕ} (h : ∀ x ∈ xs, n < 2 + x.1.val) : Above n (oweL c xs) := fun g u hg => by
  obtain ⟨x, hx, rfl⟩ := oweL_pos hg
  exact ⟨rfl, by rw [lv_recv]; exact h x hx⟩

theorem O₀_above (c : Dev nD) : Above 0 (O₀ c) := fun g u hg => by
  have hb (d : Dev nD) (h : 0 < (tallyAt (barCell d) () 1 : CellTallies nD τ sig Unit) g u) : g.1.2 = .tc ∧ 0 < lv g u := by
    rw [tallyAt_apply] at h
    by_cases e : g = barCell d ∧ u = ()
    · rw [e.1]; exact ⟨rfl, Nat.one_pos⟩
    · rw [if_neg e] at h; exact absurd h (Nat.lt_irrefl 0)
  rcases Pipeline.add_pos_cases hg with hg | hg
  · rcases Pipeline.add_pos_cases hg with hg | hg
    · exact oweL_above (n := 0) (fun x _ => by omega) g u hg
    · exact hb _ hg
  · exact hb _ hg

end Cert.RingAttn

end
-- ==== Proof.Hops.lean ====
/-
# 01_k — the rules of the ring's copies and of the meeting of neighbours

A copy of the ring is started from the sender's share of its source and the place on the receiver handed over at the
barrier; its two semaphores are awaited for the share and for the block received. Signals and the barrier's wait give the
neighbours their places.
-/
module

public import proofs.«01_k».proof.Proof.Schedule

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The cells' records -/

/-- A device's cells: its barrier, its send cells and its receive cells. -/
abbrev CI : Type := Unit ⊕ (X ⊕ X)
instance : DecidableEq X := by infer_instance
instance : DecidableEq (X ⊕ X) := by infer_instance
instance : DecidableEq CI := by infer_instance

def cell (ci : Dev nD × CI) : GSem nD τ sig :=
  match ci.2 with
  | .inl _ => barCell ci.1
  | .inr (.inl x) => sendCell ci.1 x
  | .inr (.inr x) => recvCell ci.1 x

/-- Every cell's invariant, and that it has reached its first round. -/
def Recs (K : Dev nD × CI → ℕ) : sProp 𝕄 :=
  iprop((bigSep Finset.univ fun ci : Dev nD × CI => cellInv ER (Rd m) (K ci) (cell ci)) ∗ bigSep Finset.univ fun ci : Dev nD × CI => reached ER (cell ci) 0)

instance Recs_persistent (K : Dev nD × CI → ℕ) : BI.Persistent (Recs m K) := by unfold Recs; infer_instance

section

variable (K : Dev nD × CI → ℕ)

theorem Recs_inv (ci : Dev nD × CI) : Recs m K ⊢ (cellInv ER (Rd m) (K ci) (cell ci) : sProp 𝕄) := by
  unfold Recs
  exact sep_elim_left.trans (bigSep_elim (Finset.mem_univ ci))
theorem Recs_reached (ci : Dev nD × CI) : Recs m K ⊢ (reached ER (cell ci) 0 : sProp 𝕄) := by
  unfold Recs
  exact sep_elim_right.trans (bigSep_elim (Finset.mem_univ ci))

variable (c : Dev nD) {Q : Unit → sProp (MT nD τ sig Unit (Elt F) ℕ UU ℕ)}

/-! ## A copy -/

/-- The right to start copy `x`: the sender's share of its source, the place it goes to, and the duties it pays. -/
def Ready (x : X) : sProp 𝕄 :=
  iprop(Blk m c x.2.2 (from' c x.2.1 (hopNo x.1)) x.2.1 fullShare.left ∗ Spot (dst c x.2.1) x.2.2 (from' c x.2.1 (hopNo x.1)) x.2.1
    ∗ dutyTok ER (sendCell c x) 0 0 ∗ dutyTok ER (recvCell (dst c x.2.1) x) 0 0)

theorem wp_start (x : X) (xs : List X) {s : Shape} {V : Memref sig .tc .vmem s .bf16} {d : Dev nD} (hd : d = dst c x.2.1) {Y : s.Idx → Elt F .bf16}
    (hblk : Blk m c x.2.2 (from' c x.2.1 (hopNo x.1)) x.2.1 fullShare.left = owns (c : Thread nD τ) V fullShare.left Y)
    (hspot : Spot (F := F) (dst c x.2.1) x.2.2 (from' c x.2.1 (hopNo x.1)) x.2.1 ⊢ iprop(∃ Z, owns (dst c x.2.1 : Thread nD τ) V fullShare Z))
    (hrec : recvPay m (dst c x.2.1) x = owns (dst c x.2.1 : Thread nD τ) V fullShare Y)
    (hN : V.view.dmaCredit = amt x.2.2)
    {hsrc hdst : V.view.WordExact} {hsc : V.view.ref.isScScratch = false}
    {hsem : DmaTarget.Typed (nD := nD) (τ := τ) (p := .tc) .vmem (.dma (recvSem x.1 x.2.1 x.2.2)) (.remote (d : Thread nD τ) V (.dma (sendSem x.1 x.2.1 x.2.2)) hsc)}
    {k : PUnit → P F Unit} :
    iprop(Recs m K ∗ Ow c (oweL c (x :: xs)) ∗ Ready m c x)
      ⊢ (iprop((Ow c (oweL c xs) ∗ cred (tallyAt (sendCell c x) () (amt x.2.2)) -∗ WP c (k ⟨⟩) Q)
        -∗ WP c (.op (.enqueueDma V (.remote (Dev.tc d) V (.dma (sendSem x.1 x.2.1 x.2.2)) hsc) (.dma (recvSem x.1 x.2.1 x.2.2)) hsrc hdst hsem) k) Q) : sProp 𝕄) := by
  subst hd
  have key (fs : Buf (Elt F) (V.view.loc (c : Thread nD τ))) (hfs : V.view.read (Elt F) fs = Y)
      (fd : Buf (Elt F) (V.view.loc (dst c x.2.1 : Thread nD τ))) (W : Waits sig Unit) :=
    Rounds.wp_send_pointsTo (Q := Q) (defs := defs₀) (Γ := []) (Es := Set.univ) 𝒱₀ ER (Rd m) (c : Thread nD τ) none (c' := (dst c x.2.1 : Thread nD τ)) (src := V) (dst := V) (hsc := hsc)
      (hsrc := hsrc) (hdst := hdst) (hsem := hsem) (k := k) (fs := fs) (q := fullShare.left)
      (κ₁ := K (c, .inr (.inl x))) (κ₂ := K (dst c x.2.1, .inr (.inr x)))
      (r₁ := 0) (r₂ := 0) (d₁ := 0) (d₂ := 0) (fd := fd)
      (by rw [duties_send]; exact Finset.mem_singleton_self _) (by rw [duties_recv]; exact Finset.mem_singleton_self _)
      () () (amt x.2.2) hN (amount_send m c x 0) (amount_recv m (dst c x.2.1) x 0) (O₀ := oweL c (x :: xs)) (oweL c xs) rfl (W := W)
      (by rw [payload_send]; unfold sendPay; rw [hblk, ← hfs]; exact owns_intro _ _ _ _)
      (by
        rw [payload_recv, hrec]; unfold owns
        iintro H
        iexists _
        isplitr
        rotate_left
        · iexact H
        · ipureintro; rw [View.read_write_univ]; exact hfs)
  unfold Ready Ow
  rw [hblk]
  iintro ⟨#HR, ⟨%W, HO⟩, Hs, Hd, Ht1, Ht2⟩ Hk
  ihave ⟨%Z, Hd⟩ := hspot $$ Hd
  unfold owns
  icases Hs with ⟨%fs, %hfs, Hs⟩
  icases Hd with ⟨%fd, -, Hd⟩
  iapply (key fs hfs fd W) $$ [HO Hs Hd Ht1 Ht2]
  · isplitr; · iapply (Recs_inv m K (c, .inr (.inl x))) $$ HR
    isplitr; · iapply (Recs_inv m K (dst c x.2.1, .inr (.inr x))) $$ HR
    isplitl [Hs]; · iexact Hs
    isplitl [Hd]; · iexact Hd
    isplitl [HO]; · iexact HO
    isplitl [Ht1]; · iexact Ht1
    isplitr; · iapply (Recs_reached m K (c, .inr (.inl x))) $$ HR
    isplitl [Ht2]; · iexact Ht2
    iapply (Recs_reached m K (dst c x.2.1, .inr (.inr x))) $$ HR
  iintro ⟨Hc, HO⟩
  iapply Hk
  isplitl [HO]; · iexists _; iexact HO
  iexact Hc

/-- Await a copy's send semaphore. -/
theorem wp_waitSend (x : X) {s s' : Shape} {e e' : EltTy} {sp sp' : Space} {srcw : Memref sig .tc sp s e} {dstw : Memref sig .tc sp' s e}
    {hsrc : srcw.view.WordExact} {hdst : dstw.view.WordExact} (hN : dstw.view.dmaCredit = amt x.2.2) {O : CellTallies nD τ sig Unit} (hO : Above 0 O)
    {k : PUnit → P F Unit} :
    iprop(Recs m K ∗ levAts L lv ∗ Ow c O ∗ cred (tallyAt (sendCell c x) () (amt x.2.2)) ∗ atPos ER (sendCell c x) 0 ∅ 0)
      ⊢ (iprop((Ow c O ∗ sendPay m c x ∗ atPos ER (sendCell c x) 1 ∅ 0 -∗ WP c (k ⟨⟩) Q)
        -∗ WP c (.op (.waitDma2 (sendSem x.1 x.2.1 x.2.2) srcw dstw hsrc hdst) k) Q) : sProp 𝕄) := by
  unfold Ow
  iintro ⟨#HR, #Hlev, ⟨%W, HO⟩, Hc, Ha⟩ Hk
  have key := Rounds.wp_wait_rest_token (Q := Q) (k := k) (defs := defs₀) (Γ := []) (Es := Set.univ) 𝒱₀ ER (Rd m) (c : Thread nD τ) none (κ := K (c, .inr (.inl x)))
      (wpE_waitDma2_eq (defs := defs₀) 𝒱₀ (c : Thread nD τ) none Set.univ (sem := sendSem x.1 x.2.1 x.2.2) (src := srcw) (dst := dstw) (hsrc := hsrc) (hdst := hdst)) (Set.mem_univ _) () (O := O) (W := W) (R := 0) (m := 0) (T := ∅)
      (by rw [Nat.zero_add, expect_send m c x]; exact hN)
  rw [hN] at key
  iapply key $$ [HO Hc Ha]
  · isplitr; · iapply (Recs_inv m K (c, .inr (.inl x))) $$ HR
    isplitl [Hc]; · iexact Hc
    isplitl [HO]; · iexact HO
    isplitr; · iapply (mayWait_above (F := F) c (Nat.le_of_eq (lv_send c x)) hO) $$ Hlev
    iexact Ha
  iintro ⟨HO, Ha, -, Hpay⟩
  ihave Hpay := (Entails.of_eq (rest_send m c x)) $$ Hpay
  iapply Hk
  isplitl [HO]; · iexists _; iexact HO
  isplitl [Hpay] <;> iassumption

/-- Await a copy's receive semaphore. -/
theorem wp_waitRecv (x : X) {s s' : Shape} {e e' : EltTy} {sp sp' : Space} {srcw : Memref sig .tc sp s e} {dstw : Memref sig .tc sp' s e}
    {hsrc : srcw.view.WordExact} {hdst : dstw.view.WordExact} (hN : dstw.view.dmaCredit = amt x.2.2) {O : CellTallies nD τ sig Unit}
    (hO : Above (2 + x.1.val) O) {k : PUnit → P F Unit} :
    iprop(Recs m K ∗ levAts L lv ∗ Ow c O ∗ cred (tallyAt (recvCell c x) () (amt x.2.2)) ∗ atPos ER (recvCell c x) 0 ∅ 0)
      ⊢ (iprop((Ow c O ∗ recvPay m c x ∗ atPos ER (recvCell c x) 1 ∅ 0 -∗ WP c (k ⟨⟩) Q)
        -∗ WP c (.op (.waitDma2 (recvSem x.1 x.2.1 x.2.2) srcw dstw hsrc hdst) k) Q) : sProp 𝕄) := by
  unfold Ow
  iintro ⟨#HR, #Hlev, ⟨%W, HO⟩, Hc, Ha⟩ Hk
  have key := Rounds.wp_wait_rest_token (Q := Q) (k := k) (defs := defs₀) (Γ := []) (Es := Set.univ) 𝒱₀ ER (Rd m) (c : Thread nD τ) none (κ := K (c, .inr (.inr x)))
      (wpE_waitDma2_eq (defs := defs₀) 𝒱₀ (c : Thread nD τ) none Set.univ (sem := recvSem x.1 x.2.1 x.2.2) (src := srcw) (dst := dstw) (hsrc := hsrc) (hdst := hdst)) (Set.mem_univ _) () (O := O) (W := W) (R := 0) (m := 0) (T := ∅)
      (by rw [Nat.zero_add, expect_recv m c x]; exact hN)
  rw [hN] at key
  iapply key $$ [HO Hc Ha]
  · isplitr; · iapply (Recs_inv m K (c, .inr (.inr x))) $$ HR
    isplitl [Hc]; · iexact Hc
    isplitl [HO]; · iexact HO
    isplitr; · iapply (mayWait_above (F := F) c (Nat.le_of_eq (lv_recv c x)) hO) $$ Hlev
    iexact Ha
  iintro ⟨HO, Ha, -, Hpay⟩
  ihave Hpay := (Entails.of_eq (rest_recv m c x)) $$ Hpay
  iapply Hk
  isplitl [HO]; · iexists _; iexact HO
  isplitl [Hpay] <;> iassumption

theorem wp_sendQ (t : Fin 3) (h : Fin 2) (xs : List X) {j d : Dev nD} (hj : j = from' c h (hopNo t)) (hd : d = dst c h) {k : P F Unit} :
    iprop(Recs m K ∗ Ow c (oweL c ((t, h, 0) :: xs)) ∗ Ready m c (t, h, 0))
      ⊢ (iprop((Ow c (oweL c xs) ∗ cred (tallyAt (sendCell c (t, h, 0)) () (amt 0)) -∗ WP c k Q) -∗ WP c (sendQ t h (gqW j h) d k) Q) : sProp 𝕄) := by
  subst hj
  exact wp_start (F := F) m K c (t, h, 0) xs (V := gqV (gqW (from' c h (hopNo t)) h)) hd (Y := squeezed squeezes_S1x1x1024x512_S1024x512 (gqVal m (from' c h (hopNo t)) h))
    (owns_squeeze (F := F) c squeezes_S1x1x1024x512_S1024x512 _).symm
    (by
      unfold Spot
      iintro ⟨%Z, H⟩
      iexists _
      iapply (Entails.of_eq (owns_squeeze (F := F) (dst c h) squeezes_S1x1x1024x512_S1024x512 Z).symm) $$ H)
    (by
      unfold recvPay
      rw [show from' (dst c h) h (after t) = _ from from_dst c h t]
      exact (owns_squeeze (F := F) (dst c h) squeezes_S1x1x1024x512_S1024x512 _).symm)
    rfl (k := fun _ => k)

theorem wp_sendO (t : Fin 3) (h : Fin 2) (xs : List X) {j d : Dev nD} (hj : j = from' c h (hopNo t)) (hd : d = dst c h) {k : P F Unit} :
    iprop(Recs m K ∗ Ow c (oweL c ((t, h, 1) :: xs)) ∗ Ready m c (t, h, 1))
      ⊢ (iprop((Ow c (oweL c xs) ∗ cred (tallyAt (sendCell c (t, h, 1)) () (amt 1)) -∗ WP c k Q) -∗ WP c (sendO t h (goW j h) d k) Q) : sProp 𝕄) := by
  subst hj
  exact wp_start (F := F) m K c (t, h, 1) xs (V := goV (goW (from' c h (hopNo t)) h)) hd (Y := squeezed squeezes_S1x1x512x1024_S512x1024 (goVal m (from' c h (hopNo t)) h))
    (owns_squeeze (F := F) c squeezes_S1x1x512x1024_S512x1024 _).symm
    (by
      unfold Spot
      iintro ⟨%Z, H⟩
      iexists _
      iapply (Entails.of_eq (owns_squeeze (F := F) (dst c h) squeezes_S1x1x512x1024_S512x1024 Z).symm) $$ H)
    (by
      unfold recvPay
      rw [show from' (dst c h) h (after t) = _ from from_dst c h t]
      exact (owns_squeeze (F := F) (dst c h) squeezes_S1x1x512x1024_S512x1024 _).symm)
    rfl (k := fun _ => k)

/-! ## A hop -/

/-- For each of a hop's copies. -/
def Four (Φ : X → sProp 𝕄) (t : Fin 3) : sProp 𝕄 := iprop(Φ (t, 0, 0) ∗ Φ (t, 1, 0) ∗ Φ (t, 0, 1) ∗ Φ (t, 1, 1))

/-- What awaits a copy's semaphores, besides the sender's credit. -/
def Waiting (x : X) : sProp 𝕄 :=
  iprop(atPos ER (sendCell c x) 0 ∅ 0 ∗ atPos ER (recvCell c x) 0 ∅ 0 ∗ cred (tallyAt (recvCell c x) () (amt x.2.2)))
/-- What a started copy leaves. -/
def Started (x : X) : sProp 𝕄 := cred (tallyAt (sendCell c x) () (amt x.2.2))
/-- What an awaited copy leaves. -/
def Done (x : X) : sProp 𝕄 :=
  iprop(sendPay m c x ∗ recvPay m c x ∗ atPos ER (sendCell c x) 1 ∅ 0 ∗ atPos ER (recvCell c x) 1 ∅ 0)

theorem wp_hopStart (t : Fin 3) (xs : List X) {k : P F Unit} :
    iprop(Recs m K ∗ Ow c (oweL c (hopL t xs)) ∗ Four (Ready m c) t)
      ⊢ (iprop((Ow c (oweL c xs) ∗ Four (Started c) t -∗ WP c k Q) -∗ WP c (hopStart t (hop c t) k) Q) : sProp 𝕄) := by
  unfold Four Started
  iintro ⟨#HR, HO, H1, H2, H3, H4⟩ Hk
  iapply (wp_sendQ m K c t 0 _ rfl rfl) $$ [HO H1]
  · isplitr; · iexact HR
    isplitl [HO] <;> iassumption
  iintro ⟨HO, H1⟩
  iapply (wp_sendQ m K c t 1 _ rfl rfl) $$ [HO H2]
  · isplitr; · iexact HR
    isplitl [HO] <;> iassumption
  iintro ⟨HO, H2⟩
  iapply (wp_sendO m K c t 0 _ rfl rfl) $$ [HO H3]
  · isplitr; · iexact HR
    isplitl [HO] <;> iassumption
  iintro ⟨HO, H3⟩
  iapply (wp_sendO m K c t 1 _ rfl rfl) $$ [HO H4]
  · isplitr; · iexact HR
    isplitl [HO] <;> iassumption
  iintro ⟨HO, H4⟩
  iapply Hk
  isplitl [HO]; · iexact HO
  isplitl [H1]; · iexact H1
  isplitl [H2]; · iexact H2
  isplitl [H3] <;> iassumption

/-- Await one copy of Wq. -/
theorem wp_pairQ (t : Fin 3) (h : Fin 2) (x : GqW) {O : CellTallies nD τ sig Unit} (hO : Above (2 + t.val) O) {k : P F Unit} :
    iprop(Recs m K ∗ levAts L lv ∗ Ow c O ∗ Started c (t, h, 0) ∗ Waiting c (t, h, 0))
      ⊢ (iprop((Ow c O ∗ Done m c (t, h, 0) -∗ WP c k Q) -∗ WP c (waitQ (sendSem t h 0) x <| waitQ (recvSem t h 0) x k) Q) : sProp 𝕄) := by
  unfold Started Waiting Done
  iintro ⟨#HR, #Hlev, HO, Hc, Ha, Hb, Hd⟩ Hk
  iapply (wp_waitSend (F := F) m K c (t, h, 0) (s' := S1024x512) (e' := .f32) (srcw := gqV x) (dstw := gqV x) rfl (hO.mono (Nat.zero_le _))) $$ [HO Hc Ha]
  · isplitr; · iexact HR
    isplitr; · iexact Hlev
    isplitl [HO]; · iexact HO
    isplitl [Hc] <;> iassumption
  iintro ⟨HO, Hs, Ha⟩
  iapply (wp_waitRecv (F := F) m K c (t, h, 0) (s' := S1024x512) (e' := .f32) (srcw := gqV x) (dstw := gqV x) rfl hO) $$ [HO Hd Hb]
  · isplitr; · iexact HR
    isplitr; · iexact Hlev
    isplitl [HO]; · iexact HO
    isplitl [Hd] <;> iassumption
  iintro ⟨HO, Hr, Hb⟩
  iapply Hk
  isplitl [HO]; · iexact HO
  isplitl [Hs]; · iexact Hs
  isplitl [Hr]; · iexact Hr
  isplitl [Ha] <;> iassumption

/-- Await one copy of Wo. -/
theorem wp_pairO (t : Fin 3) (h : Fin 2) (x : GoW) {O : CellTallies nD τ sig Unit} (hO : Above (2 + t.val) O) {k : P F Unit} :
    iprop(Recs m K ∗ levAts L lv ∗ Ow c O ∗ Started c (t, h, 1) ∗ Waiting c (t, h, 1))
      ⊢ (iprop((Ow c O ∗ Done m c (t, h, 1) -∗ WP c k Q) -∗ WP c (waitO (sendSem t h 1) x <| waitO (recvSem t h 1) x k) Q) : sProp 𝕄) := by
  unfold Started Waiting Done
  iintro ⟨#HR, #Hlev, HO, Hc, Ha, Hb, Hd⟩ Hk
  iapply (wp_waitSend (F := F) m K c (t, h, 1) (s' := S1024x512) (e' := .f32) (srcw := goV x) (dstw := goV x) rfl (hO.mono (Nat.zero_le _))) $$ [HO Hc Ha]
  · isplitr; · iexact HR
    isplitr; · iexact Hlev
    isplitl [HO]; · iexact HO
    isplitl [Hc] <;> iassumption
  iintro ⟨HO, Hs, Ha⟩
  iapply (wp_waitRecv (F := F) m K c (t, h, 1) (s' := S1024x512) (e' := .f32) (srcw := goV x) (dstw := goV x) rfl hO) $$ [HO Hd Hb]
  · isplitr; · iexact HR
    isplitr; · iexact Hlev
    isplitl [HO]; · iexact HO
    isplitl [Hd] <;> iassumption
  iintro ⟨HO, Hr, Hb⟩
  iapply Hk
  isplitl [HO]; · iexact HO
  isplitl [Hs]; · iexact Hs
  isplitl [Hr]; · iexact Hr
  isplitl [Ha] <;> iassumption

theorem wp_hopWait (t : Fin 3) {O : CellTallies nD τ sig Unit} (hO : Above (2 + t.val) O) {k : P F Unit} :
    iprop(Recs m K ∗ levAts L lv ∗ Ow c O ∗ Four (Started c) t ∗ Four (Waiting c) t)
      ⊢ (iprop((Ow c O ∗ Four (Done m c) t -∗ WP c k Q) -∗ WP c (hopWait t (hop c t) k) Q) : sProp 𝕄) := by
  unfold Four
  iintro ⟨#HR, #Hlev, HO, ⟨H1, H2, H3, H4⟩, G1, G2, G3, G4⟩ Hk
  iapply (wp_pairQ m K c t 0 _ hO) $$ [HO H1 G1]
  · isplitr; · iexact HR
    isplitr; · iexact Hlev
    isplitl [HO]; · iexact HO
    isplitl [H1] <;> iassumption
  iintro ⟨HO, H1⟩
  iapply (wp_pairQ m K c t 1 _ hO) $$ [HO H2 G2]
  · isplitr; · iexact HR
    isplitr; · iexact Hlev
    isplitl [HO]; · iexact HO
    isplitl [H2] <;> iassumption
  iintro ⟨HO, H2⟩
  iapply (wp_pairO m K c t 0 _ hO) $$ [HO H3 G3]
  · isplitr; · iexact HR
    isplitr; · iexact Hlev
    isplitl [HO]; · iexact HO
    isplitl [H3] <;> iassumption
  iintro ⟨HO, H3⟩
  iapply (wp_pairO m K c t 1 _ hO) $$ [HO H4 G4]
  · isplitr; · iexact HR
    isplitr; · iexact Hlev
    isplitl [HO]; · iexact HO
    isplitl [H4] <;> iassumption
  iintro ⟨HO, H4⟩
  iapply Hk
  isplitl [HO]; · iexact HO
  isplitl [H1]; · iexact H1
  isplitl [H2]; · iexact H2
  isplitl [H3] <;> iassumption

/-! ## The meeting -/

/-- The right to meet the neighbours: the places each will write, and the signals' duties. -/
def Meet : sProp 𝕄 :=
  iprop(barPay (F := F) (bk c 1) 0 ∗ barPay (F := F) (fw c 1) 1
    ∗ dutyTok ER (barCell (bk c 1)) 0 0 ∗ dutyTok ER (barCell (fw c 1)) 0 1 ∗ cred (tallyAt (barCell c) () 2) ∗ atPos ER (barCell c) 0 ∅ 0)

theorem wp_meet {k : P F Unit} :
    iprop(Recs m K ∗ levAts L lv ∗ Ow c (O₀ c) ∗ Meet (F := F) c)
      ⊢ (iprop((Ow c (oweL c l0) ∗ barPay (F := F) c 0 ∗ barPay (F := F) c 1 ∗ atPos ER (barCell c) 1 ∅ 0 -∗ WP c k Q) -∗ WP c (meet (bk c 1) (fw c 1) k) Q) : sProp 𝕄) := by
  unfold Ow Meet
  iintro ⟨#HR, #Hlev, ⟨%W, HO⟩, HP0, HP1, Ht0, Ht1, Hc, Ha⟩ Hk
  iapply (Rounds.wp_signal 𝒱₀ ER (Rd m) (c : Thread nD τ) none (dst := (bk c 1 : Thread nD τ)) (κ := K (bk c 1, .inl ()))
      (d := 0) (by rw [duties_bar]; exact Finset.mem_univ _) ((amount_bar m (bk c 1) 0).trans (by decide)) () (Oc c) rfl)
    $$ [HO Ht0 HP0]
  · isplitr; · iapply (Recs_inv m K (bk c 1, .inl ())) $$ HR
    isplitl [HO]; · iexact HO
    isplitl [Ht0]; · iexact Ht0
    isplitl [HP0]; · rw [payload_bar]; iexact HP0
    iapply (Recs_reached m K (bk c 1, .inl ())) $$ HR
  iintro HO
  iapply (Rounds.wp_signal 𝒱₀ ER (Rd m) (c : Thread nD τ) none (dst := (fw c 1 : Thread nD τ)) (κ := K (fw c 1, .inl ()))
      (d := 1) (by rw [duties_bar]; exact Finset.mem_univ _) ((amount_bar m (fw c 1) 1).trans (by decide)) () (oweL c l0) rfl)
    $$ [HO Ht1 HP1]
  · isplitr; · iapply (Recs_inv m K (fw c 1, .inl ())) $$ HR
    isplitl [HO]; · iexact HO
    isplitl [Ht1]; · iexact Ht1
    isplitl [HP1]; · rw [payload_bar]; iexact HP1
    iapply (Recs_reached m K (fw c 1, .inl ())) $$ HR
  iintro HO
  iapply (Rounds.wp_wait_rest_token 𝒱₀ ER (Rd m) (c : Thread nD τ) none (κ := K (c, .inl ()))
      (wpE_semWait_eq 𝒱₀ (c : Thread nD τ) none Set.univ) (Set.mem_univ _) () (O := oweL c l0) (W := W) (R := 0) (m := 0) (T := ∅)
      (by rw [expect_bar]; decide)) $$ [Hc HO Ha]
  · isplitr; · iapply (Recs_inv m K (c, .inl ())) $$ HR
    isplitl [Hc]; · iexact Hc
    isplitl [HO]; · iexact HO
    isplitr
    · iapply (mayWait_above (F := F) c (Nat.le_of_eq (lv_bar c)) (oweL_above fun x _ => by omega)) $$ Hlev
    iexact Ha
  iintro ⟨HO, Ha, -, Hpay⟩
  ihave ⟨Hp0, Hp1⟩ := (Entails.of_eq (rest_bar m c)) $$ Hpay
  iapply Hk
  isplitl [HO]; · iexists _; iexact HO
  isplitl [Hp0]; · iexact Hp0
  isplitl [Hp1] <;> iassumption

end

end Cert.RingAttn

end
-- ==== Proof.Parts.lean ====
/-
# 01_k — buffers and their pieces

A buffer is its pieces: the slots of the gathered weights by halves, the heads of the query and context buffers, the
slots of the K and V buffers, the quarters of the output. A memref's slice at offset zero of its own extents is the memref.
-/
module

public import proofs.«01_k».proof.Proof.Hops
public import Idealize.ShloMosaic.Lib.Pipeline.Value

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

section Cuts

variable (c : Dev nD) {s : Shape} {e : EltTy} {sp : Space} {size : Fin s.rank → ℕ} {T : Type} [Fintype T] [DecidableEq T]

/-- The rectangles at offsets `o` cut the shape: each index lies in the one `φ` names. -/
def Cut (o : T → Off s size) (φ : s.Idx → T) : Prop := ∀ t x, x ∈ (o t).rect.set ↔ φ x = t

theorem Cut.disjoint {o : T → Off s size} {φ : s.Idx → T} (h : Cut o φ) (t t' : T) (ht : t ≠ t') : Disjoint (o t).rect.set (o t').rect.set :=
  Finset.disjoint_left.mpr fun x hx hx' => ht (((h t x).mp hx).symm.trans ((h t' x).mp hx'))

theorem Cut.cover {o : T → Off s size} {φ : s.Idx → T} (h : Cut o φ) : (Finset.univ : Finset T).biUnion (fun t => (o t).rect.set) = Finset.univ := by
  ext x
  simp only [Finset.mem_biUnion, Finset.mem_univ, _root_.true_and, iff_true]
  exact ⟨φ x, (h _ x).mpr rfl⟩

theorem Cut.emb {o : T → Off s size} {φ : s.Idx → T} (h : Cut o φ) (t : T) (j : (o t).rect.shape.Idx) : φ ((o t).rect.emb j) = t :=
  (h t _).mp (by rw [← Rect.map_emb_univ]; exact Finset.mem_map_of_mem _ (Finset.mem_univ j))

/-- Contents given piece by piece are the pieces of one. -/
theorem Cut.glue {V : Type} {o : T → Off s size} {φ : s.Idx → T} (h : Cut o φ) (Y : (t : T) → (⟨s.rank, size⟩ : Shape).Idx → V) :
    ∃ X : s.Idx → V, ∀ t j, X ((o t).rect.emb j) = Y t j := by
  have hx (x : s.Idx) : ∃ j, (o (φ x)).rect.emb j = x := by
    have := (h (φ x) x).mpr rfl
    rw [← Rect.map_emb_univ, Finset.mem_map] at this
    obtain ⟨j, -, hj⟩ := this
    exact ⟨j, hj⟩
  refine ⟨fun x => Y (φ x) (hx x).choose, fun t j => ?_⟩
  have key : ∀ (t' : T) (j' : (⟨s.rank, size⟩ : Shape).Idx), t' = t → (o t').rect.emb j' = (o t).rect.emb j → Y t' j' = Y t j := by
    rintro t' j' rfl he
    rw [(o t').rect.emb.injective he]
  exact key _ _ (h.emb t j) (hx _).choose_spec

variable (m : Memref sig .tc sp s e)

theorem pieces_of_owns {o : T → Off s size} {φ : s.Idx → T} (h : Cut o φ) (X : s.Idx → Elt F e) :
    (owns (c : Thread nD τ) m fullShare X : sProp 𝕄) ⊢ Pieces c (fun t => m.slice (o t).rect (fun _ => rfl)) (fun (t : T) (j : (⟨s.rank, size⟩ : Shape).Idx) => X ((o t).rect.emb j)) :=
  owns_rects (c : Thread nD τ) m fullShare (fun t => (o t).rect) (fun _ _ => rfl) h.disjoint h.cover X

theorem owns_of_pieces_at {o : T → Off s size} {φ : s.Idx → T} (h : Cut o φ) (Y : T → (⟨s.rank, size⟩ : Shape).Idx → Elt F e) (X : s.Idx → Elt F e)
    (hX : ∀ (t : T) (j : (⟨s.rank, size⟩ : Shape).Idx), X ((o t).rect.emb j) = Y t j) :
    Pieces c (fun t => m.slice (o t).rect (fun _ => rfl)) Y ⊢ (owns (c : Thread nD τ) m fullShare X : sProp 𝕄) := by
  iintro H
  iapply (owns_of_rects (Ix := Unit) (Name := ℕ) (U := UU) (Lvl := ℕ) (c : Thread nD τ) m fullShare (fun t => (o t).rect) (fun _ _ => rfl) h.disjoint h.cover X)
  unfold Pieces
  iapply (Entails.of_eq (bigSep_congr (s := Finset.univ) fun t _ => ?_)) $$ H
  congr 1
  funext j
  exact (hX t j).symm

theorem owns_of_pieces {o : T → Off s size} {φ : s.Idx → T} (h : Cut o φ) (Y : T → (⟨s.rank, size⟩ : Shape).Idx → Elt F e) :
    Pieces c (fun t => m.slice (o t).rect (fun _ => rfl)) Y
      ⊢ (iprop(∃ X : s.Idx → Elt F e, ⌜∀ (t : T) (j : (⟨s.rank, size⟩ : Shape).Idx), X ((o t).rect.emb j) = Y t j⌝
        ∗ owns (c : Thread nD τ) m fullShare X) : sProp 𝕄) := by
  obtain ⟨X, hX⟩ := h.glue Y
  iintro H
  iexists X
  isplitr; · ipureintro; exact hX
  iapply (owns_of_pieces_at c m h Y X hX) $$ H

/-- A slice at offset zero of all the extents is the whole. -/
theorem owns_full {off : Fin s.rank → ℕ} (h : off = fun _ => 0) {inb : ∀ a, off a + s.size a ≤ s.size a} {q : PosShare TreeShare} (X : s.Idx → Elt F e) :
    (owns (c : Thread nD τ) (m.slice (Rect.unit (s := s) off s.size inb) (fun _ => rfl)) q X : sProp 𝕄) = owns (c : Thread nD τ) m q X := by
  have hX : (fun j => X ((Rect.unit (s := s) off s.size inb).emb j)) = X := View.ld_unit_zero h inb X
  have hd : ∀ t t' : Unit, t ≠ t' → Disjoint (Rect.unit (s := s) off s.size inb).set (Rect.unit (s := s) off s.size inb).set := fun t t' ht => absurd rfl ht
  have hcov : (Finset.univ : Finset Unit).biUnion (fun _ => (Rect.unit (s := s) off s.size inb).set) = Finset.univ := by
    ext x
    simp only [Finset.mem_biUnion, Finset.mem_univ, _root_.true_and, iff_true]
    exact ⟨(), View.mem_set_unit_zero h inb x⟩
  have h₁ := owns_rects (Ix := Unit) (Name := ℕ) (U := UU) (Lvl := ℕ) (c : Thread nD τ) m q (fun _ : Unit => Rect.unit (s := s) off s.size inb) (fun _ _ => rfl) hd hcov X
  have h₂ := owns_of_rects (Ix := Unit) (Name := ℕ) (U := UU) (Lvl := ℕ) (c : Thread nD τ) m q (fun _ : Unit => Rect.unit (s := s) off s.size inb) (fun _ _ => rfl) hd hcov X
  simp only [hX] at h₁ h₂
  rw [show (Finset.univ : Finset Unit) = {()} from rfl, bigSep_singleton] at h₁ h₂
  exact BI.equiv_iff.mp ⟨h₂, h₁⟩

end Cuts

/-! ## The cuts -/

theorem cut_gq : Cut (fun jh : Dev nD × Fin 2 => gqOff jh.1 jh.2) (fun x => (x 0, x 1)) := by
  rintro ⟨j, h⟩ x
  rw [Rect.mem_set_unit]
  constructor
  · intro H
    have h0 : j.val ≤ (x 0 : ℕ) ∧ (x 0 : ℕ) < j.val + 1 := H 0
    have h1 : h.val ≤ (x 1 : ℕ) ∧ (x 1 : ℕ) < h.val + 1 := H 1
    exact Prod.ext (Fin.ext (by show (x 0 : ℕ) = j.val; omega)) (Fin.ext (by show (x 1 : ℕ) = h.val; omega))
  · intro H
    obtain ⟨rfl, rfl⟩ := Prod.mk.inj H
    intro a
    fin_cases a
    · exact ⟨Nat.le_refl _, Nat.lt_succ_self _⟩
    · exact ⟨Nat.le_refl _, Nat.lt_succ_self _⟩
    · exact ⟨Nat.zero_le _, by have : (x 2 : ℕ) < 1024 := (x 2).isLt; show (x 2 : ℕ) < 0 + 1024; omega⟩
    · exact ⟨Nat.zero_le _, by have : (x 3 : ℕ) < 512 := (x 3).isLt; show (x 3 : ℕ) < 0 + 512; omega⟩

theorem cut_go : Cut (fun jh : Dev nD × Fin 2 => goOff jh.1 jh.2) (fun x => (x 0, x 1)) := by
  rintro ⟨j, h⟩ x
  rw [Rect.mem_set_unit]
  constructor
  · intro H
    have h0 : j.val ≤ (x 0 : ℕ) ∧ (x 0 : ℕ) < j.val + 1 := H 0
    have h1 : h.val ≤ (x 1 : ℕ) ∧ (x 1 : ℕ) < h.val + 1 := H 1
    exact Prod.ext (Fin.ext (by show (x 0 : ℕ) = j.val; omega)) (Fin.ext (by show (x 1 : ℕ) = h.val; omega))
  · intro H
    obtain ⟨rfl, rfl⟩ := Prod.mk.inj H
    intro a
    fin_cases a
    · exact ⟨Nat.le_refl _, Nat.lt_succ_self _⟩
    · exact ⟨Nat.le_refl _, Nat.lt_succ_self _⟩
    · exact ⟨Nat.zero_le _, by have : (x 2 : ℕ) < 512 := (x 2).isLt; show (x 2 : ℕ) < 0 + 512; omega⟩
    · exact ⟨Nat.zero_le _, by have : (x 3 : ℕ) < 1024 := (x 3).isLt; show (x 3 : ℕ) < 0 + 1024; omega⟩

theorem cut_head : Cut (fun h : Fin 8 => (headOff h).toOff) (fun x => x 0) := by
  intro h x
  rw [Rect.mem_set_unit]
  constructor
  · intro H
    have h0 : h.val ≤ (x 0 : ℕ) ∧ (x 0 : ℕ) < h.val + 1 := H 0
    exact Fin.ext (by show (x 0 : ℕ) = h.val; omega)
  · rintro rfl
    intro a
    fin_cases a
    · exact ⟨Nat.le_refl _, Nat.lt_succ_self _⟩
    · exact ⟨Nat.zero_le _, by have : (x 1 : ℕ) < 2048 := (x 1).isLt; show (x 1 : ℕ) < 0 + 2048; omega⟩
    · exact ⟨Nat.zero_le _, by have : (x 2 : ℕ) < 128 := (x 2).isLt; show (x 2 : ℕ) < 0 + 128; omega⟩

theorem cut_slot : Cut (fun σ : Fin 4 => slotOff σ) (fun x => x 0) := by
  intro h x
  rw [Rect.mem_set_unit]
  constructor
  · intro H
    have h0 : h.val ≤ (x 0 : ℕ) ∧ (x 0 : ℕ) < h.val + 1 := H 0
    exact Fin.ext (by show (x 0 : ℕ) = h.val; omega)
  · rintro rfl
    intro a
    fin_cases a
    · exact ⟨Nat.le_refl _, Nat.lt_succ_self _⟩
    · exact ⟨Nat.zero_le _, by have : (x 1 : ℕ) < 2048 := (x 1).isLt; show (x 1 : ℕ) < 0 + 2048; omega⟩
    · exact ⟨Nat.zero_le _, by have : (x 2 : ℕ) < 128 := (x 2).isLt; show (x 2 : ℕ) < 0 + 128; omega⟩

/-- The quarter of the output an element lies in. -/
def quarter (x : S1x2048x1024.Idx) : Fin 4 := ⟨(x 1 : ℕ) / 512, by have : (x 1 : ℕ) < 2048 := (x 1).isLt; omega⟩

theorem cut_out : Cut (fun j : Fin 4 => outOff j) quarter := by
  intro j x
  rw [Rect.mem_set_unit]
  constructor
  · intro H
    have h1 : 512 * j.val ≤ (x 1 : ℕ) ∧ (x 1 : ℕ) < 512 * j.val + 512 := H 1
    exact Fin.ext (by show (x 1 : ℕ) / 512 = j.val; omega)
  · rintro rfl
    intro a
    fin_cases a
    · exact ⟨Nat.zero_le _, by have : (x 0 : ℕ) < 1 := (x 0).isLt; show (x 0 : ℕ) < 0 + 1; omega⟩
    · exact ⟨by show 512 * ((x 1 : ℕ) / 512) ≤ (x 1 : ℕ); omega, by show (x 1 : ℕ) < 512 * ((x 1 : ℕ) / 512) + 512; omega⟩
    · exact ⟨Nat.zero_le _, by have : (x 2 : ℕ) < 1024 := (x 2).isLt; show (x 2 : ℕ) < 0 + 1024; omega⟩

/-! ## The scratch buffers -/

section Scratch

variable (c : Dev nD)

/-- A buffer of the device, whole, with any contents. -/
abbrev Some' (b : Ref sig .tc) : sProp 𝕄 := iprop(∃ f : Buf (Elt F) ((c : Thread nD τ).loc b), ((c : Thread nD τ).loc b) ↦{fullShare} f)

theorem some_owns (b : Ref sig .tc) : Some' (F := F) c b = iprop(∃ X, owns (c : Thread nD τ) (Memref.whole b) fullShare X) := by
  unfold Some'
  simp only [owns_whole]

theorem some_pieces {b : Ref sig .tc} {sp : Space} {s t : Shape} {e : EltTy} {T : Type} [Fintype T] (m : Memref sig .tc sp s e) (M : T → Memref sig .tc sp t e)
    (hb : Some' (F := F) c b = iprop(∃ X, owns (c : Thread nD τ) m fullShare X))
    (hM : ∀ X, owns (c : Thread nD τ) m fullShare X ⊢ (iprop(∃ Y, Pieces c M Y) : sProp 𝕄)) : Some' (F := F) c b ⊢ (iprop(∃ Y, Pieces c M Y) : sProp 𝕄) := by
  rw [hb]
  iintro ⟨%X, H⟩
  iapply (hM X) $$ H

theorem heads_of (m : Memref sig .tc .vmem S8x2048x128 .bf16) (X : Vec F S8x2048x128 .bf16) :
    (owns (c : Thread nD τ) m fullShare X : sProp 𝕄) ⊢ iprop(∃ Y, Heads c m Y) := by
  iintro H
  iexists _
  iapply (pieces_of_owns (F := F) c m cut_head X) $$ H
theorem of_heads (m : Memref sig .tc .vmem S8x2048x128 .bf16) :
    (iprop(∃ Y, Heads c m Y) : sProp 𝕄) ⊢ iprop(∃ X, owns (c : Thread nD τ) m fullShare X) := by
  iintro ⟨%Y, H⟩
  ihave ⟨%X, %h, H⟩ := (owns_of_pieces (F := F) c m cut_head Y) $$ H
  iexists X; iexact H

theorem some_heads : Some' (F := F) c cc0_scratch3 ⊢ (iprop(∃ Y, Heads c mQ Y) : sProp 𝕄) := some_pieces c mQ (headM mQ) (some_owns c _) (heads_of c mQ)
theorem some_headsC : Some' (F := F) c cc0_scratch4 ⊢ (iprop(∃ Y, Heads c mC Y) : sProp 𝕄) := some_pieces c mC (headM mC) (some_owns c _) (heads_of c mC)
theorem heads_some : (iprop(∃ Y, Heads c mQ Y) : sProp 𝕄) ⊢ Some' (F := F) c cc0_scratch3 := by rw [some_owns]; exact of_heads c mQ
theorem headsC_some : (iprop(∃ Y, Heads c mC Y) : sProp 𝕄) ⊢ Some' (F := F) c cc0_scratch4 := by rw [some_owns]; exact of_heads c mC

/-- Direction and distance name a half of a slot. -/
def turn : Fin 2 × Fin 4 ≃ Dev nD × Fin 2 :=
  Equiv.ofBijective (fun hp => (from' c hp.1 hp.2, hp.1)) (by revert c; decide +kernel)

/-- Both halves of all four slots of device `c`, with any contents. -/
def Spots (w : Fin 2) : sProp 𝕄 := bigSep Finset.univ fun hp : Fin 2 × Fin 4 => Spot (F := F) c w (from' c hp.1 hp.2) hp.1

theorem spots_eq (w : Fin 2) : Spots (F := F) c w = bigSep Finset.univ fun jh : Dev nD × Fin 2 => Spot (F := F) c w jh.1 jh.2 := by
  unfold Spots
  rw [BI.bigSep_univ_equiv (turn c) (fun jh : Dev nD × Fin 2 => Spot (F := F) c w jh.1 jh.2)]
  rfl

theorem some_spots0 : Some' (F := F) c cc0_scratch0 ⊢ Spots (F := F) c 0 := by
  rw [spots_eq, some_owns]
  iintro ⟨%X, H⟩
  ihave H := (pieces_of_owns (F := F) c mGq cut_gq X) $$ H
  have e : Pieces c (fun jh : Dev nD × Fin 2 => gqM jh.1 jh.2) (fun (jh : Dev nD × Fin 2) (j : S1x1x1024x512.Idx) => X ((gqOff jh.1 jh.2).rect.emb j))
      ⊢ (bigSep Finset.univ fun jh : Dev nD × Fin 2 => Spot (F := F) c 0 jh.1 jh.2 : sProp 𝕄) := by
    unfold Pieces
    refine bigSep_mono fun jh _ => ?_
    show (owns (c : Thread nD τ) (gqM jh.1 jh.2) fullShare _ : sProp 𝕄) ⊢ iprop(∃ Y, owns (c : Thread nD τ) (gqM jh.1 jh.2) fullShare Y)
    iintro H
    iexists _; iexact H
  iapply e $$ H

theorem spots_some0 : Spots (F := F) c 0 ⊢ Some' (F := F) c cc0_scratch0 := by
  rw [spots_eq, some_owns]
  have e : (bigSep Finset.univ fun jh : Dev nD × Fin 2 => Spot (F := F) c 0 jh.1 jh.2 : sProp 𝕄)
      ⊢ iprop(∃ Y : Dev nD × Fin 2 → Vec F S1x1x1024x512 .bf16, Pieces c (fun jh : Dev nD × Fin 2 => gqM jh.1 jh.2) Y) := by
    unfold Spot Pieces
    haveI : ∀ (s : Shape) (e : EltTy), Nonempty (Vec F s e) := fun s e => ⟨fun _ => Classical.choice (Elt.nonempty F e)⟩
    exact BI.bigSep_exists_pi Finset.univ (fun (jh : Dev nD × Fin 2) (Y : Vec F S1x1x1024x512 .bf16) => (owns (c : Thread nD τ) (gqM jh.1 jh.2) fullShare Y : sProp 𝕄))
  iintro H
  ihave ⟨%Y, H⟩ := e $$ H
  ihave ⟨%X, %h, H⟩ := (owns_of_pieces (F := F) c mGq cut_gq Y) $$ H
  iexists X; iexact H

theorem some_spots1 : Some' (F := F) c cc0_scratch1 ⊢ Spots (F := F) c 1 := by
  rw [spots_eq, some_owns]
  iintro ⟨%X, H⟩
  ihave H := (pieces_of_owns (F := F) c mGo cut_go X) $$ H
  have e : Pieces c (fun jh : Dev nD × Fin 2 => goM jh.1 jh.2) (fun (jh : Dev nD × Fin 2) (j : S1x1x512x1024.Idx) => X ((goOff jh.1 jh.2).rect.emb j))
      ⊢ (bigSep Finset.univ fun jh : Dev nD × Fin 2 => Spot (F := F) c 1 jh.1 jh.2 : sProp 𝕄) := by
    unfold Pieces
    refine bigSep_mono fun jh _ => ?_
    show (owns (c : Thread nD τ) (goM jh.1 jh.2) fullShare _ : sProp 𝕄) ⊢ iprop(∃ Y, owns (c : Thread nD τ) (goM jh.1 jh.2) fullShare Y)
    iintro H
    iexists _; iexact H
  iapply e $$ H

theorem spots_some1 : Spots (F := F) c 1 ⊢ Some' (F := F) c cc0_scratch1 := by
  rw [spots_eq, some_owns]
  have e : (bigSep Finset.univ fun jh : Dev nD × Fin 2 => Spot (F := F) c 1 jh.1 jh.2 : sProp 𝕄)
      ⊢ iprop(∃ Y : Dev nD × Fin 2 → Vec F S1x1x512x1024 .bf16, Pieces c (fun jh : Dev nD × Fin 2 => goM jh.1 jh.2) Y) := by
    unfold Spot Pieces
    haveI : ∀ (s : Shape) (e : EltTy), Nonempty (Vec F s e) := fun s e => ⟨fun _ => Classical.choice (Elt.nonempty F e)⟩
    exact BI.bigSep_exists_pi Finset.univ (fun (jh : Dev nD × Fin 2) (Y : Vec F S1x1x512x1024 .bf16) => (owns (c : Thread nD τ) (goM jh.1 jh.2) fullShare Y : sProp 𝕄))
  iintro H
  ihave ⟨%Y, H⟩ := e $$ H
  ihave ⟨%X, %h, H⟩ := (owns_of_pieces (F := F) c mGo cut_go Y) $$ H
  iexists X; iexact H

end Scratch

end Cert.RingAttn

end
-- ==== Proof.Prologue.lean ====
/-
# 01_k — the prologue

The first two heads of K and V start on their way, x is cast and the output cleared, the device's own blocks of Wq and Wo
are staged a half at a time into their slots, and the neighbours are met.
-/
module

public import proofs.«01_k».proof.Proof.Parts

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- The semaphore of the staging of half `h` of Wq (`w = 0`) or Wo (`w = 1`). -/
abbrev inSemOf (w h : Fin 2) : DmaSem sig := inSem w h (by revert w h; decide +kernel)

section Stage

variable (c : Dev nD)

abbrev inCell (w h : Fin 2) : sProp 𝕄 := semVal ((c : Thread nD τ), SemLoc.dma (inSemOf w h)) 0

/-- The device's blocks of Wq and Wo, and the buffers their halves are staged in. -/
def Src : sProp 𝕄 :=
  iprop((mWq.view.loc (c : Thread nD τ) ↦{fullShare} m ((c : Thread nD τ).loc main_arg1))
    ∗ (mWo.view.loc (c : Thread nD τ) ↦{fullShare} m ((c : Thread nD τ).loc main_arg4))
    ∗ (∃ Y, owns (c : Thread nD τ) mWqs fullShare Y) ∗ ∃ Y, owns (c : Thread nD τ) mWos fullShare Y)

/-- Half `h` of Wq on its way. -/
def FlyQ (h : Fin 2) : sProp 𝕄 :=
  iprop(Flight EC (c : Thread nD τ) (.dma (inSemOf 0 h)) () mWqs.view.dmaCredit
      iprop(owns (c : Thread nD τ) mWqs fullShare ((wqV (wqOff h)).view.read (Elt F) (m ((c : Thread nD τ).loc main_arg1)))
        ∗ (mWq.view.loc (c : Thread nD τ) ↦[(wqV (wqOff h)).view.set]{fullShare} m ((c : Thread nD τ).loc main_arg1)))
    ∗ (mWq.view.loc (c : Thread nD τ) ↦[Finset.univ \ (wqV (wqOff h)).view.set]{fullShare} m ((c : Thread nD τ).loc main_arg1)))
/-- Half `h` of Wo on its way. -/
def FlyO (h : Fin 2) : sProp 𝕄 :=
  iprop(Flight EC (c : Thread nD τ) (.dma (inSemOf 1 h)) () mWos.view.dmaCredit
      iprop(owns (c : Thread nD τ) mWos fullShare ((woV (woOff h)).view.read (Elt F) (m ((c : Thread nD τ).loc main_arg4)))
        ∗ (mWo.view.loc (c : Thread nD τ) ↦[(woV (woOff h)).view.set]{fullShare} m ((c : Thread nD τ).loc main_arg4)))
    ∗ (mWo.view.loc (c : Thread nD τ) ↦[Finset.univ \ (woV (woOff h)).view.set]{fullShare} m ((c : Thread nD τ).loc main_arg4)))

theorem inSem_low (w h : Fin 2) : lv ((c : Thread nD τ), SemLoc.dma (inSemOf w h)) () ≤ 0 := by
  have e : ∀ w h : Fin 2, (inSemOf w h).val < 26 := by decide +kernel
  have := e w h
  show (if 26 ≤ (inSemOf w h).val then _ else 0) ≤ 0
  rw [if_neg (by omega)]

variable {Q : Unit → sProp (MT nD τ sig Unit (Elt F) ℕ UU ℕ)}

theorem wp_stageStart (h : Fin 2) {k : P F Unit} :
    iprop(Src m c ∗ inCell c 0 h ∗ inCell c 1 h)
      ⊢ (iprop((FlyQ m c h ∗ FlyO m c h -∗ WP c k Q) -∗ WP c (stageStart (inSemOf 0 h) (inSemOf 1 h) (wqOff h) (woOff h) k) Q) : sProp 𝕄) := by
  unfold Src FlyQ FlyO
  iintro ⟨⟨Hwq, Hwo, ⟨%Yq, Hbq⟩, ⟨%Yo, Hbo⟩⟩, Hcq, Hco⟩ Hk
  ihave ⟨Hwq, Hrq⟩ := (pointsTo_split_subset (Finset.subset_univ (wqV (wqOff h)).view.set)).1 $$ Hwq
  ihave ⟨Hwo, Hro⟩ := (pointsTo_split_subset (Finset.subset_univ (woV (woOff h)).view.set)).1 $$ Hwo
  iapply (wp_copy_owns (F := F) c (q := fullShare) (fs := m ((c : Thread nD τ).loc main_arg1)) (src := wqV (wqOff h)) (dst := mWqs)
    (sm := .dma (inSemOf 0 h)) (Y := Yq) mWqs.view.dmaCredit rfl (View.dmaCredit_pos _ (by decide +kernel))) $$ [Hwq Hbq Hcq]
  · isplitl [Hwq]; · iexact Hwq
    isplitl [Hbq] <;> iassumption
  iintro HFq
  iapply (wp_copy_owns (F := F) c (q := fullShare) (fs := m ((c : Thread nD τ).loc main_arg4)) (src := woV (woOff h)) (dst := mWos)
    (sm := .dma (inSemOf 1 h)) (Y := Yo) mWos.view.dmaCredit rfl (View.dmaCredit_pos _ (by decide +kernel))) $$ [Hwo Hbo Hco]
  · isplitl [Hwo]; · iexact Hwo
    isplitl [Hbo] <;> iassumption
  iintro HFo
  iapply Hk
  isplitl [HFq Hrq]; · isplitl [HFq] <;> iassumption
  isplitl [HFo] <;> iassumption

theorem wp_stageWait (h : Fin 2) {O : CellTallies nD τ sig Unit} (hO : Above 0 O) {k : P F Unit} :
    iprop(levAts L lv ∗ Ow c O ∗ FlyQ m c h ∗ FlyO m c h ∗ Spot c 0 c h ∗ Spot c 1 c h)
      ⊢ (iprop((Ow c O ∗ Src m c ∗ inCell c 0 h ∗ inCell c 1 h ∗ Blk m c 0 c h fullShare ∗ Blk m c 1 c h fullShare -∗ WP c k Q)
        -∗ WP c (stageWait (inSemOf 0 h) (inSemOf 1 h) (wqOff h) (woOff h) (gqP c h) (goP c h) k) Q) : sProp 𝕄) := by
  unfold Src FlyQ FlyO Blk Spot
  dsimp only
  iintro ⟨#Hlev, HO, ⟨HFq, Hrq⟩, ⟨HFo, Hro⟩, ⟨%Zq, Hgq⟩, ⟨%Zo, Hgo⟩⟩ Hk
  iapply (wp_await (F := F) c hO (inSem_low c 0 h) rfl) $$ [HO HFq]
  · isplitr; · iexact Hlev
    isplitl [HO] <;> iassumption
  iintro ⟨HO, ⟨Hbq, Hwq⟩, Hcq⟩
  ihave Hbq := (Entails.of_eq (owns_full (F := F) c mWqs (off := ![0, 0]) (by decide) (inb := inb_S1024x512_S1024x512_0_0) _).symm) $$ Hbq
  iapply (wp_load_owns (F := F) c (m := mWqs) (r := Rect.unit (s := S1024x512) ![0, 0] S1024x512.size inb_S1024x512_S1024x512_0_0) (fun _ => rfl)) $$ Hbq
  iintro Hbq
  ihave Hbq := (Entails.of_eq (owns_full (F := F) c mWqs (off := ![0, 0]) (by decide) (inb := inb_S1024x512_S1024x512_0_0) _)) $$ Hbq
  iapply (wp_load_owns (F := F) c (m := mGq) (r := (gqOff c h).rect) (fun _ => rfl)) $$ Hgq
  iintro Hgq
  iapply (wp_store_owns (F := F) c (m := mGq) (r := (gqOff c h).rect) (fun _ => rfl)) $$ Hgq
  iintro Hgq
  iapply (wp_await (F := F) c hO (inSem_low c 1 h) rfl) $$ [HO HFo]
  · isplitr; · iexact Hlev
    isplitl [HO] <;> iassumption
  iintro ⟨HO, ⟨Hbo, Hwo⟩, Hco⟩
  ihave Hbo := (Entails.of_eq (owns_full (F := F) c mWos (off := ![0, 0]) (by decide) (inb := inb_S512x1024_S512x1024_0_0) _).symm) $$ Hbo
  iapply (wp_load_owns (F := F) c (m := mWos) (r := Rect.unit (s := S512x1024) ![0, 0] S512x1024.size inb_S512x1024_S512x1024_0_0) (fun _ => rfl)) $$ Hbo
  iintro Hbo
  ihave Hbo := (Entails.of_eq (owns_full (F := F) c mWos (off := ![0, 0]) (by decide) (inb := inb_S512x1024_S512x1024_0_0) _)) $$ Hbo
  iapply (wp_load_owns (F := F) c (m := mGo) (r := (goOff c h).rect) (fun _ => rfl)) $$ Hgo
  iintro Hgo
  iapply (wp_store_owns (F := F) c (m := mGo) (r := (goOff c h).rect) (fun _ => rfl)) $$ Hgo
  iintro Hgo
  iapply Hk
  isplitl [HO]; · iexact HO
  isplitl [Hwq Hrq Hwo Hro Hbq Hbo]
  · isplitl [Hwq Hrq]
    · iapply (pointsTo_split_subset (Finset.subset_univ (wqV (wqOff h)).view.set)).2
      isplitl [Hwq] <;> iassumption
    isplitl [Hwo Hro]
    · iapply (pointsTo_split_subset (Finset.subset_univ (woV (woOff h)).view.set)).2
      isplitl [Hwo] <;> iassumption
    isplitl [Hbq]; · iexists _; iexact Hbq
    iexists _; iexact Hbo
  isplitl [Hcq]; · iexact Hcq
  isplitl [Hco]; · iexact Hco
  isplitl [Hgq]; · iexact Hgq
  iexact Hgo

theorem wp_castX {x : Vec F S1x2048x1024 .f32} {k : P F Unit} :
    iprop(owns (c : Thread nD τ) mX fullShare x ∗ (∃ Y, owns (c : Thread nD τ) mXb fullShare Y) ∗ ∃ Y, owns (c : Thread nD τ) mOut fullShare Y)
      ⊢ (iprop((owns (c : Thread nD τ) mX fullShare x ∗ owns (c : Thread nD τ) mXb fullShare (k0_pay73 x)
            ∗ owns (c : Thread nD τ) mOut fullShare (k0_pay74 (F := F)) -∗ WP c k Q) -∗ WP c (castX k) Q) : sProp 𝕄) := by
  iintro ⟨Hx, ⟨%Yb, Hb⟩, ⟨%Yo, Ho⟩⟩ Hk
  ihave Hx := (Entails.of_eq (owns_full (F := F) c mX (off := ![0, 0, 0]) (by decide) (inb := inb_S1x2048x1024_S1x2048x1024_0_0_0) _).symm) $$ Hx
  ihave Hb := (Entails.of_eq (owns_full (F := F) c mXb (off := ![0, 0]) (by decide) (inb := inb_S2048x1024_S2048x1024_0_0) _).symm) $$ Hb
  ihave Ho := (Entails.of_eq (owns_full (F := F) c mOut (off := ![0, 0, 0]) (by decide) (inb := inb_S1x2048x1024_S1x2048x1024_0_0_0) _).symm) $$ Ho
  iapply (wp_load_owns (F := F) c (m := mX) (r := rX) (fun _ => rfl)) $$ Hx
  iintro Hx
  iapply (wp_load_owns (F := F) c (m := mXb) (r := rXb) (fun _ => rfl)) $$ Hb
  iintro Hb
  iapply (wp_store_owns (F := F) c (m := mXb) (r := rXb) (fun _ => rfl)) $$ Hb
  iintro Hb
  iapply (wp_load_owns (F := F) c (m := mOut) (r := rX) (fun _ => rfl)) $$ Ho
  iintro Ho
  iapply (wp_store_owns (F := F) c (m := mOut) (r := rX) (fun _ => rfl)) $$ Ho
  iintro Ho
  ihave Hx := (Entails.of_eq (owns_full (F := F) c mX (off := ![0, 0, 0]) (by decide) (inb := inb_S1x2048x1024_S1x2048x1024_0_0_0) _)) $$ Hx
  ihave Hb := (Entails.of_eq (owns_full (F := F) c mXb (off := ![0, 0]) (by decide) (inb := inb_S2048x1024_S2048x1024_0_0) _)) $$ Hb
  ihave Ho := (Entails.of_eq (owns_full (F := F) c mOut (off := ![0, 0, 0]) (by decide) (inb := inb_S1x2048x1024_S1x2048x1024_0_0_0) _)) $$ Ho
  iapply Hk
  isplitl [Hx]; · iexact Hx
  isplitl [Hb] <;> iassumption

end Stage

/-- The staging semaphores, all at rest. -/
def InCells (c : Dev nD) : sProp 𝕄 := iprop(inCell c 0 0 ∗ inCell c 1 0 ∗ inCell c 0 1 ∗ inCell c 1 1)
/-- The four slots of K and V, all at rest. -/
def Slots (c : Dev nD) (fK : Buf (Elt F) (mK.view.loc (c : Thread nD τ))) (fV : Buf (Elt F) (mV.view.loc (c : Thread nD τ))) : sProp 𝕄 :=
  iprop(IdleKV c fK fV 0 ∗ IdleKV c fK fV 1 ∗ IdleKV c fK fV 2 ∗ IdleKV c fK fV 3)
theorem KV_first (c : Dev nD) (fK : Buf (Elt F) (mK.view.loc (c : Thread nD τ))) (fV : Buf (Elt F) (mV.view.loc (c : Thread nD τ))) :
    KV c fK fV 0 = (iprop((FlyKV c fK fV 0 ∗ FlyKV c fK fV 1) ∗ IdleKV c fK fV 2 ∗ IdleKV c fK fV 3) : sProp 𝕄) := by
  unfold KV
  rw [dif_pos (by decide)]
  rfl
theorem KV_last (c : Dev nD) (fK : Buf (Elt F) (mK.view.loc (c : Thread nD τ))) (fV : Buf (Elt F) (mV.view.loc (c : Thread nD τ))) :
    KV c fK fV 16 = (iprop((IdleKV c fK fV 0 ∗ IdleKV c fK fV 1) ∗ IdleKV c fK fV 2 ∗ IdleKV c fK fV 3) : sProp 𝕄) := by
  unfold KV
  rw [dif_neg (by decide)]
  rfl
/-- The device's own four half blocks, gathered. -/
def Own (c : Dev nD) : sProp 𝕄 :=
  iprop(Blk m c 0 c 0 fullShare ∗ Blk m c 0 c 1 fullShare ∗ Blk m c 1 c 0 fullShare ∗ Blk m c 1 c 1 fullShare)
def OwnSpots (c : Dev nD) : sProp 𝕄 := iprop(Spot c 0 c 0 ∗ Spot c 0 c 1 ∗ Spot c 1 c 0 ∗ Spot c 1 c 1)

theorem wp_prologue (K : Dev nD × CI → ℕ) {c : Dev nD} {fK : Buf (Elt F) (mK.view.loc (c : Thread nD τ))} {fV : Buf (Elt F) (mV.view.loc (c : Thread nD τ))}
    {x : Vec F S1x2048x1024 .f32} {k : P F Unit} {Q : Unit → sProp (MT nD τ sig Unit (Elt F) ℕ UU ℕ)} :
    iprop(Recs m K ∗ levAts L lv ∗ Ow c (O₀ c) ∗ Meet c ∗ Slots c fK fV ∗ InCells c ∗ Src m c ∗ OwnSpots c
        ∗ owns (c : Thread nD τ) mX fullShare x ∗ (∃ Y, owns (c : Thread nD τ) mXb fullShare Y) ∗ ∃ Y, owns (c : Thread nD τ) mOut fullShare Y)
      ⊢ (iprop((Ow c (oweL c l0) ∗ (barPay c 0 ∗ barPay c 1 ∗ atPos ER (barCell c) 1 ∅ 0) ∗ KV c fK fV 0 ∗ InCells c ∗ Src m c ∗ Own m c
            ∗ owns (c : Thread nD τ) mX fullShare x ∗ owns (c : Thread nD τ) mXb fullShare (k0_pay73 x)
            ∗ owns (c : Thread nD τ) mOut fullShare (k0_pay74 (F := F)) -∗ WP c k Q)
        -∗ WP c (prologue (pro c) k) Q) : sProp 𝕄) := by
  unfold Slots InCells Own OwnSpots
  iintro ⟨#HR, #Hlev, HO, HM, ⟨HK0, HK1, HK2, HK3⟩, ⟨Hc00, Hc10, Hc01, Hc11⟩, HS, ⟨Hs00, Hs01, Hs10, Hs11⟩, Hx, Hb, Ho⟩ Hk
  have k0 := wp_kvStart (F := F) (c := c) (fK := fK) (fV := fV) (Q := Q) 0
    (k := kvStart (startArgs c 1).sK (startArgs c 1).sV (startArgs c 1).d (startArgs c 1).s <|
      stageStart (inSemOf 0 0) (inSemOf 1 0) (wqOff 0) (woOff 0) <| castX <|
      stageWait (inSemOf 0 0) (inSemOf 1 0) (wqOff 0) (woOff 0) (gqP c 0) (goP c 0) <|
      stageStart (inSemOf 0 1) (inSemOf 1 1) (wqOff 1) (woOff 1) <|
      stageWait (inSemOf 0 1) (inSemOf 1 1) (wqOff 1) (woOff 1) (gqP c 1) (goP c 1) <| meet (bk c 1) (fw c 1) k)
  have k1 := wp_kvStart (F := F) (c := c) (fK := fK) (fV := fV) (Q := Q) 1
    (k := stageStart (inSemOf 0 0) (inSemOf 1 0) (wqOff 0) (woOff 0) <| castX <|
      stageWait (inSemOf 0 0) (inSemOf 1 0) (wqOff 0) (woOff 0) (gqP c 0) (goP c 0) <|
      stageStart (inSemOf 0 1) (inSemOf 1 1) (wqOff 1) (woOff 1) <|
      stageWait (inSemOf 0 1) (inSemOf 1 1) (wqOff 1) (woOff 1) (gqP c 1) (goP c 1) <| meet (bk c 1) (fw c 1) k)
  rw [show slotOf 0 = 0 from rfl] at k0
  rw [show slotOf 1 = 1 from rfl] at k1
  iapply k0 $$ HK0
  iintro HK0
  iapply k1 $$ HK1
  iintro HK1
  iapply (wp_stageStart m c 0) $$ [HS Hc00 Hc10]
  · isplitl [HS]; · iexact HS
    isplitl [Hc00] <;> iassumption
  iintro ⟨HFq, HFo⟩
  iapply (wp_castX c) $$ [Hx Hb Ho]
  · isplitl [Hx]; · iexact Hx
    isplitl [Hb] <;> iassumption
  iintro ⟨Hx, Hb, Ho⟩
  iapply (wp_stageWait m c 0 (O₀_above c)) $$ [HO HFq HFo Hs00 Hs10]
  · isplitr; · iexact Hlev
    isplitl [HO]; · iexact HO
    isplitl [HFq]; · iexact HFq
    isplitl [HFo]; · iexact HFo
    isplitl [Hs00] <;> iassumption
  iintro ⟨HO, HS, Hc00, Hc10, Hs00, Hs10⟩
  iapply (wp_stageStart m c 1) $$ [HS Hc01 Hc11]
  · isplitl [HS]; · iexact HS
    isplitl [Hc01] <;> iassumption
  iintro ⟨HFq, HFo⟩
  iapply (wp_stageWait m c 1 (O₀_above c)) $$ [HO HFq HFo Hs01 Hs11]
  · isplitr; · iexact Hlev
    isplitl [HO]; · iexact HO
    isplitl [HFq]; · iexact HFq
    isplitl [HFo]; · iexact HFo
    isplitl [Hs01] <;> iassumption
  iintro ⟨HO, HS, Hc01, Hc11, Hs01, Hs11⟩
  iapply (wp_meet m K c) $$ [HO HM]
  · isplitr; · iexact HR
    isplitr; · iexact Hlev
    isplitl [HO] <;> iassumption
  iintro ⟨HO, HB⟩
  iapply Hk
  isplitl [HO]; · iexact HO
  isplitl [HB]; · iexact HB
  isplitl [HK0 HK1 HK2 HK3]
  · unfold KV
    rw [dif_pos (by decide)]
    isplitl [HK0 HK1]
    · isplitl [HK0]
      · iexact HK0
      iexact HK1
    isplitl [HK2]
    · iexact HK2
    iexact HK3
  isplitl [Hc00 Hc10 Hc01 Hc11]
  · isplitl [Hc00]; · iexact Hc00
    isplitl [Hc10]; · iexact Hc10
    isplitl [Hc01] <;> iassumption
  isplitl [HS]; · iexact HS
  isplitl [Hs00 Hs01 Hs10 Hs11]
  · isplitl [Hs00]; · iexact Hs00
    isplitl [Hs01]; · iexact Hs01
    isplitl [Hs10] <;> iassumption
  isplitl [Hx]; · iexact Hx
  isplitl [Hb] <;> iassumption

end Cert.RingAttn

end
-- ==== Proof.Legs.lean ====
/-
# 01_k — a leg of the ring

A hop's four copies go out, the phase works on the half blocks at hand meanwhile, and the hop is awaited: the half blocks
are whole again and the next ones are at hand.
-/
module

public import proofs.«01_k».proof.Proof.Prologue
public import Idealize.ShloMosaic.Lib.MemrefSat

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Have

variable (c : Dev nD)

/-- The half blocks at hand at phase `p`, at share `q`. -/
def Have (p : Fin 4) (q : PosShare TreeShare) : sProp 𝕄 :=
  iprop(Blk m c 0 (bk c p) 0 q ∗ Blk m c 0 (fw c p) 1 q ∗ Blk m c 1 (bk c p) 0 q ∗ Blk m c 1 (fw c p) 1 q)

theorem Blk_halves (w : Fin 2) (j : Dev nD) (h : Fin 2) :
    (Blk m c w j h fullShare : sProp 𝕄) ⊣⊢ iprop(Blk m c w j h fullShare.left ∗ Blk m c w j h fullShare.right) := by
  unfold Blk
  split <;> exact owns_halves _ _ _ _

theorem Have_split (p : Fin 4) : (Have m c p fullShare : sProp 𝕄) ⊢ iprop(Have m c p fullShare.left ∗ Have m c p fullShare.right) := by
  unfold Have
  iintro ⟨H1, H2, H3, H4⟩
  ihave ⟨H1, G1⟩ := (Blk_halves m c _ _ _).1 $$ H1
  ihave ⟨H2, G2⟩ := (Blk_halves m c _ _ _).1 $$ H2
  ihave ⟨H3, G3⟩ := (Blk_halves m c _ _ _).1 $$ H3
  ihave ⟨H4, G4⟩ := (Blk_halves m c _ _ _).1 $$ H4
  isplitl [H1 H2 H3 H4]
  · isplitl [H1]; · iexact H1
    isplitl [H2]; · iexact H2
    isplitl [H3] <;> iassumption
  isplitl [G1]; · iexact G1
  isplitl [G2]; · iexact G2
  isplitl [G3] <;> iassumption

theorem Have_join (p : Fin 4) : iprop(Have m c p fullShare.left ∗ Have m c p fullShare.right) ⊢ (Have m c p fullShare : sProp 𝕄) := by
  unfold Have
  iintro ⟨⟨H1, H2, H3, H4⟩, G1, G2, G3, G4⟩
  isplitl [H1 G1]
  · iapply (Blk_halves m c _ _ _).2
    isplitl [H1] <;> iassumption
  isplitl [H2 G2]
  · iapply (Blk_halves m c _ _ _).2
    isplitl [H2] <;> iassumption
  isplitl [H3 G3]
  · iapply (Blk_halves m c _ _ _).2
    isplitl [H3] <;> iassumption
  iapply (Blk_halves m c _ _ _).2
  isplitl [H4] <;> iassumption

/-- The place a copy goes to on the neighbour. -/
def Room (x : X) : sProp 𝕄 := Spot (dst c x.2.1) x.2.2 (from' c x.2.1 (hopNo x.1)) x.2.1
/-- The duties a copy pays. -/
def Tok (x : X) : sProp 𝕄 := iprop(dutyTok ER (sendCell c x) 0 0 ∗ dutyTok ER (recvCell (dst c x.2.1) x) 0 0)
/-- A copy's cells past their round. -/
def Past (x : X) : sProp 𝕄 := iprop(atPos ER (sendCell c x) 1 ∅ 0 ∗ atPos ER (recvCell c x) 1 ∅ 0)

theorem ready_intro (t : Fin 3) :
    iprop(Have m c (hopNo t) fullShare.left ∗ Four (Room (F := F) c) t ∗ Four (Tok (F := F) c) t) ⊢ (Four (Ready m c) t : sProp 𝕄) := by
  unfold Four Have Room Tok Ready
  iintro ⟨⟨H1, H2, H3, H4⟩, ⟨R1, R2, R3, R4⟩, ⟨T1, T2, T3, T4⟩⟩
  isplitl [H1 R1 T1]
  · isplitl [H1]; · iexact H1
    isplitl [R1] <;> iassumption
  isplitl [H2 R2 T2]
  · isplitl [H2]; · iexact H2
    isplitl [R2] <;> iassumption
  isplitl [H3 R3 T3]
  · isplitl [H3]; · iexact H3
    isplitl [R3] <;> iassumption
  isplitl [H4]; · iexact H4
  isplitl [R4] <;> iassumption

theorem done_elim (t : Fin 3) :
    (Four (Done m c) t : sProp 𝕄) ⊢ iprop(Have m c (hopNo t) fullShare.left ∗ Have m c (after t) fullShare ∗ Four (Past (F := F) c) t) := by
  unfold Four Have Past Done sendPay recvPay
  iintro ⟨⟨H1, G1, P1⟩, ⟨H2, G2, P2⟩, ⟨H3, G3, P3⟩, ⟨H4, G4, P4⟩⟩
  isplitl [H1 H2 H3 H4]
  · isplitl [H1]; · iexact H1
    isplitl [H2]; · iexact H2
    isplitl [H3]; · iexact H3
    iexact H4
  isplitl [G1 G2 G3 G4]
  · isplitl [G1]; · iexact G1
    isplitl [G2]; · iexact G2
    isplitl [G3]; · iexact G3
    iexact G4
  isplitl [P1]; · iexact P1
  isplitl [P2]; · iexact P2
  isplitl [P3]; · iexact P3
  iexact P4

end Have

/-- The output with phase `p`'s product added. -/
def outStep (c : Dev nD) (fK : Buf (Elt F) (mK.view.loc (c : Thread nD τ))) (fV : Buf (Elt F) (mV.view.loc (c : Thread nD τ)))
    (xb : Vec F S2048x1024 .bf16) (p : Fin 4) (o : Fin 4 → Vec F S1x512x1024 .f32) : Fin 4 → Vec F S1x512x1024 .f32 :=
  outOf (ctxOf c p fK fV (qOf xb (gqVal m (bk c p) 0) (gqVal m (fw c p) 1))) (goVal m (bk c p) 0) (goVal m (fw c p) 1) o

section Leg

variable (K : Dev nD × CI → ℕ) {c : Dev nD} {fK : Buf (Elt F) (mK.view.loc (c : Thread nD τ))} {fV : Buf (Elt F) (mV.view.loc (c : Thread nD τ))}
variable {O : CellTallies nD τ sig Unit} {xb : Vec F S2048x1024 .bf16} {o : Fin 4 → Vec F S1x512x1024 .f32} {k : P F Unit}
variable {Q : Unit → sProp (MT nD τ sig Unit (Elt F) ℕ UU ℕ)} {l : Scf.Loop 32} {hok : l.OK}

/-- A phase, on the half blocks at hand. -/
theorem wp_work (p : Fin 4) (hl : l.trips = 4) (g : Fin l.trips → Fin 16) (hg : ∀ k, (g k).val = 4 * p.val + k.val) (hO : Above 0 O) {q : PosShare TreeShare} :
    iprop(levAts L lv ∗ Ow c O ∗ Have m c p q ∗ owns (c : Thread nD τ) mXb fullShare xb ∗ Work c p.val fK fV o)
      ⊢ (iprop((Ow c O ∗ Have m c p q ∗ owns (c : Thread nD τ) mXb fullShare xb ∗ Work c (p.val + 1) fK fV (outStep m c fK fV xb p o) -∗ WP c k Q)
        -∗ WP c (phase (ph c p) (Scf.Loop.for l hok ⟨⟩ (fun k _ => trip c (g k))) k) Q) : sProp 𝕄) := by
  unfold Have Blk
  dsimp only
  iintro ⟨#Hlev, HO, ⟨H1, H2, H3, H4⟩, Hx, HW⟩ Hk
  ihave Hx := (Entails.of_eq (owns_full (F := F) c mXb (off := ![0, 0]) (by decide) (inb := inb_S2048x1024_S2048x1024_0_0) _).symm) $$ Hx
  have key := wp_phase (F := F) (c := c) (fK := fK) (fV := fV) p (hok := hok) hl g hg hO (q := q) (xb := xb) (wA := gqVal m (bk c p) 0) (wB := gqVal m (fw c p) 1)
    (wC := goVal m (bk c p) 0) (wD := goVal m (fw c p) 1) (o := o) (k := k) (Q := Q)
  unfold Lent at key
  iapply key $$ [HO H1 H2 H3 H4 Hx HW]
  · isplitr; · iexact Hlev
    isplitl [HO]; · iexact HO
    isplitr [HW]
    · isplitl [Hx]; · iexact Hx
      isplitl [H1]; · iexact H1
      isplitl [H2]; · iexact H2
      isplitl [H3] <;> iassumption
    iexact HW
  iintro ⟨HO, ⟨Hx, H1, H2, H3, H4⟩, HW⟩
  ihave Hx := (Entails.of_eq (owns_full (F := F) c mXb (off := ![0, 0]) (by decide) (inb := inb_S2048x1024_S2048x1024_0_0) _)) $$ Hx
  iapply Hk
  isplitl [HO]; · iexact HO
  isplitl [H1 H2 H3 H4]
  · isplitl [H1]; · iexact H1
    isplitl [H2]; · iexact H2
    isplitl [H3] <;> iassumption
  isplitl [Hx]; · iexact Hx
  iexact HW

/-- A hop with its phase of work. -/
theorem wp_leg (t : Fin 3) (xs : List X) (hxs : ∀ x ∈ xs, 2 + t.val < 2 + x.1.val) (hl : l.trips = 4) (g : Fin l.trips → Fin 16)
    (hg : ∀ k, (g k).val = 4 * t.val + k.val) :
    iprop(Recs m K ∗ levAts L lv ∗ Ow c (oweL c (hopL t xs)) ∗ Have m c (hopNo t) fullShare ∗ (Four (Room (F := F) c) t ∗ Four (Tok (F := F) c) t ∗ Four (Waiting (F := F) c) t)
        ∗ owns (c : Thread nD τ) mXb fullShare xb ∗ Work c t.val fK fV o)
      ⊢ (iprop((Ow c (oweL c xs) ∗ (Have m c (hopNo t) fullShare ∗ Four (Past (F := F) c) t) ∗ Have m c (after t) fullShare
            ∗ owns (c : Thread nD τ) mXb fullShare xb ∗ Work c (t.val + 1) fK fV (outStep m c fK fV xb (hopNo t) o) -∗ WP c k Q)
        -∗ WP c (hopStart t (hop c t) <| phase (ph c (hopNo t)) (Scf.Loop.for l hok ⟨⟩ (fun k _ => trip c (g k))) <| hopWait t (hop c t) k) Q) : sProp 𝕄) := by
  iintro ⟨#HR, #Hlev, HO, HH, ⟨HRm, HT, HWt⟩, Hx, HW⟩ Hk
  ihave ⟨HL, HH⟩ := (Have_split m c _) $$ HH
  ihave HRd := (ready_intro m c t) $$ [HL HRm HT]
  · isplitl [HL]; · iexact HL
    isplitl [HRm] <;> iassumption
  iapply (wp_hopStart m K c t xs) $$ [HO HRd]
  · isplitr; · iexact HR
    isplitl [HO] <;> iassumption
  iintro ⟨HO, HSt⟩
  iapply (wp_work (F := F) m (hopNo t) hl g hg (oweL_above fun x _ => by omega)) $$ [HO HH Hx HW]
  · isplitr; · iexact Hlev
    isplitl [HO]; · iexact HO
    isplitl [HH]; · iexact HH
    isplitl [Hx] <;> iassumption
  iintro ⟨HO, HH, Hx, HW⟩
  iapply (wp_hopWait m K c t (oweL_above hxs)) $$ [HO HSt HWt]
  · isplitr; · iexact HR
    isplitr; · iexact Hlev
    isplitl [HO]; · iexact HO
    isplitl [HSt] <;> iassumption
  iintro ⟨HO, HD⟩
  ihave ⟨HL, HN, HP⟩ := (done_elim m c t) $$ HD
  iapply Hk
  isplitl [HO]; · iexact HO
  isplitl [HL HH HP]
  · isplitl [HL HH]
    · iapply (Have_join m c _)
      isplitl [HL] <;> iassumption
    iexact HP
  isplitl [HN]; · iexact HN
  isplitl [Hx] <;> iassumption

end Leg

end Cert.RingAttn

end
-- ==== Proof.Body.lean ====
/-
# 01_k — the body

From what a device holds when the kernel starts to what it gives back: the prologue, three legs of the ring, the last
phase, and every cell closed at zero.
-/
module

public import proofs.«01_k».proof.Proof.Legs

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Places, gathered and handed out -/

theorem bar_list (c : Dev nD) (h : Fin 2) : barPay (F := F) c h
    = (iprop(Spot (dst c h) 0 (from' c h (hopNo 0)) h ∗ Spot (dst c h) 1 (from' c h (hopNo 0)) h ∗ Spot (dst c h) 0 (from' c h (hopNo 1)) h
      ∗ Spot (dst c h) 1 (from' c h (hopNo 1)) h ∗ Spot (dst c h) 0 (from' c h (hopNo 2)) h ∗ Spot (dst c h) 1 (from' c h (hopNo 2)) h) : sProp 𝕄) := by
  unfold barPay
  rw [bigSep_univ_eq_bigSepL [((0 : Fin 3), (0 : Fin 2)), (0, 1), (1, 0), (1, 1), (2, 0), (2, 1)] (by decide) (by decide)]
  rfl

/-- The copies' places on the neighbours, from what they hand over at the barrier. -/
theorem rooms (c : Dev nD) : iprop(barPay (F := F) c 0 ∗ barPay (F := F) c 1)
    ⊢ (iprop(Four (Room (F := F) c) 0 ∗ Four (Room (F := F) c) 1 ∗ Four (Room (F := F) c) 2) : sProp 𝕄) := by
  rw [bar_list, bar_list]
  unfold Four Room
  iintro ⟨⟨A1, A2, A3, A4, A5, A6⟩, B1, B2, B3, B4, B5, B6⟩
  isplitl [A1 A2 B1 B2]
  · isplitl [A1]; · iexact A1
    isplitl [B1]; · iexact B1
    isplitl [A2]; · iexact A2
    iexact B2
  isplitl [A3 A4 B3 B4]
  · isplitl [A3]; · iexact A3
    isplitl [B3]; · iexact B3
    isplitl [A4]; · iexact A4
    iexact B4
  isplitl [A5]; · iexact A5
  isplitl [B5]; · iexact B5
  isplitl [A6]; · iexact A6
  iexact B6

theorem spots_list (c : Dev nD) (w : Fin 2) : Spots (F := F) c w
    = (iprop(Spot c w (bk c 0) 0 ∗ Spot c w (bk c 1) 0 ∗ Spot c w (bk c 2) 0 ∗ Spot c w (bk c 3) 0
      ∗ Spot c w (fw c 0) 1 ∗ Spot c w (fw c 1) 1 ∗ Spot c w (fw c 2) 1 ∗ Spot c w (fw c 3) 1) : sProp 𝕄) := by
  unfold Spots
  rw [bigSep_univ_eq_bigSepL [((0 : Fin 2), (0 : Fin 4)), (0, 1), (0, 2), (0, 3), (1, 0), (1, 1), (1, 2), (1, 3)] (by decide) (by decide)]
  rfl

theorem bk_zero (c : Dev nD) : bk c 0 = c := by revert c; decide +kernel
theorem fw_zero (c : Dev nD) : fw c 0 = c := by revert c; decide +kernel

/-- What a device hands a neighbour: the places that will be written from there. -/
theorem handed (c : Dev nD) (h : Fin 2) :
    (iprop(Spot c 0 (from' c h 1) h ∗ Spot c 1 (from' c h 1) h ∗ Spot c 0 (from' c h 2) h ∗ Spot c 1 (from' c h 2) h
      ∗ Spot c 0 (from' c h 3) h ∗ Spot c 1 (from' c h 3) h) : sProp 𝕄) ⊢ barPay (F := F) (dst c (opp h)) h := by
  rw [bar_list]
  have e (t : Fin 3) (w : Fin 2) : Spot (F := F) (dst (dst c (opp h)) h) w (from' (dst c (opp h)) h (hopNo t)) h = Spot c w (from' c h (after t)) h := by
    rw [← from_dst, dst_opp]
  rw [e, e, e, e, e, e]
  exact Entails.of_eq rfl

theorem spots_out (c : Dev nD) : iprop(Spots (F := F) c 0 ∗ Spots (F := F) c 1)
    ⊢ (iprop(OwnSpots (F := F) c ∗ barPay (F := F) (bk c 1) 0 ∗ barPay (F := F) (fw c 1) 1) : sProp 𝕄) := by
  rw [spots_list, spots_list, bk_zero, fw_zero]
  unfold OwnSpots
  iintro ⟨⟨A0, A1, A2, A3, B0, B1, B2, B3⟩, C0, C1, C2, C3, D0, D1, D2, D3⟩
  isplitl [A0 B0 C0 D0]
  · isplitl [A0]; · iexact A0
    isplitl [B0]; · iexact B0
    isplitl [C0]; · iexact C0
    iexact D0
  isplitl [A1 A2 A3 C1 C2 C3]
  · iapply (handed c 0)
    isplitl [A1]; · iexact A1
    isplitl [C1]; · iexact C1
    isplitl [A2]; · iexact A2
    isplitl [C2]; · iexact C2
    isplitl [A3]; · iexact A3
    iexact C3
  iapply (handed c 1)
  isplitl [B1]; · iexact B1
  isplitl [D1]; · iexact D1
  isplitl [B2]; · iexact B2
  isplitl [D2]; · iexact D2
  isplitl [B3]; · iexact B3
  iexact D3

theorem Blk_spot (c : Dev nD) (w : Fin 2) (j : Dev nD) (h : Fin 2) : Blk m c w j h fullShare ⊢ (Spot c w j h : sProp 𝕄) := by
  unfold Blk Spot
  match w with
  | 0 => exact exists_intro (Φ := fun Y => owns (c : Thread nD τ) (gqM j h) fullShare Y) _
  | 1 => exact exists_intro (Φ := fun Y => owns (c : Thread nD τ) (goM j h) fullShare Y) _

/-- All the half blocks gathered are all the places. -/
theorem haves_spots (c : Dev nD) : iprop(Have m c 0 fullShare ∗ Have m c 1 fullShare ∗ Have m c 2 fullShare ∗ Have m c 3 fullShare)
    ⊢ (iprop(Spots (F := F) c 0 ∗ Spots (F := F) c 1) : sProp 𝕄) := by
  rw [spots_list, spots_list]
  unfold Have
  iintro ⟨⟨A0, B0, C0, D0⟩, ⟨A1, B1, C1, D1⟩, ⟨A2, B2, C2, D2⟩, A3, B3, C3, D3⟩
  isplitl [A0 A1 A2 A3 B0 B1 B2 B3]
  · isplitl [A0]; · iapply (Blk_spot m c _ _ _) $$ A0
    isplitl [A1]; · iapply (Blk_spot m c _ _ _) $$ A1
    isplitl [A2]; · iapply (Blk_spot m c _ _ _) $$ A2
    isplitl [A3]; · iapply (Blk_spot m c _ _ _) $$ A3
    isplitl [B0]; · iapply (Blk_spot m c _ _ _) $$ B0
    isplitl [B1]; · iapply (Blk_spot m c _ _ _) $$ B1
    isplitl [B2]; · iapply (Blk_spot m c _ _ _) $$ B2
    iapply (Blk_spot m c _ _ _) $$ B3
  isplitl [C0]; · iapply (Blk_spot m c _ _ _) $$ C0
  isplitl [C1]; · iapply (Blk_spot m c _ _ _) $$ C1
  isplitl [C2]; · iapply (Blk_spot m c _ _ _) $$ C2
  isplitl [C3]; · iapply (Blk_spot m c _ _ _) $$ C3
  isplitl [D0]; · iapply (Blk_spot m c _ _ _) $$ D0
  isplitl [D1]; · iapply (Blk_spot m c _ _ _) $$ D1
  isplitl [D2]; · iapply (Blk_spot m c _ _ _) $$ D2
  iapply (Blk_spot m c _ _ _) $$ D3

theorem own_have (c : Dev nD) : Own m c ⊢ (Have m c 0 fullShare : sProp 𝕄) := by
  unfold Own Have
  rw [bk_zero, fw_zero]

/-! ## The cells, closed -/

/-- A copy's two cells, at rest. -/
def Rest (c : Dev nD) (x : X) : sProp 𝕄 := iprop(semVal (sendCell c x) 0 ∗ semVal (recvCell c x) 0)

theorem past_close (K : Dev nD × CI → ℕ) (c : Dev nD) (x : X) :
    iprop(Recs m K ∗ Past (F := F) c x) ⊢ (iprop(|={Set.univ}=> Rest (F := F) c x) : sProp 𝕄) := by
  unfold Past Rest
  iintro ⟨#HR, Ha, Hb⟩
  imod (Rounds.cell_close ER (Rd m) (Set.mem_univ (K (c, .inr (.inl x)))) (fun h => h) (R := 1) (duties_later m (sendCell c x))) $$ [Ha] with Ha
  · isplitr; · iapply (Recs_inv m K (c, .inr (.inl x))) $$ HR
    iexact Ha
  imod (Rounds.cell_close ER (Rd m) (Set.mem_univ (K (c, .inr (.inr x)))) (fun h => h) (R := 1) (duties_later m (recvCell c x))) $$ [Hb] with Hb
  · isplitr; · iapply (Recs_inv m K (c, .inr (.inr x))) $$ HR
    iexact Hb
  imodintro
  isplitl [Ha]; · iexact Ha
  iexact Hb

theorem four_close (K : Dev nD × CI → ℕ) (c : Dev nD) (t : Fin 3) :
    iprop(Recs m K ∗ Four (Past (F := F) c) t) ⊢ (iprop(|={Set.univ}=> Four (Rest (F := F) c) t) : sProp 𝕄) := by
  unfold Four
  iintro ⟨#HR, H1, H2, H3, H4⟩
  imod (past_close m K c _) $$ [H1] with H1
  · isplitr; · iexact HR
    iexact H1
  imod (past_close m K c _) $$ [H2] with H2
  · isplitr; · iexact HR
    iexact H2
  imod (past_close m K c _) $$ [H3] with H3
  · isplitr; · iexact HR
    iexact H3
  imod (past_close m K c _) $$ [H4] with H4
  · isplitr; · iexact HR
    iexact H4
  imodintro
  isplitl [H1]; · iexact H1
  isplitl [H2]; · iexact H2
  isplitl [H3]; · iexact H3
  iexact H4

/-! ## The output -/

section Out
variable (c : Dev nD) (fK : Buf (Elt F) (mK.view.loc (c : Thread nD τ))) (fV : Buf (Elt F) (mV.view.loc (c : Thread nD τ))) (x : Vec F S1x2048x1024 .f32)

/-- The cleared output's quarters. -/
def outZero (j : Fin 4) (i : S1x512x1024.Idx) : Elt F .f32 := k0_pay74 (F := F) ((outOff j).rect.emb i)

/-- The output's quarters after all four phases. -/
def outQ : Fin 4 → Vec F S1x512x1024 .f32 :=
  outStep m c fK fV (k0_pay73 x) 3 <| outStep m c fK fV (k0_pay73 x) 2 <| outStep m c fK fV (k0_pay73 x) 1 <| outStep m c fK fV (k0_pay73 x) 0 outZero

/-- The output, whole. -/
def outVal : Vec F S1x2048x1024 .f32 := (cut_out.glue (outQ m c fK fV x)).choose
theorem outVal_emb (j : Fin 4) (i : S1x512x1024.Idx) : outVal m c fK fV x ((outOff j).rect.emb i) = outQ m c fK fV x j i :=
  (cut_out.glue (outQ m c fK fV x)).choose_spec j i

end Out

/-! ## The body -/

/-- What each hop's copies need besides their sources. -/
def Dues (c : Dev nD) (t : Fin 3) : sProp 𝕄 := iprop(Four (Tok (F := F) c) t ∗ Four (Waiting (F := F) c) t)

/-- The scratch a device works in, besides the slots of the gathered weights. -/
def Scratch (c : Dev nD) : sProp 𝕄 := iprop((∃ Y, owns (c : Thread nD τ) mXb fullShare Y) ∗ (∃ Y, Heads (F := F) c mQ Y) ∗ ∃ Y, Heads (F := F) c mC Y)

/-- Every shared cell of the device, at rest. -/
def Rests (c : Dev nD) : sProp 𝕄 :=
  iprop(semVal (barCell c) 0 ∗ Four (Rest (F := F) c) 0 ∗ Four (Rest (F := F) c) 1 ∗ Four (Rest (F := F) c) 2)

theorem wp_body (K : Dev nD × CI → ℕ) {c : Dev nD} {fK : Buf (Elt F) (mK.view.loc (c : Thread nD τ))} {fV : Buf (Elt F) (mV.view.loc (c : Thread nD τ))}
    {x : Vec F S1x2048x1024 .f32} {Q : Unit → sProp (MT nD τ sig Unit (Elt F) ℕ UU ℕ)} :
    iprop(Recs m K ∗ levAts L lv ∗ Ow c (O₀ c) ∗ Meet c ∗ (Dues (F := F) c 0 ∗ Dues (F := F) c 1 ∗ Dues (F := F) c 2) ∗ Slots c fK fV ∗ InCells c ∗ Src m c ∗ OwnSpots c
        ∗ owns (c : Thread nD τ) mX fullShare x ∗ Scratch c ∗ ∃ Y, owns (c : Thread nD τ) mOut fullShare Y)
      ⊢ (iprop((Ow c 0 ∗ Rests c ∗ Slots c fK fV ∗ InCells c ∗ Src m c ∗ (Spots c 0 ∗ Spots c 1)
            ∗ owns (c : Thread nD τ) mX fullShare x ∗ Scratch c ∗ owns (c : Thread nD τ) mOut fullShare (outVal m c fK fV x) -∗ Q ⟨⟩)
        -∗ WP c (ops c) Q) : sProp 𝕄) := by
  unfold Scratch Dues
  iintro ⟨#HR, #Hlev, HO, HM, ⟨⟨HT0, HW0⟩, ⟨HT1, HW1⟩, HT2, HW2⟩, HS, HI, HSrc, HOS, Hx, ⟨Hb, Hq, Hc⟩, Ho⟩ Hk
  iapply (wp_prologue m K) $$ [HO HM HS HI HSrc HOS Hx Hb Ho]
  · isplitr; · iexact HR
    isplitr; · iexact Hlev
    isplitl [HO]; · iexact HO
    isplitl [HM]; · iexact HM
    isplitl [HS]; · iexact HS
    isplitl [HI]; · iexact HI
    isplitl [HSrc]; · iexact HSrc
    isplitl [HOS]; · iexact HOS
    isplitl [Hx]; · iexact Hx
    isplitl [Hb] <;> iassumption
  iintro ⟨HO, ⟨HB0, HB1, HaB⟩, HKV, HI, HSrc, HOwn, Hx, Hb, Ho⟩
  ihave HH0 := (own_have m c) $$ HOwn
  ihave ⟨HR0, HR1, HR2⟩ := (rooms c) $$ [HB0 HB1]
  · isplitl [HB0] <;> iassumption
  ihave Ho := (pieces_of_owns (F := F) c mOut cut_out _) $$ Ho
  have l0' := wp_leg (F := F) m K (c := c) (fK := fK) (fV := fV) (xb := k0_pay73 x) (o := outZero) (hok := k0_t1_ok) (Q := Q) 0 l1 (by decide) (by decide) g1 (by decide +kernel)
    (k := hopStart 1 (hop c 1) <| phase (ph c 1) (loop2 c) <| hopWait 1 (hop c 1) <|
      hopStart 2 (hop c 2) <| phase (ph c 2) (loop3 c) <| hopWait 2 (hop c 2) <| phase (ph c 3) (loop4 c) (.ret ⟨⟩))
  iapply l0' $$ [HO HH0 HR0 HT0 HW0 Hb HKV Hq Hc Ho]
  · isplitr; · iexact HR
    isplitr; · iexact Hlev
    isplitl [HO]; · iexact HO
    isplitl [HH0]; · iexact HH0
    isplitl [HR0 HT0 HW0]
    · isplitl [HR0]; · iexact HR0
      isplitl [HT0] <;> iassumption
    isplitl [Hb]; · iexact Hb
    unfold Work
    isplitl [HKV]; · iexact HKV
    isplitl [Hq]; · iexact Hq
    isplitl [Hc]; · iexact Hc
    iexact Ho
  iintro ⟨HO, ⟨HH0, HP0⟩, HH1, Hb, HW⟩
  have l1' := wp_leg (F := F) m K (c := c) (fK := fK) (fV := fV) (xb := k0_pay73 x) (o := outStep m c fK fV (k0_pay73 x) 0 outZero) (hok := k0_t2_ok) (Q := Q) 1 l2 (by decide) (by decide) g2 (by decide +kernel)
    (k := hopStart 2 (hop c 2) <| phase (ph c 2) (loop3 c) <| hopWait 2 (hop c 2) <| phase (ph c 3) (loop4 c) (.ret ⟨⟩))
  iapply l1' $$ [HO HH1 HR1 HT1 HW1 Hb HW]
  · isplitr; · iexact HR
    isplitr; · iexact Hlev
    isplitl [HO]; · iexact HO
    isplitl [HH1]; · iexact HH1
    isplitl [HR1 HT1 HW1]
    · isplitl [HR1]; · iexact HR1
      isplitl [HT1] <;> iassumption
    isplitl [Hb]; · iexact Hb
    iexact HW
  iintro ⟨HO, ⟨HH1, HP1⟩, HH2, Hb, HW⟩
  have l2' := wp_leg (F := F) m K (c := c) (fK := fK) (fV := fV) (xb := k0_pay73 x) (o := outStep m c fK fV (k0_pay73 x) 1 <| outStep m c fK fV (k0_pay73 x) 0 outZero)
    (hok := k0_t3_ok) (Q := Q) 2 l3 (by decide) (by decide) g3 (by decide +kernel) (k := phase (ph c 3) (loop4 c) (.ret ⟨⟩))
  iapply l2' $$ [HO HH2 HR2 HT2 HW2 Hb HW]
  · isplitr; · iexact HR
    isplitr; · iexact Hlev
    isplitl [HO]; · iexact HO
    isplitl [HH2]; · iexact HH2
    isplitl [HR2 HT2 HW2]
    · isplitl [HR2]; · iexact HR2
      isplitl [HT2] <;> iassumption
    isplitl [Hb]; · iexact Hb
    iexact HW
  iintro ⟨HO, ⟨HH2, HP2⟩, HH3, Hb, HW⟩
  have l3' := wp_work (F := F) m (c := c) (fK := fK) (fV := fV) (xb := k0_pay73 x)
    (o := outStep m c fK fV (k0_pay73 x) 2 <| outStep m c fK fV (k0_pay73 x) 1 <| outStep m c fK fV (k0_pay73 x) 0 outZero)
    (hok := k0_t4_ok) (Q := Q) (O := oweL c l3) 3 (by decide) g4 (by decide +kernel) (oweL_above fun x hx => absurd hx List.not_mem_nil) (q := fullShare) (k := .ret ⟨⟩)
  iapply l3' $$ [HO HH3 Hb HW]
  · isplitr; · iexact Hlev
    isplitl [HO]; · iexact HO
    isplitl [HH3]; · iexact HH3
    isplitl [Hb]; · iexact Hb
    iexact HW
  unfold Work
  iintro ⟨HO, HH3, Hb, HKV, Hq, Hc, Ho⟩
  imod (four_close m K c 0) $$ [HP0] with HP0
  · isplitr; · iexact HR
    iexact HP0
  imod (four_close m K c 1) $$ [HP1] with HP1
  · isplitr; · iexact HR
    iexact HP1
  imod (four_close m K c 2) $$ [HP2] with HP2
  · isplitr; · iexact HR
    iexact HP2
  imod (Rounds.cell_close ER (Rd m) (Set.mem_univ (K (c, .inl ()))) (fun h => h) (R := 1) (duties_later m (barCell c))) $$ [HaB] with HaB
  · isplitr; · iapply (Recs_inv m K (c, .inl ())) $$ HR
    iexact HaB
  ihave HSp := (haves_spots m c) $$ [HH0 HH1 HH2 HH3]
  · isplitl [HH0]; · iexact HH0
    isplitl [HH1]; · iexact HH1
    isplitl [HH2]; · iexact HH2
    iexact HH3
  ihave ⟨⟨HK0, HK1⟩, HK2, HK3⟩ := (Entails.of_eq (KV_last (F := F) c fK fV)) $$ HKV
  iapply (wp_done (F := F))
  iapply Hk
  isplitl [HO]; · iexact HO
  isplitl [HaB HP0 HP1 HP2]
  · unfold Rests
    isplitl [HaB]; · iexact HaB
    isplitl [HP0]; · iexact HP0
    isplitl [HP1]; · iexact HP1
    iexact HP2
  isplitl [HK0 HK1 HK2 HK3]
  · unfold Slots
    isplitl [HK0]; · iexact HK0
    isplitl [HK1]; · iexact HK1
    isplitl [HK2]; · iexact HK2
    iexact HK3
  isplitl [HI]; · iexact HI
  isplitl [HSrc]; · iexact HSrc
  isplitl [HSp]; · iexact HSp
  isplitl [Hx]; · iexact Hx
  isplitl [Hb Hq Hc]
  · isplitl [Hb]; · iexists _; iexact Hb
    isplitl [Hq]; · iexact Hq
    iexact Hc
  have ho : Pieces c outM (outStep m c fK fV (k0_pay73 x) 3 <| outStep m c fK fV (k0_pay73 x) 2 <| outStep m c fK fV (k0_pay73 x) 1 <|
      outStep m c fK fV (k0_pay73 x) 0 outZero) ⊢ (owns (c : Thread nD τ) mOut fullShare (outVal m c fK fV x) : sProp 𝕄) :=
    owns_of_pieces_at (F := F) c mOut cut_out (outQ m c fK fV x) (outVal m c fK fV x) (outVal_emb m c fK fV x)
  iapply ho $$ Ho

end Cert.RingAttn

end
-- ==== Proof.Entry.lean ====
/-
# 01_k — what a device holds before and after the body

The arrays, the scratch buffers and the cells as the launch hands them out are the parts the body works with, and the parts
give them back; the shared cells' ghost state is what the meeting and the hops ask for.
-/
module

public import proofs.«01_k».proof.Proof.Body

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
variable (m : (ℓ : Loc nD τ sig) → Buf (Elt F) ℓ)

/-! ## The slots of K and V -/

section Slots

variable (c : Dev nD) (mB : Memref sig .tc .vmem S4x2048x128 .f32) (mA : Memref sig .tc .hbm S4x2048x32x128 .f32) (w : Fin 2)
variable (fA : Buf (Elt F) (mA.view.loc (c : Thread nD τ)))

/-- A whole buffer's share is four quarter shares. -/
theorem quarters : (mA.view.loc (c : Thread nD τ) ↦{fullShare} fA : sProp 𝕄)
    ⊣⊢ iprop((srcPt c mA fA 0 ∗ srcPt c mA fA 1) ∗ srcPt c mA fA 2 ∗ srcPt c mA fA 3) := by
  constructor
  · iintro H
    ihave ⟨H1, H2⟩ := (pointsTo_share (PosShare.mem_left_op_right _)).1 $$ H
    ihave ⟨H1, H3⟩ := (pointsTo_share (PosShare.mem_left_op_right _)).1 $$ H1
    ihave ⟨H2, H4⟩ := (pointsTo_share (PosShare.mem_left_op_right _)).1 $$ H2
    isplitl [H1 H3]
    · isplitl [H1]; · iexact H1
      iexact H3
    isplitl [H2]; · iexact H2
    iexact H4
  · iintro ⟨⟨H1, H3⟩, H2, H4⟩
    iapply (pointsTo_share (PosShare.mem_left_op_right fullShare)).2
    isplitl [H1 H3]
    · iapply (pointsTo_share (PosShare.mem_left_op_right fullShare.left)).2
      isplitl [H1]; · iexact H1
      iexact H3
    iapply (pointsTo_share (PosShare.mem_left_op_right fullShare.right)).2
    isplitl [H2]; · iexact H2
    iexact H4

theorem slot_list (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The slots' cells. -/
def SlotCells : sProp 𝕄 := iprop(kvCell c w 0 ∗ kvCell c w 1 ∗ kvCell c w 2 ∗ kvCell (F := F) c w 3)

theorem idles_of : iprop((mA.view.loc (c : Thread nD τ) ↦{fullShare} fA) ∗ (∃ X, owns (c : Thread nD τ) mB fullShare X) ∗ SlotCells c w)
    ⊢ (iprop(Idle c mB mA w fA 0 ∗ Idle c mB mA w fA 1 ∗ Idle c mB mA w fA 2 ∗ Idle c mB mA w fA 3) : sProp 𝕄) := by
  unfold SlotCells Idle Held
  iintro ⟨HA, ⟨%X, HB⟩, C0, C1, C2, C3⟩
  ihave ⟨⟨A0, A1⟩, A2, A3⟩ := (quarters c mA fA).1 $$ HA
  ihave HB := (pieces_of_owns (F := F) c mB cut_slot X) $$ HB
  unfold Pieces
  ihave ⟨B0, B1, B2, B3⟩ := (Entails.of_eq (slot_list _)) $$ HB
  isplitl [A0 B0 C0]
  · iexists _; isplitl [B0]; · iexact B0
    isplitl [A0] <;> iassumption
  isplitl [A1 B1 C1]
  · iexists _; isplitl [B1]; · iexact B1
    isplitl [A1] <;> iassumption
  isplitl [A2 B2 C2]
  · iexists _; isplitl [B2]; · iexact B2
    isplitl [A2] <;> iassumption
  iexists _; isplitl [B3]; · iexact B3
  isplitl [A3] <;> iassumption

theorem of_idles : iprop(Idle c mB mA w fA 0 ∗ Idle c mB mA w fA 1 ∗ Idle c mB mA w fA 2 ∗ Idle c mB mA w fA 3)
    ⊢ (iprop((mA.view.loc (c : Thread nD τ) ↦{fullShare} fA) ∗ (∃ X, owns (c : Thread nD τ) mB fullShare X) ∗ SlotCells c w) : sProp 𝕄) := by
  unfold SlotCells Idle Held
  iintro ⟨⟨%Y0, B0, A0, C0⟩, ⟨%Y1, B1, A1, C1⟩, ⟨%Y2, B2, A2, C2⟩, ⟨%Y3, B3, A3, C3⟩⟩
  isplitl [A0 A1 A2 A3]
  · iapply (quarters c mA fA).2
    isplitl [A0 A1]
    · isplitl [A0] <;> iassumption
    isplitl [A2] <;> iassumption
  isplitl [B0 B1 B2 B3]
  · have key := owns_of_pieces (F := F) c mB cut_slot (fun σ => match σ with | 0 => Y0 | 1 => Y1 | 2 => Y2 | 3 => Y3)
    unfold Pieces at key
    rw [slot_list] at key
    ihave ⟨%X, -, H⟩ := key $$ [B0 B1 B2 B3]
    · isplitl [B0]; · iexact B0
      isplitl [B1]; · iexact B1
      isplitl [B2]; · iexact B2
      iexact B3
    iexists X; iexact H
  isplitl [C0]; · iexact C0
  isplitl [C1]; · iexact C1
  isplitl [C2]; · iexact C2
  iexact C3

end Slots

variable (c : Dev nD)

/-- The arrays no window stages, at their launch contents. -/
def Hbm : sProp 𝕄 :=
  iprop((((c : Thread nD τ).loc main_arg1) ↦{fullShare} m ((c : Thread nD τ).loc main_arg1)) ∗ (((c : Thread nD τ).loc main_arg2) ↦{fullShare} m ((c : Thread nD τ).loc main_arg2))
    ∗ (((c : Thread nD τ).loc main_arg3) ↦{fullShare} m ((c : Thread nD τ).loc main_arg3)) ∗ (((c : Thread nD τ).loc main_arg4) ↦{fullShare} m ((c : Thread nD τ).loc main_arg4)))

/-- The kernel's scratch buffers, each whole at some contents. -/
def Scr : sProp 𝕄 :=
  iprop(Some' (F := F) c cc0_scratch0 ∗ Some' (F := F) c cc0_scratch1 ∗ Some' (F := F) c cc0_scratch2 ∗ Some' (F := F) c cc0_scratch3 ∗ Some' (F := F) c cc0_scratch4
    ∗ Some' (F := F) c cc0_scratch5 ∗ Some' (F := F) c cc0_scratch6 ∗ Some' (F := F) c cc0_scratch7 ∗ Some' (F := F) c cc0_scratch8)

/-- The cells of the device's own copies: of the staged weights, and of the slots of K and of V. -/
def LocalCells : sProp 𝕄 := iprop(InCells (F := F) c ∗ SlotCells (F := F) c 0 ∗ SlotCells (F := F) c 1)

/-- The arrays, the scratch and the local cells as the body works with them. -/
def Parts : sProp 𝕄 :=
  iprop(Slots (F := F) c (m ((c : Thread nD τ).loc main_arg2)) (m ((c : Thread nD τ).loc main_arg3)) ∗ InCells (F := F) c ∗ Src m c ∗ (Spots (F := F) c 0 ∗ Spots (F := F) c 1) ∗ Scratch (F := F) c)

theorem parts_of : iprop(Hbm m c ∗ Scr c ∗ LocalCells c) ⊢ (Parts m c : sProp 𝕄) := by
  unfold Hbm Scr LocalCells Parts Slots IdleKV Src Scratch
  iintro ⟨⟨H1, H2, H3, H4⟩, ⟨S0, S1, S2, S3, S4, S5, S6, S7, S8⟩, CI, CK, CV⟩
  ihave S5 := (Entails.of_eq (some_owns (F := F) c _)) $$ S5
  ihave S6 := (Entails.of_eq (some_owns (F := F) c _)) $$ S6
  ihave S7 := (Entails.of_eq (some_owns (F := F) c _)) $$ S7
  ihave S8 := (Entails.of_eq (some_owns (F := F) c _)) $$ S8
  ihave S2 := (Entails.of_eq (some_owns (F := F) c _)) $$ S2
  ihave S3 := (some_heads (F := F) c) $$ S3
  ihave S4 := (some_headsC (F := F) c) $$ S4
  ihave S0 := (some_spots0 (F := F) c) $$ S0
  ihave S1 := (some_spots1 (F := F) c) $$ S1
  ihave ⟨K0, K1, K2, K3⟩ := (idles_of (F := F) c mKb mK 0 (m ((c : Thread nD τ).loc main_arg2))) $$ [H2 S5 CK]
  · isplitl [H2]; · iexact H2
    isplitl [S5]; · iexact S5
    iexact CK
  ihave ⟨V0, V1, V2, V3⟩ := (idles_of (F := F) c mVb mV 1 (m ((c : Thread nD τ).loc main_arg3))) $$ [H3 S6 CV]
  · isplitl [H3]; · iexact H3
    isplitl [S6]; · iexact S6
    iexact CV
  isplitl [K0 K1 K2 K3 V0 V1 V2 V3]
  · isplitl [K0 V0]; · isplitl [K0] <;> iassumption
    isplitl [K1 V1]; · isplitl [K1] <;> iassumption
    isplitl [K2 V2]; · isplitl [K2] <;> iassumption
    isplitl [K3] <;> iassumption
  isplitl [CI]; · iexact CI
  isplitl [H1 H4 S7 S8]
  · isplitl [H1]; · iexact H1
    isplitl [H4]; · iexact H4
    isplitl [S7] <;> iassumption
  isplitl [S0 S1]; · isplitl [S0] <;> iassumption
  isplitl [S2]; · iexact S2
  isplitl [S3] <;> iassumption

theorem of_parts : Parts m c ⊢ (iprop(Hbm m c ∗ Scr c ∗ LocalCells c) : sProp 𝕄) := by
  unfold Hbm Scr LocalCells Parts Slots IdleKV Src Scratch
  iintro ⟨⟨⟨K0, V0⟩, ⟨K1, V1⟩, ⟨K2, V2⟩, K3, V3⟩, CI, ⟨H1, H4, S7, S8⟩, ⟨S0, S1⟩, S2, S3, S4⟩
  ihave ⟨H2, S5, CK⟩ := (of_idles (F := F) c mKb mK 0 (m ((c : Thread nD τ).loc main_arg2))) $$ [K0 K1 K2 K3]
  · isplitl [K0]; · iexact K0
    isplitl [K1]; · iexact K1
    isplitl [K2] <;> iassumption
  ihave ⟨H3, S6, CV⟩ := (of_idles (F := F) c mVb mV 1 (m ((c : Thread nD τ).loc main_arg3))) $$ [V0 V1 V2 V3]
  · isplitl [V0]; · iexact V0
    isplitl [V1]; · iexact V1
    isplitl [V2] <;> iassumption
  isplitl [H1 H2 H3 H4]
  · isplitl [H1]; · iexact H1
    isplitl [H2]; · iexact H2
    isplitl [H3] <;> iassumption
  isplitr [CI CK CV]
  · isplitl [S0]; · iapply (spots_some0 (F := F) c) $$ S0
    isplitl [S1]; · iapply (spots_some1 (F := F) c) $$ S1
    isplitl [S2]; · iapply (Entails.of_eq (some_owns (F := F) c cc0_scratch2).symm) $$ S2
    isplitl [S3]; · iapply (heads_some (F := F) c) $$ S3
    isplitl [S4]; · iapply (headsC_some (F := F) c) $$ S4
    isplitl [S5]; · iapply (Entails.of_eq (some_owns (F := F) c cc0_scratch5).symm) $$ S5
    isplitl [S6]; · iapply (Entails.of_eq (some_owns (F := F) c cc0_scratch6).symm) $$ S6
    isplitl [S7]; · iapply (Entails.of_eq (some_owns (F := F) c cc0_scratch7).symm) $$ S7
    iapply (Entails.of_eq (some_owns (F := F) c cc0_scratch8).symm) $$ S8
  isplitl [CI]; · iexact CI
  isplitl [CK] <;> iassumption

/-! ## The ghost state of a device -/

theorem four_list (Φ : X → sProp 𝕄) : bigSep Finset.univ Φ = iprop(Four Φ 0 ∗ Four Φ 1 ∗ Four Φ 2) := by
  rw [bigSep_univ_eq_bigSepL (l0.map fun x => x) (by decide) (by decide)]
  unfold Four
  refine BI.equiv_iff.mp ⟨?_, ?_⟩
  · show iprop(Φ (0, 0, 0) ∗ Φ (0, 1, 0) ∗ Φ (0, 0, 1) ∗ Φ (0, 1, 1) ∗ Φ (1, 0, 0) ∗ Φ (1, 1, 0) ∗ Φ (1, 0, 1) ∗ Φ (1, 1, 1)
      ∗ Φ (2, 0, 0) ∗ Φ (2, 1, 0) ∗ Φ (2, 0, 1) ∗ Φ (2, 1, 1)) ⊢ _
    iintro ⟨A1, A2, A3, A4, B1, B2, B3, B4, C1, C2, C3, C4⟩
    isplitl [A1 A2 A3 A4]
    · isplitl [A1]; · iexact A1
      isplitl [A2]; · iexact A2
      isplitl [A3] <;> iassumption
    isplitl [B1 B2 B3 B4]
    · isplitl [B1]; · iexact B1
      isplitl [B2]; · iexact B2
      isplitl [B3] <;> iassumption
    isplitl [C1]; · iexact C1
    isplitl [C2]; · iexact C2
    isplitl [C3] <;> iassumption
  · show _ ⊢ iprop(Φ (0, 0, 0) ∗ Φ (0, 1, 0) ∗ Φ (0, 0, 1) ∗ Φ (0, 1, 1) ∗ Φ (1, 0, 0) ∗ Φ (1, 1, 0) ∗ Φ (1, 0, 1) ∗ Φ (1, 1, 1)
      ∗ Φ (2, 0, 0) ∗ Φ (2, 1, 0) ∗ Φ (2, 0, 1) ∗ Φ (2, 1, 1))
    iintro ⟨⟨A1, A2, A3, A4⟩, ⟨B1, B2, B3, B4⟩, C1, C2, C3, C4⟩
    isplitl [A1]; · iexact A1
    isplitl [A2]; · iexact A2
    isplitl [A3]; · iexact A3
    isplitl [A4]; · iexact A4
    isplitl [B1]; · iexact B1
    isplitl [B2]; · iexact B2
    isplitl [B3]; · iexact B3
    isplitl [B4]; · iexact B4
    isplitl [C1]; · iexact C1
    isplitl [C2]; · iexact C2
    isplitl [C3] <;> iassumption

/-- The device's positions at its cells and the duties it pays. -/
def Lin : sProp 𝕄 :=
  iprop(atPos ER (barCell c) 0 ∅ 0
    ∗ (bigSep Finset.univ fun d : Fin 2 => dutyTok ER (barCell (dst c (opp d))) 0 d)
    ∗ (bigSep Finset.univ fun x : X => Tok (F := F) c x)
    ∗ bigSep Finset.univ fun x : X => iprop(atPos ER (sendCell c x) 0 ∅ 0 ∗ atPos ER (recvCell c x) 0 ∅ 0))

/-- What the others owe it at launch. -/
def Creds : sProp 𝕄 :=
  iprop(cred (tallyAt (barCell c) () 2) ∗ bigSep Finset.univ fun x : X => cred (tallyAt (recvCell c x) () (amt x.2.2)))

theorem wait_of (x : X) : iprop((atPos ER (sendCell c x) 0 ∅ 0 ∗ atPos ER (recvCell c x) 0 ∅ 0) ∗ cred (tallyAt (recvCell c x) () (amt x.2.2)))
    ⊢ (Waiting (F := F) c x : sProp 𝕄) := by
  unfold Waiting
  iintro ⟨⟨A, B⟩, C⟩
  isplitl [A]; · iexact A
  isplitl [B] <;> iassumption

theorem waits_of : (bigSep Finset.univ fun x : X => iprop((atPos ER (sendCell c x) 0 ∅ 0 ∗ atPos ER (recvCell c x) 0 ∅ 0) ∗ cred (tallyAt (recvCell c x) () (amt x.2.2))))
    ⊢ (bigSep Finset.univ (Waiting (F := F) c) : sProp 𝕄) := bigSep_mono fun x _ => wait_of c x

theorem dues_of : iprop(Lin (F := F) c ∗ Creds (F := F) c ∗ barPay (F := F) (bk c 1) 0 ∗ barPay (F := F) (fw c 1) 1)
    ⊢ (iprop(Meet (F := F) c ∗ Dues (F := F) c 0 ∗ Dues (F := F) c 1 ∗ Dues (F := F) c 2) : sProp 𝕄) := by
  unfold Lin Creds Meet Dues
  iintro ⟨⟨Hb, Hd, Ht, Hp⟩, ⟨Hc, Hr⟩, B0, B1⟩
  have hd : (bigSep Finset.univ fun d : Fin 2 => dutyTok ER (barCell (dst c (opp d))) 0 d : sProp 𝕄)
      = iprop(dutyTok ER (barCell (dst c (opp 0))) 0 0 ∗ dutyTok ER (barCell (dst c (opp 1))) 0 1) := BI.bigSep_fin_two _
  ihave ⟨D0, D1⟩ := (Entails.of_eq hd) $$ Hd
  ihave Hw := (Entails.of_eq (bigSep_sep' Finset.univ (fun x : X => iprop(atPos ER (sendCell c x) 0 ∅ 0 ∗ atPos ER (recvCell c x) 0 ∅ 0))
    (fun x : X => (cred (tallyAt (recvCell c x) () (amt x.2.2)) : sProp 𝕄))).symm) $$ [Hp Hr]
  · isplitl [Hp] <;> iassumption
  ihave Hw := (waits_of (F := F) c) $$ Hw
  ihave ⟨W0, W1, W2⟩ := (Entails.of_eq (four_list (Waiting (F := F) c))) $$ Hw
  ihave ⟨T0, T1, T2⟩ := (Entails.of_eq (four_list (Tok (F := F) c))) $$ Ht
  isplitl [B0 B1 D0 D1 Hc Hb]
  · isplitl [B0]; · iexact B0
    isplitl [B1]; · iexact B1
    isplitl [D0]; · iexact D0
    isplitl [D1]; · iexact D1
    isplitl [Hc] <;> iassumption
  isplitl [T0 W0]; · isplitl [T0] <;> iassumption
  isplitl [T1 W1]; · isplitl [T1] <;> iassumption
  isplitl [T2] <;> iassumption

/-! ## The body, from what the launch gives -/

/-- What the kernel starts from, besides its scratch. -/
def Start : sProp 𝕄 := iprop((∃ K, Recs m K ∗ Lin (F := F) c) ∗ Creds (F := F) c ∗ levAts L lv ∗ Hbm m c ∗ LocalCells (F := F) c)

/-- Before the body. -/
def Φ₀ : sProp 𝕄 := iprop(Start m c ∗ Scr (F := F) c)
/-- After it. -/
def Φ₁ : sProp 𝕄 := iprop(Rests (F := F) c ∗ Hbm m c ∗ LocalCells (F := F) c ∗ Scr (F := F) c)

theorem wp_launched {x : Vec F S1x2048x1024 .f32} {Q : Unit → sProp (MT nD τ sig Unit (Elt F) ℕ UU ℕ)} :
    iprop(Φ₀ m c ∗ Ow c (O₀ c) ∗ owns (c : Thread nD τ) mX fullShare x ∗ ∃ Y, owns (c : Thread nD τ) mOut fullShare Y)
      ⊢ (iprop((Φ₁ m c ∗ Ow c 0 ∗ owns (c : Thread nD τ) mX fullShare x
            ∗ owns (c : Thread nD τ) mOut fullShare (outVal m c (m ((c : Thread nD τ).loc main_arg2)) (m ((c : Thread nD τ).loc main_arg3)) x) -∗ Q ⟨⟩)
        -∗ WP c (ops c) Q) : sProp 𝕄) := by
  unfold Φ₀ Start
  iintro ⟨⟨⟨⟨%K, #HR, HL⟩, HC, #Hlev, HH, HLC⟩, HS⟩, HO, Hx, Hout⟩ Hk
  ihave HP := (parts_of (F := F) m c) $$ [HH HS HLC]
  · isplitl [HH]; · iexact HH
    isplitl [HS] <;> iassumption
  unfold Parts
  icases HP with ⟨HSl, HI, HSrc, HSp, HScr⟩
  ihave ⟨HOS, B0, B1⟩ := (spots_out (F := F) c) $$ HSp
  ihave ⟨HM, HD⟩ := (dues_of (F := F) c) $$ [HL HC B0 B1]
  · isplitl [HL]; · iexact HL
    isplitl [HC]; · iexact HC
    isplitl [B0] <;> iassumption
  have key := wp_body (F := F) m K (c := c) (fK := m ((c : Thread nD τ).loc main_arg2)) (fV := m ((c : Thread nD τ).loc main_arg3)) (x := x) (Q := Q)
  iapply key $$ [HO HM HD HSl HI HSrc HOS Hx HScr Hout]
  · isplitr; · iexact HR
    isplitr; · iexact Hlev
    isplitl [HO]; · iexact HO
    isplitl [HM]; · iexact HM
    isplitl [HD]; · iexact HD
    isplitl [HSl]; · iexact HSl
    isplitl [HI]; · iexact HI
    isplitl [HSrc]; · iexact HSrc
    isplitl [HOS]; · iexact HOS
    isplitl [Hx]; · iexact Hx
    isplitl [HScr] <;> iassumption
  iintro ⟨HO, HRe, HSl, HI, HSrc, HSp, Hx, HScr, Hout⟩
  iapply Hk
  ihave ⟨HH, HS, HLC⟩ := (of_parts (F := F) m c) $$ [HSl HI HSrc HSp HScr]
  · unfold Parts
    isplitl [HSl]; · iexact HSl
    isplitl [HI]; · iexact HI
    isplitl [HSrc]; · iexact HSrc
    isplitl [HSp] <;> iassumption
  isplitl [HRe HH HS HLC]
  · unfold Φ₁
    isplitl [HRe]; · iexact HRe
    isplitl [HH]; · iexact HH
    isplitl [HLC] <;> iassumption
  isplitl [HO]; · iexact HO
  isplitl [Hx] <;> iassumption

end Cert.RingAttn

end
-- ==== Proof.Deal.lean ====
/-
# 01_k — dealing the launch's resources

The shared cells are given their invariants and their tokens dealt to the devices that pay with them; what every device
owes the others at launch is what the others have credit for.
-/
module

public import proofs.«01_k».proof.Proof.Entry

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
variable (m : (ℓ : Loc nD τ sig) → Buf (Elt F) ℓ)

/-! ## Cells and tokens -/

theorem send_inj {x y : X} (h : sendSem x.1 x.2.1 x.2.2 = sendSem y.1 y.2.1 y.2.2) : x = y := by
  rw [← copyOf_send x, ← copyOf_send y, h]
theorem recv_inj {x y : X} (h : recvSem x.1 x.2.1 x.2.2 = recvSem y.1 y.2.1 y.2.2) : x = y := by
  rw [← copyOf_recv x, ← copyOf_recv y, h]
theorem send_ne_recv (x y : X) : sendSem x.1 x.2.1 x.2.2 ≠ recvSem y.1 y.2.1 y.2.2 := fun h =>
  sendSem_lt x (by rw [h]; exact recvSem_ge y)

theorem dma_of {d d' : Dev nD} {q q' : DmaSem sig} (h : (((d : Thread nD τ), SemLoc.dma q) : GSem nD τ sig) = ((d' : Thread nD τ), SemLoc.dma q')) : d = d' ∧ q = q' :=
  ⟨congrArg (fun g : GSem nD τ sig => g.1.1) h, SemLoc.dma.inj (congrArg Prod.snd h)⟩
theorem bar_ne (d d' : Dev nD) (q : DmaSem sig) : barCell d ≠ ((d' : Thread nD τ), SemLoc.dma q) := fun h => by
  have := congrArg Prod.snd h; cases this

theorem bar_eq_iff {a b : Dev nD} : Iff (barCell a = barCell b) (a = b) :=
  ⟨fun h => congrArg (fun g : GSem nD τ sig => g.1.1) h, fun h => h ▸ rfl⟩
theorem recv_eq_iff {a b : Dev nD} {x y : X} : Iff (recvCell a x = recvCell b y) (a = b ∧ x = y) :=
  ⟨fun h => ⟨(dma_of h).1, recv_inj (dma_of h).2⟩, fun h => by rw [h.1, h.2]⟩

theorem cell_injective : Function.Injective cell := by
  rintro ⟨c, i⟩ ⟨d, j⟩ h
  rcases i with _ | x | x <;> rcases j with _ | y | y
  · obtain rfl : c = d := bar_eq_iff.mp h
    rfl
  · exact absurd h (bar_ne c d _)
  · exact absurd h (bar_ne c d _)
  · exact absurd h.symm (bar_ne d c _)
  · obtain ⟨e, hq⟩ := dma_of h
    obtain rfl : c = d := e
    rw [send_inj hq]
  · exact absurd (dma_of h).2 (send_ne_recv x y)
  · exact absurd h.symm (bar_ne d c _)
  · exact absurd (dma_of h).2.symm (send_ne_recv y x)
  · obtain ⟨e, hq⟩ := dma_of h
    obtain rfl : c = d := e
    rw [recv_inj hq]

def ringCells : Finset (GSem nD τ sig) := Finset.univ.map ⟨cell, cell_injective⟩

/-- The duties of a device's own cells: its barrier's two, and one of each send and receive cell. -/
abbrev TI : Type := Fin 2 ⊕ (X ⊕ X)
def tokOf (ci : Dev nD × TI) : GSem nD τ sig × ℕ × Fin 2 :=
  match ci.2 with
  | .inl d => (barCell ci.1, 0, d)
  | .inr (.inl x) => (sendCell ci.1 x, 0, 0)
  | .inr (.inr x) => (recvCell ci.1 x, 0, 0)

theorem tokOf_injective : Function.Injective tokOf := by
  rintro ⟨c, i⟩ ⟨d, j⟩ h
  have h₁ := congrArg Prod.fst h
  rcases i with i | x | x <;> rcases j with j | y | y
  · obtain rfl : c = d := bar_eq_iff.mp h₁
    obtain rfl : i = j := congrArg (fun t : GSem nD τ sig × ℕ × Fin 2 => t.2.2) h
    rfl
  · exact absurd h₁ (bar_ne c d _)
  · exact absurd h₁ (bar_ne c d _)
  · exact absurd h₁.symm (bar_ne d c _)
  · obtain ⟨e, hq⟩ := dma_of h₁
    obtain rfl : c = d := e
    rw [send_inj hq]
  · exact absurd (dma_of h₁).2 (send_ne_recv x y)
  · exact absurd h₁.symm (bar_ne d c _)
  · exact absurd (dma_of h₁).2.symm (send_ne_recv y x)
  · obtain ⟨e, hq⟩ := dma_of h₁
    obtain rfl : c = d := e
    rw [recv_inj hq]

def ringToks : Finset (GSem nD τ sig × ℕ × Fin 2) := Finset.univ.map ⟨tokOf, tokOf_injective⟩

/-- The launch element: the pipeline's, the ring's, and the local copies' counters at nothing. -/
def u₀ : UU := (initOf (Pipeline.cells cfgs cellOf_inj) (Pipeline.launchToks cfgs cellOf_inj), (initOf ringCells ringToks, 1))

theorem own_u₀ : (ownU (u₀) : sProp 𝕄)
    ⊢ iprop(BI.own (EP (F := F) (initOf (Pipeline.cells cfgs cellOf_inj) (Pipeline.launchToks cfgs cellOf_inj))) ∗ BI.own (ER (F := F) (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-! ## Dealing -/

/-- A device's own cells' tokens. -/
def toks (c : Dev nD) : sProp 𝕄 :=
  iprop((bigSep Finset.univ fun d : Fin 2 => dutyTok ER (barCell c) 0 d) ∗ (bigSep Finset.univ fun x : X => dutyTok ER (sendCell c x) 0 0)
    ∗ bigSep Finset.univ fun x : X => dutyTok ER (recvCell c x) 0 0)

/-- The tokens a device pays with. -/
def payToks (c : Dev nD) : sProp 𝕄 :=
  iprop((bigSep Finset.univ fun d : Fin 2 => dutyTok ER (barCell (dst c (opp d))) 0 d) ∗ (bigSep Finset.univ fun x : X => dutyTok ER (sendCell c x) 0 0)
    ∗ bigSep Finset.univ fun x : X => dutyTok ER (recvCell (dst c x.2.1) x) 0 0)

def turnBar : Dev nD × Fin 2 ≃ Dev nD × Fin 2 :=
  ⟨fun p => (dst p.1 (opp p.2), p.2), fun p => (dst p.1 p.2, p.2), fun p => Prod.ext (dst_opp p.1 p.2) rfl, fun p => Prod.ext (dst_opp' p.1 p.2) rfl⟩
def turnRecv : Dev nD × X ≃ Dev nD × X :=
  ⟨fun p => (dst p.1 p.2.2.1, p.2), fun p => (dst p.1 (opp p.2.2.1), p.2), fun p => Prod.ext (dst_opp' p.1 p.2.2.1) rfl, fun p => Prod.ext (dst_opp p.1 p.2.2.1) rfl⟩

theorem toks_around : (bigSep Finset.univ fun c : Dev nD => (toks c : sProp 𝕄)) = bigSep Finset.univ fun c : Dev nD => payToks c := by
  unfold toks payToks
  have hb : (bigSep Finset.univ fun c : Dev nD => bigSep Finset.univ fun d : Fin 2 => (dutyTok ER (barCell c) 0 d : sProp 𝕄))
      = bigSep Finset.univ fun c : Dev nD => bigSep Finset.univ fun d : Fin 2 => dutyTok ER (barCell (dst c (opp d))) 0 d := by
    rw [← bigSep_univ_prod (fun p : Dev nD × Fin 2 => (dutyTok ER (barCell p.1) 0 p.2 : sProp 𝕄)), bigSep_univ_equiv turnBar, bigSep_univ_prod]
    rfl
  have hr : (bigSep Finset.univ fun c : Dev nD => bigSep Finset.univ fun x : X => (dutyTok ER (recvCell c x) 0 0 : sProp 𝕄))
      = bigSep Finset.univ fun c : Dev nD => bigSep Finset.univ fun x : X => dutyTok ER (recvCell (dst c x.2.1) x) 0 0 := by
    rw [← bigSep_univ_prod (fun p : Dev nD × X => (dutyTok ER (recvCell p.1 p.2) 0 0 : sProp 𝕄)), bigSep_univ_equiv turnRecv, bigSep_univ_prod]
    rfl
  rw [bigSep_sep', bigSep_sep', bigSep_sep', bigSep_sep', hb, hr]

/-- What the launch element deals a device. -/
def G (c : Dev nD) : sProp 𝕄 :=
  iprop((bigSep Finset.univ fun k : CI => roundState ER (Rd m) (cell (c, k)) 0)
    ∗ (bigSep Finset.univ fun k : CI => iprop(atPos ER (cell (c, k)) 0 ∅ 0 ∗ reached ER (cell (c, k)) 0)) ∗ toks c)

/-- The cells of the device's own, local copies' semaphores and the shared ones, as indices. -/
abbrev OI : Type := (Fin 2 × Fin 2) ⊕ ((Fin 2 × Fin 4) ⊕ (X ⊕ X))
instance : DecidableEq ((Fin 2 × Fin 4) ⊕ (X ⊕ X)) := by infer_instance
instance : DecidableEq OI := by infer_instance
def osem : OI → SemLoc sig
  | .inl wh => .dma (inSemOf wh.1 wh.2)
  | .inr (.inl p) => .dma (kvSem (semOff p.2 p.1))
  | .inr (.inr (.inl x)) => .dma (sendSem x.1 x.2.1 x.2.2)
  | .inr (.inr (.inr x)) => .dma (recvSem x.1 x.2.1 x.2.2)

/-- What the global step makes of it. -/
def G' (c : Dev nD) : sProp 𝕄 := iprop((∃ K, Recs m K ∗ Lin (F := F) c) ∗ LocalCells (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (cell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum]
    rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

abbrev osems (c : Dev nD) : sProp 𝕄 := Pipeline.ownSems0 (Ix := Unit) (Name := ℕ) (U := UU) (Lvl := ℕ) (Val := Elt F) (τ := τ) osem c

theorem unscopedSems0_eq (c : Dev nD) : (unscopedSems0 c : sProp 𝕄) = semVal (barCell c) 0 := by
  unfold unscopedSems0; rw [bigSep_eq_bigSepL_of_eq [SemLoc.reg barSem] (by decide) (by decide)]; rfl

theorem sep_regroup (A B C D E : sProp 𝕄) : iprop(A ∗ (B ∗ C) ∗ D ∗ E) = iprop((A ∗ B ∗ C) ∗ D ∗ E) := by
  refine BI.equiv_iff.mp ⟨?_, ?_⟩
  · show iprop(A ∗ (B ∗ C) ∗ D ∗ E) ⊢ iprop((A ∗ B ∗ C) ∗ D ∗ E)
    iintro ⟨A, ⟨B, C⟩, D, E⟩
    isplitl [A B C]
    · isplitl [A]; · iexact A
      isplitl [B]; · iexact B
      iexact C
    isplitl [D]; · iexact D
    iexact E
  · show iprop((A ∗ B ∗ C) ∗ D ∗ E) ⊢ iprop(A ∗ (B ∗ C) ∗ D ∗ E)
    iintro ⟨⟨A, B, C⟩, D, E⟩
    isplitl [A]; · iexact A
    isplitl [B C]
    · isplitl [B]; · iexact B
      iexact C
    isplitl [D]; · iexact D
    iexact E

/-- The own semaphores by kind. -/
theorem osems_eq (c : Dev nD) : osems (F := F) c
    = iprop(LocalCells (F := F) c ∗ (bigSep Finset.univ fun x : X => semVal (sendCell c x) 0) ∗ bigSep Finset.univ fun x : X => semVal (recvCell c x) 0) := by
  have hi : (bigSep Finset.univ fun p : Fin 2 × Fin 2 => (semVal ((c : Thread nD τ), osem (.inl p)) 0 : sProp 𝕄)) = InCells (F := F) c := by
    rw [bigSep_univ_eq_bigSepL [((0 : Fin 2), (0 : Fin 2)), (1, 0), (0, 1), (1, 1)] (by decide) (by decide)]
    rfl
  have hk : (bigSep Finset.univ fun p : Fin 2 × Fin 4 => (semVal ((c : Thread nD τ), osem (.inr (.inl p))) 0 : sProp 𝕄)) = iprop(SlotCells (F := F) c 0 ∗ SlotCells (F := F) c 1) := by
    rw [bigSep_univ_prod, BI.bigSep_fin_two, slot_list, slot_list]
    rfl
  unfold osems Pipeline.ownSems0 LocalCells
  rw [bigSep_univ_sum, bigSep_univ_sum, bigSep_univ_sum, hi, hk]
  exact sep_regroup _ _ _ _ _

theorem cells_eq (c : Dev nD) (Φ : GSem nD τ sig → sProp 𝕄) : (bigSep Finset.univ fun k : CI => Φ (cell (c, k)))
    = iprop(Φ (barCell c) ∗ (bigSep Finset.univ fun x : X => Φ (sendCell c x)) ∗ bigSep Finset.univ fun x : X => Φ (recvCell c x)) := by
  rw [bigSep_univ_sum, bigSep_univ_sum, bigSep_univ_eq_bigSepL [()] (by decide) (by decide)]
  rfl

theorem core_alloc (c : Dev nD) :
    iprop(osems (F := F) c ∗ unscopedSems0 c ∗ G m c)
      ⊢ (|={Set.univ}=> iprop(LocalCells (F := F) c ∗ (bigSep Finset.univ fun k : CI => iprop(∃ κ : ℕ, cellInv ER (Rd m) κ (cell (c, k))))
          ∗ (bigSep Finset.univ fun k : CI => iprop(atPos ER (cell (c, k)) 0 ∅ 0 ∗ reached ER (cell (c, k)) 0)) ∗ toks c) : sProp 𝕄) := by
  unfold G
  rw [osems_eq, unscopedSems0_eq]
  iintro ⟨⟨HL, Hs, Hr⟩, Hb, Hst, Hat, Htok⟩
  ihave Hv := (Entails.of_eq (cells_eq (F := F) c fun g => semVal g 0).symm) $$ [Hs Hr Hb]
  · isplitl [Hb]; · iexact Hb
    isplitl [Hs] <;> iassumption
  imod (show iprop((bigSep Finset.univ fun k : CI => semVal (cell (c, k)) 0) ∗ bigSep Finset.univ fun k : CI => roundState ER (Rd m) (cell (c, k)) 0)
      ⊢ (|={Set.univ}=> bigSep Finset.univ fun k : CI => iprop(∃ κ : ℕ, cellInv ER (Rd m) κ (cell (c, k))) : sProp 𝕄) from by
        rw [← bigSep_sep']
        exact (bigSep_mono fun k _ => (Rounds.body_intro ER (Rd m) (cell (c, k))).trans inv_alloc).trans (bigSep_fupd _ _)) $$ [Hv Hst] with Hinv
  · isplitl [Hv] <;> iassumption
  imodintro
  isplitl [HL]; · iexact HL
  isplitl [Hinv]; · iexact Hinv
  isplitl [Hat]; · iexact Hat
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with a device of its own: the local cells, its positions, and what it pays with. -/
def stays (c : Dev nD) : sProp 𝕄 :=
  iprop(LocalCells (F := F) c ∗ (bigSep Finset.univ fun k : CI => atPos ER (cell (c, k)) 0 ∅ 0) ∗ payToks (F := F) c)

theorem lin_of (c : Dev nD) : iprop((bigSep Finset.univ fun k : CI => atPos ER (cell (c, k)) 0 ∅ 0) ∗ payToks (F := F) c) ⊢ (Lin (F := F) c : sProp 𝕄) := by
  have ht : (bigSep Finset.univ fun x : X => Tok (F := F) c x)
      = iprop((bigSep Finset.univ fun x : X => dutyTok ER (sendCell c x) 0 0) ∗ bigSep Finset.univ fun x : X => dutyTok ER (recvCell (dst c x.2.1) x) 0 0) := by
    unfold Tok; exact bigSep_sep' _ _ _
  unfold Lin payToks
  rw [cells_eq c fun g => atPos ER g 0 ∅ 0, ht, bigSep_sep']
  iintro ⟨⟨A, B, C⟩, D, E, H⟩
  isplitl [A]; · iexact A
  isplitl [D]; · iexact D
  isplitl [E H]; · isplitl [E] <;> iassumption
  isplitl [B] <;> iassumption

theorem dealt (K : Dev nD × CI → ℕ) (c : Dev nD) : iprop(Recs m K ∗ stays (F := F) c) ⊢ (G' m c : sProp 𝕄) := by
  unfold stays G'
  iintro ⟨HR, HL, HA⟩
  isplitr [HL]
  · iexists K
    isplitl [HR]; · iexact HR
    iapply (lin_of (F := F) c) $$ HA
  iexact HL

theorem regroup :
    (bigSep Finset.univ fun c : Dev nD => iprop(LocalCells (F := F) c ∗ (bigSep Finset.univ fun k : CI => iprop(∃ κ : ℕ, cellInv ER (Rd m) κ (cell (c, k))))
          ∗ (bigSep Finset.univ fun k : CI => iprop(atPos ER (cell (c, k)) 0 ∅ 0 ∗ reached ER (cell (c, k)) 0)) ∗ toks c) : sProp 𝕄)
      ⊢ bigSep Finset.univ (G' m) := by
  rw [bigSep_sep', bigSep_sep', bigSep_sep', ← bigSep_univ_prod (fun ck : Dev nD × CI => iprop(∃ κ : ℕ, cellInv ER (Rd m) κ (cell ck))),
    bigSep_congr (s := Finset.univ) (fun (c : Dev nD) _ => bigSep_sep' Finset.univ (fun k : CI => (atPos ER (cell (c, k)) 0 ∅ 0 : sProp 𝕄)) (fun k => reached ER (cell (c, k)) 0)),
    bigSep_sep', ← bigSep_univ_prod (fun ck : Dev nD × CI => (reached ER (cell ck) 0 : sProp 𝕄)), toks_around]
  iintro ⟨HL, HI, ⟨Hat, #HR⟩, Htok⟩
  ihave HK := (BI.bigSep_exists_pi Finset.univ (fun (ck : Dev nD × CI) (κ : ℕ) => (cellInv ER (Rd m) κ (cell ck) : sProp 𝕄))) $$ HI
  icases HK with ⟨%K, #HI⟩
  iapply (bigSep_with (F := F) (R := Recs m K) fun c _ => dealt m K c)
  isplitr
  · unfold Recs; isplitl; · iexact HI
    iexact HR
  unfold stays
  rw [bigSep_sep', bigSep_sep']
  isplitl [HL]; · iexact HL
  isplitl [Hat]; · iexact Hat
  iexact Htok

/-- The global step: every device's semaphores at once. -/
theorem glob : (bigSep Finset.univ fun c => iprop(osems (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem oweL_bar (d c : Dev nD) (xs : List X) : oweL d xs (barCell c) () = 0 := by
  rcases Nat.eq_zero_or_pos (oweL d xs (barCell c) ()) with h | h
  · exact h
  · obtain ⟨x, -, e⟩ := oweL_pos h
    exact absurd e (bar_ne c _ _)

theorem oweL_recv (d c : Dev nD) (x : X) (xs : List X) : oweL d xs (recvCell c x) () = if d = dst c (opp x.2.1) then xs.count x * amt x.2.2 else 0 := by
  induction xs with
  | nil => simp [oweL]
  | cons y ys ih =>
    show oweL d ys (recvCell c x) () + (tallyAt (recvCell (dst d y.2.1) y) () (amt y.2.2) : CellTallies nD τ sig Unit) (recvCell c x) () = _
    rw [ih, tallyAt_apply]
    by_cases hxy : x = y
    · subst hxy
      rw [List.count_cons_self]
      by_cases h : d = dst c (opp x.2.1)
      · subst h
        rw [if_pos rfl, if_pos rfl, dst_opp, if_pos ⟨rfl, rfl⟩, Nat.add_mul, Nat.one_mul]
      · rw [if_neg h, if_neg h, if_neg]
        rintro ⟨e, -⟩
        apply h
        rw [(recv_eq_iff.mp e).1, dst_opp']
    · have hn : ¬ (recvCell c x = recvCell (dst d y.2.1) y ∧ () = ()) := fun e => hxy (recv_eq_iff.mp e.1).2
      rw [if_neg hn, List.count_cons_of_ne (fun e => hxy e.symm), Nat.add_zero]

theorem owed_bar (d c : Dev nD) : O₀ d (barCell c) () = (if d = bk c 1 then 1 else 0) + (if d = fw c 1 then 1 else 0) := by
  show (oweL d l0 (barCell c) () + (tallyAt (barCell (fw d 1)) () 1 : CellTallies nD τ sig Unit) (barCell c) ())
    + (tallyAt (barCell (bk d 1)) () 1 : CellTallies nD τ sig Unit) (barCell c) () = _
  rw [oweL_bar, tallyAt_apply, tallyAt_apply, Nat.zero_add]
  have e₁ : ∀ d c : Dev nD, Iff (c = fw d 1) (d = bk c 1) := by decide +kernel
  have e₂ : ∀ d c : Dev nD, Iff (c = bk d 1) (d = fw c 1) := by decide +kernel
  have h₁ : Iff (barCell c = barCell (fw d 1) ∧ () = ()) (d = bk c 1) := ⟨fun h => (e₁ d c).mp (bar_eq_iff.mp h.1), fun h => ⟨bar_eq_iff.mpr ((e₁ d c).mpr h), rfl⟩⟩
  have h₂ : Iff (barCell c = barCell (bk d 1) ∧ () = ()) (d = fw c 1) := ⟨fun h => (e₂ d c).mp (bar_eq_iff.mp h.1), fun h => ⟨bar_eq_iff.mpr ((e₂ d c).mpr h), rfl⟩⟩
  exact congr_arg₂ (· + ·) (if_congr h₁ rfl rfl) (if_congr h₂ rfl rfl)

theorem owed_recv (d c : Dev nD) (x : X) : O₀ d (recvCell c x) () = if d = dst c (opp x.2.1) then amt x.2.2 else 0 := by
  show (oweL d l0 (recvCell c x) () + (tallyAt (barCell (fw d 1)) () 1 : CellTallies nD τ sig Unit) (recvCell c x) ())
    + (tallyAt (barCell (bk d 1)) () 1 : CellTallies nD τ sig Unit) (recvCell c x) () = _
  have hc : ∀ x : X, l0.count x = 1 := by decide +kernel
  rw [oweL_recv, hc, Nat.one_mul, tallyAt_apply, tallyAt_apply]
  have h₁ : ¬ (recvCell c x = barCell (fw d 1) ∧ () = ()) := fun e => bar_ne _ _ _ e.1.symm
  have h₂ : ¬ (recvCell c x = barCell (bk d 1) ∧ () = ()) := fun e => bar_ne _ _ _ e.1.symm
  rw [if_neg h₁, if_neg h₂, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (bk c 1) fun _ => 1, Finset.sum_ite_eq' Finset.univ (fw c 1) fun _ => 1, if_pos (Finset.mem_univ _), if_pos (Finset.mem_univ _)]

theorem launch_recv (c : Dev nD) (x : X) :
    tallyOn (recvCell c x) (launchCredit (Pipeline.owing O₀) 0 (recvCell c x)) = (tallyAt (recvCell c x) () (amt x.2.2) : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (dst c (opp x.2.1)) fun _ => amt x.2.2, if_pos (Finset.mem_univ _)]

def recvEmb : X ↪ SemLoc sig := ⟨fun x => .dma (recvSem x.1 x.2.1 x.2.2), fun x y h => recv_inj (SemLoc.dma.inj h)⟩

theorem creds (c : Dev nD) : (Pipeline.launchCred O₀ c : sProp 𝕄) ⊢ Creds (F := F) c := by
  unfold Pipeline.launchCred Creds
  rw [bigSep_univ_at _ (SemLoc.reg barSem), launch_bar]
  refine sep_mono_right ?_
  have hs : (Finset.univ : Finset X).map recvEmb ⊆ Finset.univ.erase (SemLoc.reg barSem) := fun s hs => by
    obtain ⟨x, -, e⟩ := Finset.mem_map.mp hs
    subst e
    refine Finset.mem_erase.mpr ⟨fun h => ?_, Finset.mem_univ _⟩
    have : SemLoc.dma (recvSem x.1 x.2.1 x.2.2) = SemLoc.reg barSem := h
    cases this
  refine (bigSep_subset hs).trans ?_
  rw [bigSep_map]
  exact bigSep_mono fun x _ => Entails.of_eq (congrArg cred (launch_recv c x))

end Cert.RingAttn

end
-- ==== Proof.Launch.lean ====
/-
# 01_k — the launch and the run

The four devices' kernels run together from any memory: the run ends, the arguments are unchanged, every semaphore is at
zero, and each device's output window holds what its body computes.
-/
module

public import proofs.«01_k».proof.Proof.Deal
public import Idealize.ShloMosaic.Lib.Pipeline.CollectiveSegs

@[expose] public section

set_option maxRecDepth 65536

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The proof data -/

/-- The input window's block: the device's whole x. -/
def xstg (c : Dev nD) : Vec F S1x2048x1024 .f32 := (win0_0.blk t0_0).view.read (Elt F) (m ((c : Thread nD τ).loc main_arg0))

/-- The output window's block after the body. -/
def outBlk (c : Dev nD) : Vec F S1x2048x1024 .f32 :=
  outVal m c (m ((c : Thread nD τ).loc main_arg2)) (m ((c : Thread nD τ).loc main_arg3)) (xstg m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outBlk m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem before_0 (c : Dev nD) (d) : (dats m ρ 0 c).before (0 : Fin 2) t0_0 d = xstg m c := by
  unfold Dat.before; rw [if_pos (fetch_0 t0_0)]; rfl

/-! ## The body -/

def bodyPre (c : Dev nD) : sProp 𝕄 :=
  iprop(Φ₀ m c ∗ (dats m ρ 0 c).owesAt () t0_0.castSucc
    ∗ (∃ d, owns (c : Thread nD τ) mX fullShare ((dats m ρ 0 c).before (0 : Fin 2) t0_0 d))
    ∗ ∃ d, owns (c : Thread nD τ) mOut fullShare ((dats m ρ 0 c).before (1 : Fin 2) t0_0 d))
def bodyPost (c : Dev nD) : sProp 𝕄 :=
  iprop(Φ₁ m c ∗ (dats m ρ 0 c).owesAt () t0_0.succ ∗ owns (c : Thread nD τ) mX fullShare (xstg m c) ∗ owns (c : Thread nD τ) mOut fullShare (outBlk m c))

theorem sound_body (c : Dev nD) : bodyPre m ρ c ⊢ WP c (bodyProg (F := F)) fun _ => bodyPost m ρ c := by
  rw [body_eq]
  unfold WP
  rw [wp_deviceId]
  unfold bodyPre Dat.owesAt Pipeline.owesWithin
  iintro ⟨HΦ, ⟨%W, -, HO⟩, ⟨%d, Hx⟩, ⟨%d', Hout⟩⟩
  rw [before_0, show (dats m ρ 0 c).owed t0_0.castSucc = O₀ c from rfl]
  have key := wp_launched (F := F) m c (x := xstg m c) (Q := fun _ => bodyPost m ρ c)
  iapply key $$ [HΦ HO Hx Hout]
  · isplitl [HΦ]; · iexact HΦ
    isplitl [HO]; · unfold Ow; iexists W; iexact HO
    isplitl [Hx]; · iexact Hx
    iexists _; iexact Hout
  unfold bodyPost Ow Dat.owesAt Pipeline.owesWithin
  rw [show (dats m ρ 0 c).owed t0_0.succ = 0 from rfl]
  iintro ⟨HΦ, ⟨%W', HO⟩, Hx, Hout⟩
  isplitl [HΦ]; · iexact HΦ
  isplitl [HO]
  · iexists W'
    isplitr; · ipureintro; exact fun _ _ => Or.inl trivial
    iexact HO
  isplitl [Hx]; · iexact Hx
  iexact Hout

theorem body_obligation (c : Dev nD) : BodyObligation (dats (F := F) m ρ 0 c) (defs₀ (F := F)) 𝒱₀ () Set.univ := fun t => by
  rw [fin_N0 t]
  rw [bigSep_W0, bigSep_W0]
  exact sound_body m ρ c

/-! ## The launch -/

theorem ownSemFacts : Pipeline.OwnSemFacts cfg0.spec osem := by
  refine ⟨?_, ?_, ?_⟩ <;> (unfold osem; decide +kernel)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Start m c ∗ emp) := by
  rw [Pipeline.unscopedRestP_none, unscopedRest0_eq]
  unfold G' Start
  iintro ⟨HH, Hlev, Hcr, -, HG, HL⟩
  ihave Hc := (creds (F := F) c) $$ Hcr
  imodintro
  isplitl
  · isplitl [HG]; · iexact HG
    isplitl [Hc]; · iexact Hc
    isplitl [Hlev]; · iexact Hlev
    isplitl [HH]; · unfold Hbm; iexact HH
    iexact HL
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

/-- What is left for the end: the barrier cell and the arrays no window stages. -/
def Left (c : Dev nD) : sProp 𝕄 := iprop(unscopedSems0 c ∗ Hbm m c)

theorem phi1_exit (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = Φ₁ m c from rfl, scopedRest0_eq]
  have hr : (bigSep Finset.univ fun x : X => Rest (F := F) c x)
      = iprop((bigSep Finset.univ fun x : X => semVal (sendCell c x) 0) ∗ bigSep Finset.univ fun x : X => semVal (recvCell c x) 0) := by
    unfold Rest; exact bigSep_sep' _ _ _
  unfold Φ₁ Rests Left
  rw [unscopedSems0_eq]
  iintro ⟨⟨Hb, H0, H1, H2⟩, HH, HL, HS⟩
  ihave Hr := (Entails.of_eq (four_list (Rest (F := F) c)).symm) $$ [H0 H1 H2]
  · isplitl [H0]; · iexact H0
    isplitl [H1] <;> iassumption
  ihave Hr := (Entails.of_eq hr) $$ Hr
  isplitl [Hb HH]; · isplitl [Hb] <;> iassumption
  isplitl [HL Hr]
  · iapply (Entails.of_eq (osems_eq (F := F) c).symm)
    isplitl [HL] <;> iassumption
  unfold Scr
  iexact HS

theorem waits (c : Dev nD) : (levAts L lv : sProp 𝕄) ⊢ Pipeline.cellsWaits cfgs (dats m ρ) () 0 c :=
  Pipeline.cellsWaits_intro cfgs (dats m ρ) () 0 c fun w s t =>
    mayWait_above (F := F) c (n := 0) (by fin_cases w <;> fin_cases s <;> exact Nat.le_refl 0) (by
      rcases t with ⟨_ | _, ht⟩
      · exact O₀_above c
      · exact fun g u hg => absurd hg (Nat.lt_irrefl 0))

/-! ## The run -/

def finalA (c : Dev nD) (w : Fin cfg0.W) : Buf (Elt F) ((cfg0.win w).arr.view.loc (c : Thread nD τ)) := (dats m ρ 0 c).arrAt w cfg0.N

/-- What holds of the arrays no window stages. -/
def Kept (c : Dev nD) (s : MemSt nD τ sig (Elt F)) : Prop :=
  (∀ sm : SemLoc sig, sm.isScoped .tc = false → s.sem ((c.tc : Thread nD τ), sm) = 0)
  ∧ s.mem ((c : Thread nD τ).loc main_arg1) = m ((c : Thread nD τ).loc main_arg1) ∧ s.mem ((c : Thread nD τ).loc main_arg2) = m ((c : Thread nD τ).loc main_arg2)
  ∧ s.mem ((c : Thread nD τ).loc main_arg3) = m ((c : Thread nD τ).loc main_arg3) ∧ s.mem ((c : Thread nD τ).loc main_arg4) = m ((c : Thread nD τ).loc main_arg4)

theorem hbm_list (c : Dev nD) : Hbm m c
    = (bigSep ({main_arg1, main_arg2, main_arg3, main_arg4} : Finset (Ref sig .tc)) fun b => ((c : Thread nD τ).loc b) ↦{fullShare} m ((c : Thread nD τ).loc b) : sProp 𝕄) := by
  rw [bigSep_eq_bigSepL_of_eq [main_arg1, main_arg2, main_arg3, main_arg4] (by decide) (by decide)]
  rfl

theorem kept (c : Dev nD) (s' : Phys nD τ sig (Elt F)) : iprop(Left m c ∗ emp ∗ SI s') ⊢ (iprop(|={Set.univ}=> (⌜Kept m c s'.mem⌝ ∗ SI s')) : sProp 𝕄) := by
  unfold Left
  iintro ⟨⟨Hu, HH⟩, -, HSI⟩
  ihave HH := (Entails.of_eq (hbm_list (F := F) m c)) $$ HH
  ihave ⟨%hk, HSI⟩ := (pointsTo_read_all ({main_arg1, main_arg2, main_arg3, main_arg4} : Finset (Ref sig .tc)) (fun b => (c : Thread nD τ).loc b)
    (fun b => m ((c : Thread nD τ).loc b)) s') $$ [HH HSI]
  · isplitl [HH] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, hk _ (by decide), hk _ (by decide), hk _ (by decide), hk _ (by decide)⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ Kept m c r.2

set_option maxHeartbeats 1000000 in
/-- Every run of the four kernels ends, with each device's output window as the body left it, the arrays no window stages
    unchanged, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := fun g hg => if_neg hg) (hwaits := waits m ρ)
    (G := G m) (G' := G' m) (u₀ := u₀)
    (hu₀ := by
      iintro Hu
      ihave H := (own_u₀ (F := F)) $$ Hu
      icases H with ⟨HP, HX⟩
      imod (fund_ring m) $$ HX with HG
      imodintro
      isplitl [HP] <;> iassumption)
    (hglob := glob m)
    (hA := fun _ _ => rfl) (hpf := fun _ k => k.elim0)
    (X := Start m) (Y := Left m) (Z := fun _ => iprop(emp))
    (hX := start_intro m ρ) (hin := phi0_intro m ρ) (hout := phi1_exit m ρ)
    (QY := Kept m)
    (hY := kept m)
    (hQ := fun _ h hs => ⟨fun c => ⟨fun w => (h c).1 w, (h c).2.2⟩, sem_eq_zero hs fun c => (h c).2.2.1⟩)

/-- x is unchanged. -/
theorem finalA_x (c : Dev nD) : finalA m ρ c (0 : Fin 2) = m ((c : Thread nD τ).loc main_arg0) :=
  (dats (F := F) m ρ 0 c).arrAt_in (0 : Fin 2) rfl _

/-- Every run leaves every device's arguments as they were and every semaphore at zero. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 (0 : Fin 2)).trans (finalA_x m ρ c), (h.1 c).2.2⟩, h.2⟩) (run_main m ρ)

end Cert.RingAttn

end
-- ==== Proof.Frames.lean ====
/-
# 01_k — the frames

The kernel as printed and the kernel idealized have one text, so the run of the one at any float values is the run of the
other. The reference's frame is its generated run.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import Idealize.ShloMosaic.PureOps.BitExact
public import Idealize.ShloMosaic.PureOps.Ideal

@[expose] public section

noncomputable section

namespace Cert.RingAttn

open Idealize.ShloMosaic Idealize.ShloMosaic.TcCoe Idealize.SL.Sem

attribute [local instance] Cert.Kernel.Gen.facts in
/-- The two body tables agree: a table has one label, and at it both run one body. -/
theorem bodies_eq {F : FTy → Type} [FloatOps F] :
    Cert.Kernel.defs₀ (F := F) = Cert.KernelIdeal.defs₀ (F := F) := by
  refine congrArg Defs.onTc ?_
  funext l a
  match l, a with
  | 0, (t, s) => rfl
  | ⟨_ + 1, h⟩, _ => exact absurd h (Nat.not_lt.2 (Nat.le_add_left _ _))

attribute [local instance] Cert.Kernel.Gen.facts in
/-- So do the tables with the pipelines' labels. -/
theorem defs_eq {F : FTy → Type} [FloatOps F] : Cert.Kernel.defs (F := F) = Cert.KernelIdeal.defs (F := F) :=
  congrArg (Pipeline.defs (Cert.KernelIdeal.pcfgs (F := F))) bodies_eq

/-- Every run of the kernel ends with the arguments unchanged and every semaphore at zero. -/
theorem frame_kernel : @Cert.quiescent_Kernel Cert.Kernel.Gen.facts := fun m ρ _ => by
  have h := run_frame (F := Bits) m ρ
  rw [← defs_eq] at h
  exact h

/-- Every run of the idealized kernel ends with the arguments unchanged and every semaphore at zero. -/
theorem frame_ideal : @Cert.quiescent_KernelIdeal Cert.KernelIdeal.Gen.facts := fun m ρ _ =>
  (θ_run Cert.KernelIdeal.defs _ _).mono (fun _ h => h) (run_frame (F := Ideal) m ρ)

/-- Every run of the reference ends with the arguments unchanged; it has no semaphores. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingAttn

end
-- ==== Proof.RefTerm.lean ====
/-
# 01_k — the reference's result, step by step

The reference's run gives its result as one term. Here the same term is written in its steps: the block of a position,
the mask, the scores, the weights, the contexts and the last product.
-/
module

public import proofs.«01_k».proof.Proof.Gen.ReferenceIdeal.Run
public import Idealize.ShloMosaic.PureOps.Ideal

@[expose] public section

noncomputable section

namespace Cert.RingAttn.Ref

open Cert.ReferenceIdeal Cert.ReferenceIdeal.Gen
open Idealize.ShloMosaic Idealize.ShloMosaic.TcCoe Idealize.SL.Sem

/-! ## The mask -/

/-- The block a position lies in: its number divided by 64, rounding down. -/
def blockNo : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The blocks of the queries, a column; of the keys, a row. -/
def blockCol : IVec S2048x1 32 := broadcastInDim S2048x1 ![0] bcast_S2048_S2048x1_0 blockNo
def blockRow : IVec S1x2048 32 := broadcastInDim S1x2048 ![1] bcast_S2048_S1x2048_1 blockNo

/-- The divisor of a remainder: 4, or 1 were it 0. -/
def four : IVec S_ 32 := select (cmpi .eq (id (constantI S_ 32 4#32)) (constantI S_ 32 0#32)) (constantI S_ 32 1#32) (id (constantI S_ 32 4#32))

/-- A word of each shape is broadcast to the row or the column. -/
abbrev inRow {w : ℕ} (x : IVec S_ w) : IVec S1x2048 w := broadcastInDim S1x2048 ![] bcast_S_S1x2048 x
abbrev inCol {w : ℕ} (x : IVec S_ w) : IVec S2048x1 w := broadcastInDim S2048x1 ![] bcast_S_S2048x1 x

/-- The remainders of the keys' blocks by 4, with the divisor's sign. -/
def residueRow : IVec S1x2048 32 :=
  select (andi (cmpi .ne (cmpi .slt (Host.remsi blockRow (inRow four)) (inRow (constantI S_ 32 0#32)))
      (inRow (cmpi .slt four (constantI S_ 32 0#32)))) (cmpi .ne (Host.remsi blockRow (inRow four)) (inRow (constantI S_ 32 0#32))))
    (addi (Host.remsi blockRow (inRow four)) (inRow four)) (Host.remsi blockRow (inRow four))

/-- The remainders of the queries' blocks by 4. -/
def residueCol : IVec S2048x1 32 :=
  select (andi (cmpi .ne (cmpi .slt (Host.remsi blockCol (inCol four)) (inCol (constantI S_ 32 0#32)))
      (inCol (cmpi .slt four (constantI S_ 32 0#32)))) (cmpi .ne (Host.remsi blockCol (inCol four)) (inCol (constantI S_ 32 0#32))))
    (addi (Host.remsi blockCol (inCol four)) (inCol four)) (Host.remsi blockCol (inCol four))

abbrev ofRow (x : IVec S1x2048 32) : IVec S2048x2048 32 := broadcastInDim S2048x2048 ![0, 1] bcast_S1x2048_S2048x2048_0_1 x
abbrev ofCol (x : IVec S2048x1 32) : IVec S2048x2048 32 := broadcastInDim S2048x2048 ![0, 1] bcast_S2048x1_S2048x2048_0_1 x

/-- The pairs kept: of one block, or of blocks with one remainder. -/
def mask : IVec S2048x2048 1 := ori (cmpi .eq (ofCol blockCol) (ofRow blockRow)) (cmpi .eq (ofRow residueRow) (ofCol residueCol))

/-- The queries with a pair kept. -/
def rowKeep : IVec S1x1x2048x1 1 :=
  broadcastInDim S1x1x2048x1 ![2] bcast_S2048_S1x1x2048x1_2 (Host.reduce IntOp.ori mask (constantI S_ 1 0#1) reducesTo_S2048x2048_S2048_d1 h_S_)

/-! ## The scores and the weights -/

abbrev Sq : Type := FVec Ideal S4x32x2048x2048 .f32

section Steps
variable (x : FVec Ideal S4x2048x1024 .f32) (wq : FVec Ideal S1024x4096 .f32) (k v : FVec Ideal S4x2048x32x128 .f32) (wo : FVec Ideal S4096x1024 .f32)

/-- The scores: queries times keys, scaled. -/
def scores : Sq :=
  mulf (Host.dotGeneral dot_S4x2048x32x128_S4x2048x32x128_S4x32x2048x2048_3_3_1_1_02_02 none
      (shapeCast S4x2048x32x128 (Host.dotGeneral dot_S4x2048x1024_S1024x4096_S4x2048x4096_2_0_01_1_n_n none x wq) shapeCasts_S4x2048x4096_S4x2048x32x128) k)
    (broadcastInDim S4x32x2048x2048 ![] bcast_S_S4x32x2048x2048 (constant S_ .f32 0x3DB504F3#32))

/-- The scores, the masked ones at −∞. -/
def kept : Sq :=
  select (broadcastInDim S4x32x2048x2048 ![0, 1, 2, 3] bcast_S1x1x2048x2048_S4x32x2048x2048_0_1_2_3
      (broadcastInDim S1x1x2048x2048 ![2, 3] bcast_S2048x2048_S1x1x2048x2048_2_3 mask))
    (scores x wq k) (broadcastInDim S4x32x2048x2048 ![] bcast_S_S4x32x2048x2048 (id (constant S_ .f32 0xFF800000#32)))

/-- A value of each row of scores, at every score of the row. -/
abbrev ofRows (y : FVec Ideal S4x32x2048x1 .f32) : Sq := broadcastInDim S4x32x2048x2048 ![0, 1, 2, 3] bcast_S4x32x2048x1_S4x32x2048x2048_0_1_2_3 y

/-- The exponentials of the scores less their row's maximum. -/
def expo : Sq :=
  Host.exp (subf (kept x wq k) (ofRows (broadcastInDim S4x32x2048x1 ![0, 1, 2] bcast_S4x32x2048_S4x32x2048x1_0_1_2
    (Host.reduce FloatOps.maximumf (kept x wq k) (constant S_ .f32 0xFF800000#32) reducesTo_S4x32x2048x2048_S4x32x2048_d3 h_S_))))

/-- Their sum over each row, 1 in a row with nothing kept. -/
def total : FVec Ideal S4x32x2048x1 .f32 :=
  select (broadcastInDim S4x32x2048x1 ![0, 1, 2, 3] bcast_S1x1x2048x1_S4x32x2048x1_0_1_2_3 rowKeep)
    (broadcastInDim S4x32x2048x1 ![0, 1, 2] bcast_S4x32x2048_S4x32x2048x1_0_1_2
      (Host.reduceAdd (expo x wq k) (constant S_ .f32 0x00000000#32) reducesTo_S4x32x2048x2048_S4x32x2048_d3 h_S_))
    (broadcastInDim S4x32x2048x1 ![] bcast_S_S4x32x2048x1 (id (constant S_ .f32 0x3F800000#32)))

/-- The weights. -/
def weights : Sq :=
  select (broadcastInDim S4x32x2048x2048 ![0, 1, 2, 3] bcast_S1x1x2048x1_S4x32x2048x2048_0_1_2_3 rowKeep)
    (Host.divf (expo x wq k) (ofRows (total x wq k)))
    (broadcastInDim S4x32x2048x2048 ![] bcast_S_S4x32x2048x2048 (id (constant S_ .f32 0x00000000#32)))

/-- The contexts, the heads side by side. -/
def context : FVec Ideal S4x2048x4096 .f32 :=
  shapeCast S4x2048x4096 (transpose S4x2048x32x128 [0, 3, 1, 2]
      (Host.dotGeneral dot_S4x2048x32x128_S4x32x2048x2048_S4x32x128x2048_1_3_3_2_02_01 none v (weights x wq k))
      transposes_S4x32x128x2048_S4x2048x32x128_0_3_1_2)
    shapeCasts_S4x2048x32x128_S4x2048x4096

/-- The result. -/
def result : FVec Ideal S4x2048x1024 .f32 :=
  Host.dotGeneral dot_S4x2048x4096_S4096x1024_S4x2048x1024_2_0_01_1_n_n none (context x wq k v) wo

end Steps

/-- The run's result is the term in steps. -/
theorem res_eq (m : (ℓ : Loc nD τ sig) → Buf (Elt Ideal) ℓ) (c : Dev nD) :
    Value.res_main_v39 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.RingAttn.Ref

end
-- ==== Proof.RefMask.lean ====
/-
# 01_k — the mask

A query and a key are kept when their blocks leave one remainder by 4; two positions of one block do, so the
reference's first condition adds nothing. Every query keeps itself.
-/
module

public import proofs.«01_k».proof.Proof.RefTerm
public import Idealize.ShloMosaic.Lib.Pointwise
public import Idealize.ShloMosaic.Lib.Routing.OpsOrder

@[expose] public section

noncomputable section

namespace Cert.RingAttn.Ref

open Cert.ReferenceIdeal Cert.ReferenceIdeal.Gen
open Idealize.ShloMosaic Idealize.ShloMosaic.TcCoe Idealize.SL.Sem

theorem blockNo_apply : ∀ i : Fin 2048, blockNo (ix1 i) = BitVec.ofNat 32 (i.val / 64) := by decide +kernel
theorem residueRow_apply : ∀ j : Fin 2048, residueRow (ix2 0 j) = BitVec.ofNat 32 (j.val / 64 % 4) := by decide +kernel
theorem residueCol_apply : ∀ j : Fin 2048, residueCol (ix2 j 0) = BitVec.ofNat 32 (j.val / 64 % 4) := by decide +kernel

theorem ofNat_inj {a b : ℕ} (ha : a < 2048) (hb : b < 2048) : BitVec.ofNat 32 a = BitVec.ofNat 32 b ↔ a = b := by
  constructor
  · intro h
    have := congrArg BitVec.toNat h
    simp only [BitVec.toNat_ofNat] at this
    omega
  · rintro rfl; rfl

theorem ori_eq_iff (a b c d : BitVec 32) : IntOp.ori (IntOp.cmpi .eq a b) (IntOp.cmpi .eq c d) = 1#1 ↔ a = b ∨ c = d := by
  have e (x y : BitVec 32) (h : ¬ x = y) : (x == y) = false := beq_eq_false_iff_ne.2 h
  by_cases h1 : a = b <;> by_cases h2 : c = d <;> simp [IntOp.cmpi, IntOp.ori, h1, h2, e]

/-- What the mask keeps. -/
theorem mask_iff (i j : Fin 2048) : mask (ix2 i j) = 1#1 ↔ j.val / 64 % 4 = i.val / 64 % 4 := by
  have h : mask (ix2 i j) = IntOp.ori (IntOp.cmpi .eq (blockNo (ix1 i)) (blockNo (ix1 j))) (IntOp.cmpi .eq (residueRow (ix2 0 j)) (residueCol (ix2 i 0))) := by
    pointwise [mask, ofCol, ofRow, blockCol, blockRow]
  rw [h, blockNo_apply, blockNo_apply, residueRow_apply, residueCol_apply, ori_eq_iff, ofNat_inj (by omega) (by omega), ofNat_inj (by omega) (by omega)]
  constructor
  · rintro (h | h) <;> omega
  · exact Or.inr

/-- Every row is kept. -/
theorem rowKeep_apply (i : Fin 2048) : rowKeep (ix4 0 0 i 0) = 1#1 := by
  have h : rowKeep (ix4 0 0 i 0) = Finset.fold IntOp.ori (0#1) (fun j : Fin 2048 => mask (ix2 i j)) Finset.univ := by
    pointwise [rowKeep]
  rw [h, Routing.fold_ori]
  exact ⟨i, Finset.mem_univ i, (mask_iff i i).2 rfl⟩

end Cert.RingAttn.Ref

end
-- ==== Proof.RefValue.lean ====
/-
# 01_k — the reference's result at an index

Each step of the reference read at an index: a score is a sum over a head's 128 columns, a weight a quotient of
exponentials of the row's scores, and the result a sum over the 4096 columns of the contexts.
-/
module

public import proofs.«01_k».proof.Proof.RefMask

@[expose] public section

set_option maxRecDepth 16384

noncomputable section

namespace Cert.RingAttn.Ref

open Cert.ReferenceIdeal Cert.ReferenceIdeal.Gen
open Idealize.ShloMosaic Idealize.ShloMosaic.TcCoe Idealize.SL.Sem

variable (x : FVec Ideal S4x2048x1024 .f32) (wq : FVec Ideal S1024x4096 .f32) (k v : FVec Ideal S4x2048x32x128 .f32) (wo : FVec Ideal S4096x1024 .f32)

theorem select_one {α : Type} (a b : α) : Scalar.select 1#1 a b = a := if_pos rfl

/-- Column `d` of head `h`, among all heads' columns. -/
abbrev col (h : Fin 32) (d : Fin 128) : Fin 4096 := ⟨h.val * 128 + d.val, by omega⟩

/-- A query's column. -/
def query (b : Fin 4) (h : Fin 32) (i : Fin 2048) (d : Fin 128) : EReal := ∑ e : Fin 1024, x (ix3 b i e) * wq (ix2 e (col h d))

theorem scores_apply (b : Fin 4) (h : Fin 32) (i j : Fin 2048) :
    scores x wq k (ix4 b h i j) = (∑ d : Fin 128, query x wq b h i d * k (ix4 b j h d)) * Ideal.ofBits .f32 0x3DB504F3#32 := by
  pointwise [scores, query, col]

theorem kept_apply (b : Fin 4) (h : Fin 32) (i j : Fin 2048) :
    kept x wq k (ix4 b h i j) = Scalar.select (mask (ix2 i j)) (scores x wq k (ix4 b h i j)) (Ideal.ofBits .f32 0xFF800000#32) := by
  pointwise [kept, id]

theorem expo_apply (b : Fin 4) (h : Fin 32) (i j : Fin 2048) :
    expo x wq k (ix4 b h i j) = Ideal.exp (kept x wq k (ix4 b h i j)
      - Finset.fold max (Ideal.ofBits .f32 0xFF800000#32) (fun j' : Fin 2048 => kept x wq k (ix4 b h i j')) Finset.univ) := by
  pointwise [expo]

theorem total_apply (b : Fin 4) (h : Fin 32) (i : Fin 2048) :
    total x wq k (ix4 b h i 0) = ∑ j : Fin 2048, expo x wq k (ix4 b h i j) := by
  have e : total x wq k (ix4 b h i 0) = Scalar.select (rowKeep (ix4 0 0 i 0)) (∑ j : Fin 2048, expo x wq k (ix4 b h i j)) 1 := by
    pointwise [total, id]
  rw [e, rowKeep_apply, select_one]

theorem rowKeep_all (b : Fin 4) (h : Fin 32) (i j : Fin 2048) :
    broadcastInDim S4x32x2048x2048 ![0, 1, 2, 3] bcast_S1x1x2048x1_S4x32x2048x2048_0_1_2_3 rowKeep (ix4 b h i j) = 1#1 := by
  pointwise []
  exact rowKeep_apply i

theorem quotient_apply (a : Sq) (y : FVec Ideal S4x32x2048x1 .f32) (b : Fin 4) (h : Fin 32) (i j : Fin 2048) :
    Host.divf a (ofRows y) (ix4 b h i j) = Ideal.div (a (ix4 b h i j)) (y (ix4 b h i 0)) := by
  pointwise []

theorem weights_apply (b : Fin 4) (h : Fin 32) (i j : Fin 2048) :
    weights x wq k (ix4 b h i j) = Ideal.div (expo x wq k (ix4 b h i j)) (total x wq k (ix4 b h i 0)) := by
  rw [← quotient_apply]
  unfold weights select
  rw [rowKeep_all, select_one]

theorem context_apply (b : Fin 4) (i : Fin 2048) (t : Fin 4096) :
    context x wq k v (ix3 b i t) = ∑ j : Fin 2048, v (ix4 b j ⟨t.val / 128, by omega⟩ ⟨t.val % 128, by omega⟩) * weights x wq k (ix4 b ⟨t.val / 128, by omega⟩ i j) := by
  pointwise [context]

theorem result_apply (b : Fin 4) (i : Fin 2048) (n : Fin 1024) :
    result x wq k v wo (ix3 b i n) = ∑ t : Fin 4096, context x wq k v (ix3 b i t) * wo (ix2 t n) := by
  pointwise [result]

end Cert.RingAttn.Ref

end
-- ==== Proof.Softmax.lean ====
/-
# 01_k — the two ways of weighing

The reference takes each row's maximum off its scores and divides the exponentials before they weigh the values; the
masked scores are −∞, so their weights are 0. The kernel weighs with the exponentials of the kept scores as they are
and divides once. The two agree when the scores are real numbers, whatever the values are.
-/
module

public import Idealize.ShloMosaic.PureOps.Ideal
public import Mathlib.Analysis.SpecialFunctions.Exp

@[expose] public section

noncomputable section

namespace Cert.RingAttn

open Idealize.ShloMosaic

/-! ## Real numbers among the extended ones -/

/-- A number that is neither infinity. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A positive real factor goes into a sum of extended reals. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

theorem div_coe (x : EReal) {r : ℝ} (hr : r ≠ 0) : Ideal.div x (r : EReal) = x * ((r⁻¹ : ℝ) : EReal) := by
  rw [Ideal.div, if_neg (fun h => hr (EReal.coe_eq_zero.1 h)), EReal.coe_inv]

theorem exp_coe (r : ℝ) : Ideal.exp (r : EReal) = (Real.exp r : EReal) := rfl

/-! ## Weighing -/

section Weigh
variable {ι κ : Type} [Fintype ι] [Fintype κ] [Nonempty κ] (K : ι → Prop) [DecidablePred K] (e : κ → ι)

/-- A sum over the kept places. -/
theorem sum_kept (he : Function.Injective e) (hK : ∀ j, K j ↔ ∃ t, e t = j) (f : ι → EReal) :
    ∑ j, (if K j then f j else 0) = ∑ t, f (e t) := by
  classical
  rw [← Finset.sum_filter, ← Finset.sum_image (f := f) (s := Finset.univ) (g := e) fun a _ b _ h => he h]
  refine Finset.sum_congr ?_ fun _ _ => rfl
  ext j
  simp [hK]

/-- The scores with −∞ where nothing is kept. -/
def masked (σ : ι → EReal) (j : ι) : EReal := if K j then σ j else ⊥

/-- A row's maximum is real. -/
theorem max_real {σ : ι → ℝ} (hK : ∀ j, K j ↔ ∃ t, e t = j) :
    IsReal (Finset.fold max ⊥ (masked K fun j => (σ j : EReal)) Finset.univ) := by
  have hlt : Finset.fold max ⊥ (masked K fun j => (σ j : EReal)) Finset.univ < ⊤ := by
    rw [Finset.fold_max_lt]
    refine ⟨bot_lt_top, fun j _ => ?_⟩
    unfold masked
    split
    · exact EReal.coe_lt_top _
    · exact bot_lt_top
  have hgt : ⊥ < Finset.fold max ⊥ (masked K fun j => (σ j : EReal)) Finset.univ := by
    rw [Finset.lt_fold_max]
    obtain ⟨t⟩ := ‹Nonempty κ›
    refine Or.inr ⟨e t, Finset.mem_univ _, ?_⟩
    unfold masked
    rw [if_pos ((hK _).2 ⟨t, rfl⟩)]
    exact EReal.bot_lt_coe _
  exact ⟨_, (EReal.coe_toReal hlt.ne hgt.ne').symm⟩

/-- The two ways of weighing agree. -/
theorem weigh (he : Function.Injective e) (hK : ∀ j, K j ↔ ∃ t, e t = j) {s : ι → EReal} (hs : ∀ j, IsReal (s j)) (v : ι → EReal) :
    ∑ j, v j * Ideal.div (Ideal.exp (masked K s j - Finset.fold max ⊥ (masked K s) Finset.univ))
        (∑ j, Ideal.exp (masked K s j - Finset.fold max ⊥ (masked K s) Finset.univ))
      = Ideal.div (∑ t, Ideal.exp (s (e t)) * v (e t)) (∑ t, Ideal.exp (s (e t))) := by
  choose σ hσ using hs
  obtain rfl : s = fun j => (σ j : EReal) := funext hσ
  obtain ⟨μ, hμ⟩ := max_real K e (σ := σ) hK
  rw [hμ]
  have hexp (j : ι) : Ideal.exp (masked K (fun j => (σ j : EReal)) j - (μ : EReal)) = if K j then ((Real.exp (σ j - μ) : ℝ) : EReal) else 0 := by
    unfold masked
    split
    · rw [← EReal.coe_sub, exp_coe]
    · rw [EReal.bot_sub]; rfl
  have hpos : 0 < ∑ t, Real.exp (σ (e t)) := Finset.sum_pos (fun t _ => Real.exp_pos _) Finset.univ_nonempty
  have hsum : ∑ t, Real.exp (σ (e t) - μ) = (∑ t, Real.exp (σ (e t))) * (Real.exp μ)⁻¹ := by
    rw [Finset.sum_mul]
    exact Finset.sum_congr rfl fun t _ => by rw [Real.exp_sub, div_eq_mul_inv]
  have hμ0 : (Real.exp μ)⁻¹ ≠ 0 := inv_ne_zero (Real.exp_pos μ).ne'
  simp only [hexp, exp_coe]
  rw [sum_kept K e he hK, ← coe_sum, ← coe_sum, hsum, div_coe _ hpos.ne', sum_mul_coe _ _ (inv_nonneg.2 hpos.le)]
  have hterm (j : ι) : v j * Ideal.div (if K j then ((Real.exp (σ j - μ) : ℝ) : EReal) else 0) ((((∑ t, Real.exp (σ (e t))) * (Real.exp μ)⁻¹ : ℝ)) : EReal)
      = if K j then ((Real.exp (σ j) : ℝ) : EReal) * v j * (((∑ t, Real.exp (σ (e t)))⁻¹ : ℝ) : EReal) else 0 := by
    rw [div_coe _ (mul_ne_zero hpos.ne' hμ0)]
    split
    · rw [← EReal.coe_mul, mul_comm ((Real.exp (σ j) : ℝ) : EReal), mul_assoc, ← EReal.coe_mul]
      congr 2
      rw [Real.exp_sub, mul_inv, inv_inv, div_eq_mul_inv]
      field_simp
    · rw [zero_mul, mul_zero]
  simp only [hterm]
  exact sum_kept K e he hK _

end Weigh

end Cert.RingAttn

end
-- ==== Proof.RefHead.lean ====
/-
# 01_k — a context of the reference

The keys a row keeps are the 512 rows whose block has the row's residue. Over real scores, what the reference weighs them
with is the exponential of the score over the sum of the kept rows' exponentials.
-/
module

public import proofs.«01_k».proof.Proof.RefValue
public import proofs.«01_k».proof.Proof.Softmax

@[expose] public section

set_option maxRecDepth 16384

noncomputable section

namespace Cert.RingAttn

/-- Row `t` of residue `r`. -/
abbrev rowAt (r : Fin 4) (t : Fin 512) : Fin 2048 := ⟨t.val / 64 * 256 + r.val * 64 + t.val % 64, by omega⟩

end Cert.RingAttn

namespace Cert.RingAttn.Ref

open Cert.ReferenceIdeal Cert.ReferenceIdeal.Gen
open Idealize.ShloMosaic Idealize.ShloMosaic.TcCoe Idealize.SL.Sem

/-- The residue of a row's block. -/
abbrev residue (i : Fin 2048) : Fin 4 := ⟨i.val / 64 % 4, by omega⟩

theorem rowAt_injective (r : Fin 4) : Function.Injective (rowAt r) := fun a b h => by
  have : a.val / 64 * 256 + r.val * 64 + a.val % 64 = b.val / 64 * 256 + r.val * 64 + b.val % 64 := congrArg Fin.val h
  exact Fin.ext (by omega)

theorem rowAt_onto (i j : Fin 2048) : j.val / 64 % 4 = i.val / 64 % 4 ↔ ∃ t, rowAt (residue i) t = j := by
  constructor
  · intro h
    exact ⟨⟨j.val / 256 * 64 + j.val % 64, by omega⟩, Fin.ext (by dsimp only; omega)⟩
  · rintro ⟨t, rfl⟩
    dsimp only
    omega

theorem neg_inf : Ideal.ofBits .f32 0xFF800000#32 = ⊥ := by
  simp [Ideal.ofBits, Ideal.ieee]

theorem scale_real : IsReal (Ideal.ofBits .f32 0x3DB504F3#32) := by
  simp [Ideal.ofBits, Ideal.ieee, IsReal, -EReal.coe_mul]

variable (x : FVec Ideal S4x2048x1024 .f32) (wq : FVec Ideal S1024x4096 .f32) (k v : FVec Ideal S4x2048x32x128 .f32) (wo : FVec Ideal S4096x1024 .f32)

theorem kept_masked (b : Fin 4) (h : Fin 32) (i j : Fin 2048) :
    kept x wq k (ix4 b h i j) = masked (fun j : Fin 2048 => j.val / 64 % 4 = i.val / 64 % 4) (fun j => scores x wq k (ix4 b h i j)) j := by
  rw [kept_apply, neg_inf]
  unfold masked
  by_cases hm : j.val / 64 % 4 = i.val / 64 % 4
  · rw [if_pos hm, (mask_iff i j).2 hm, select_one]
  · rw [if_neg hm]
    exact if_neg fun e => hm ((mask_iff i j).1 e)

variable {x wq k}

theorem scores_real (hx : ∀ i, IsReal (x i)) (hq : ∀ i, IsReal (wq i)) (hk : ∀ i, IsReal (k i)) (b : Fin 4) (h : Fin 32) (i j : Fin 2048) :
    IsReal (scores x wq k (ix4 b h i j)) := by
  rw [scores_apply]
  exact (IsReal.sum _ fun d => (IsReal.sum _ fun e => (hx _).mul (hq _)).mul (hk _)).mul scale_real

/-- A context, by the kept rows alone. -/
theorem context_kept (hs : ∀ b h i j, IsReal (scores x wq k (ix4 b h i j))) (b : Fin 4) (i : Fin 2048) (h : Fin 32) (d : Fin 128) :
    context x wq k v (ix3 b i (col h d))
      = Ideal.div (∑ u : Fin 512, Ideal.exp (scores x wq k (ix4 b h i (rowAt (residue i) u))) * v (ix4 b (rowAt (residue i) u) h d))
          (∑ u : Fin 512, Ideal.exp (scores x wq k (ix4 b h i (rowAt (residue i) u)))) := by
  have e1 : (⟨(col h d).val / 128, by omega⟩ : Fin 32) = h := Fin.ext (by dsimp only; omega)
  have e2 : (⟨(col h d).val % 128, by omega⟩ : Fin 128) = d := Fin.ext (by dsimp only; omega)
  rw [context_apply, e1, e2]
  simp only [weights_apply, total_apply, expo_apply, kept_masked, neg_inf]
  exact weigh _ (rowAt (residue i)) (rowAt_injective _) (rowAt_onto i) (hs b h i) fun j => v (ix4 b j h d)

end Cert.RingAttn.Ref

end
-- ==== Proof.HeadValue.lean ====
/-
# 01_k — a head's context at an index

The kernel cuts a head's 2048 rows into 8 by 4 blocks of 64 and attends within each of the four residues. Row `i` of the
context weighs the 512 rows whose block has `i`'s residue.
-/
module

public import proofs.«01_k».proof.Proof.Programs
public import proofs.«01_k».proof.Proof.RefHead
public import Idealize.ShloMosaic.PureOps.Ideal
public import Idealize.ShloMosaic.Lib.Pointwise

@[expose] public section

set_option maxRecDepth 16384

noncomputable section

namespace Cert.RingAttn

open Cert.KernelIdeal Cert.KernelIdeal.Gen
open Idealize.ShloMosaic Idealize.ShloMosaic.TcCoe Idealize.SL.Sem

/-- Rows `r` of the four residues, as 512 rows. -/
def rowsOf (r : Fin 4) (hs : S8x4x64x128.Slices ![0, r.val, 0, 0] S8x1x64x128) (a : FVec Ideal S8x4x64x128 .f32) : FVec Ideal S512x128 .f32 :=
  shapeCast S512x128 (shapeCast S8x64x128 (extractStridedSlice S8x1x64x128 ![0, r.val, 0, 0] a hs) shapeCasts_S8x1x64x128_S8x64x128) shapeCasts_S8x64x128_S512x128

/-- The exponentials of a residue's scores. -/
def expOf (q k : FVec Ideal S512x128 .f32) : FVec Ideal S512x512 .f32 :=
  exp (mulf (matmul dot_S512x128_S512x128_S512x512_1_1_0_0_n_n none q k (constant S512x512 .f32 0x00000000#32)) (broadcast S512x512 (Scalar.ofBits .f32 0x3DB504F3#32)))

/-- The attention within a residue. -/
def dense (q k v : FVec Ideal S512x128 .f32) : FVec Ideal S512x128 .f32 :=
  divf (matmul dot_S512x512_S512x128_S512x128_1_0_0_1_n_n none (expOf q k) v (constant S512x128 .f32 0x00000000#32))
    (broadcastTo S512x128 (shapeCast S512x1 (multiReduction .add [1] S512 (expOf q k) 0x00000000#32 reduces_S512x512_S512 (.inl rfl) rfl) shapeCasts_S512_S512x1)
      broadcasts_S512x1_S512x128)

/-- A residue's piece of the context. -/
def piece (q k v : FVec Ideal S512x128 .f32) : FVec Ideal S8x1x64x128 .f32 :=
  shapeCast S8x1x64x128 (shapeCast S8x64x128 (dense q k v) shapeCasts_S512x128_S8x64x128) shapeCasts_S8x64x128_S8x1x64x128

/-- The four pieces as a head's context. -/
def whole (a b c d : FVec Ideal S8x1x64x128 .f32) : FVec Ideal S1x2048x128 .bf16 :=
  shapeCast S1x2048x128 (truncf .bf16 (shapeCast S2048x128 (concatenate S8x4x64x128 1 [⟨S8x1x64x128, a⟩, ⟨S8x1x64x128, b⟩, ⟨S8x1x64x128, c⟩, ⟨S8x1x64x128, d⟩]
    concatenates_S8x1x64x128_S8x1x64x128_S8x1x64x128_S8x1x64x128_S8x4x64x128_d1) shapeCasts_S8x4x64x128_S2048x128) bitsLt_bf16_f32) shapeCasts_S2048x128_S1x2048x128

section Head
variable (q : FVec Ideal S1x2048x128 .bf16) (k v : FVec Ideal S1x2048x128 .f32)

def cutQ : FVec Ideal S8x4x64x128 .f32 := shapeCast S8x4x64x128 (extf .f32 (shapeCast S2048x128 q shapeCasts_S1x2048x128_S2048x128) bitsLt_bf16_f32) shapeCasts_S2048x128_S8x4x64x128
def cutK : FVec Ideal S8x4x64x128 .f32 := shapeCast S8x4x64x128 (shapeCast S2048x128 k shapeCasts_S1x2048x128_S2048x128) shapeCasts_S2048x128_S8x4x64x128

def pieceOf (r : Fin 4) (hs : S8x4x64x128.Slices ![0, r.val, 0, 0] S8x1x64x128) : FVec Ideal S8x1x64x128 .f32 :=
  piece (rowsOf r hs (cutQ q)) (rowsOf r hs (cutK k)) (rowsOf r hs (cutK v))

/-- The four residues' attention, put together. -/
def attend : FVec Ideal S1x2048x128 .bf16 :=
  whole (pieceOf q k v 0 slices_S8x4x64x128_o0_0_0_0_S8x1x64x128) (pieceOf q k v 1 slices_S8x4x64x128_o0_1_0_0_S8x1x64x128)
    (pieceOf q k v 2 slices_S8x4x64x128_o0_2_0_0_S8x1x64x128) (pieceOf q k v 3 slices_S8x4x64x128_o0_3_0_0_S8x1x64x128)

theorem attnA_eq : attnA (F := Ideal) q k v = attend q k v := rfl
theorem attnB_eq : attnB (F := Ideal) q k v = attend q k v := rfl

end Head

theorem rowsOf_cutQ (r : Fin 4) (hs) (q : FVec Ideal S1x2048x128 .bf16) (t : Fin 512) (d : Fin 128) :
    rowsOf r hs (cutQ q) (ix2 t d) = q (ix3 0 (rowAt r t) d) := by
  pointwise [rowsOf, cutQ]

theorem rowsOf_cutK (r : Fin 4) (hs) (q : FVec Ideal S1x2048x128 .f32) (t : Fin 512) (d : Fin 128) :
    rowsOf r hs (cutK q) (ix2 t d) = q (ix3 0 (rowAt r t) d) := by
  pointwise [rowsOf, cutK]

theorem expOf_apply (q k : FVec Ideal S512x128 .f32) (t u : Fin 512) :
    expOf q k (ix2 t u) = Ideal.exp ((∑ d : Fin 128, q (ix2 t d) * k (ix2 u d)) * Ideal.ofBits .f32 0x3DB504F3#32) := by
  pointwise [expOf]

theorem dense_apply (q k v : FVec Ideal S512x128 .f32) (t : Fin 512) (d : Fin 128) :
    dense q k v (ix2 t d) = Ideal.div (∑ u : Fin 512, expOf q k (ix2 t u) * v (ix2 u d)) (∑ u : Fin 512, expOf q k (ix2 t u)) := by
  pointwise [dense]

theorem piece_apply (q k v : FVec Ideal S512x128 .f32) (a : Fin 8) (b : Fin 64) (d : Fin 128) :
    piece q k v (ix4 a 0 b d) = dense q k v (ix2 ⟨a.val * 64 + b.val, by omega⟩ d) := by
  pointwise [piece]

theorem whole_apply (p : Fin 4 → FVec Ideal S8x1x64x128 .f32) (i : Fin 2048) (d : Fin 128) :
    whole (p 0) (p 1) (p 2) (p 3) (ix3 0 i d) = p ⟨i.val / 64 % 4, by omega⟩ (ix4 ⟨i.val / 256, by omega⟩ 0 ⟨i.val % 64, by omega⟩ d) := by
  pointwise [whole]
  obtain ⟨n, hn⟩ : ∃ n : Fin 4, i.val / 64 % 4 = n.val := ⟨⟨i.val / 64 % 4, by omega⟩, rfl⟩
  simp only [hn]
  match n with
  | 0 => rfl
  | 1 => rfl
  | 2 => rfl
  | 3 => rfl

/-- A head's context at an index. -/
theorem attend_apply (q : FVec Ideal S1x2048x128 .bf16) (k v : FVec Ideal S1x2048x128 .f32) (i : Fin 2048) (d : Fin 128) :
    attend q k v (ix3 0 i d)
      = Ideal.div (∑ u : Fin 512, Ideal.exp ((∑ e : Fin 128, q (ix3 0 i e) * k (ix3 0 (rowAt ⟨i.val / 64 % 4, by omega⟩ u) e)) * Ideal.ofBits .f32 0x3DB504F3#32)
            * v (ix3 0 (rowAt ⟨i.val / 64 % 4, by omega⟩ u) d))
          (∑ u : Fin 512, Ideal.exp ((∑ e : Fin 128, q (ix3 0 i e) * k (ix3 0 (rowAt ⟨i.val / 64 % 4, by omega⟩ u) e)) * Ideal.ofBits .f32 0x3DB504F3#32)) := by
  have hs (r : Fin 4) : S8x4x64x128.Slices ![0, r.val, 0, 0] S8x1x64x128 := by revert r; decide
  have h : attend q k v = whole (pieceOf q k v 0 (hs 0)) (pieceOf q k v 1 (hs 1)) (pieceOf q k v 2 (hs 2)) (pieceOf q k v 3 (hs 3)) := rfl
  have hi : rowAt ⟨i.val / 64 % 4, by omega⟩ ⟨i.val / 256 * 64 + i.val % 64, by omega⟩ = i := Fin.ext (by show _ = i.val; dsimp only; omega)
  rw [h, whole_apply (fun r => pieceOf q k v r (hs r))]
  unfold pieceOf
  rw [piece_apply, dense_apply]
  simp only [expOf_apply, rowsOf_cutQ, rowsOf_cutK, hi]

end Cert.RingAttn

end
-- ==== Proof.PhaseValue.lean ====
/-
# 01_k — a phase's products at an index

The queries of a head are x times the head's 128 columns of Wq; a phase adds to each row of the output the contexts of its
two times four heads times their rows of Wo.
-/
module

public import proofs.«01_k».proof.Proof.Legs
public import Idealize.ShloMosaic.PureOps.Ideal
public import Idealize.ShloMosaic.Lib.Pointwise

@[expose] public section

set_option maxRecDepth 16384

noncomputable section

namespace Cert.RingAttn

open Cert.KernelIdeal Cert.KernelIdeal.Gen
open Idealize.ShloMosaic Idealize.ShloMosaic.TcCoe Idealize.SL.Sem

/-- x times a half block of Wq. -/
theorem product_apply (x : Vec Ideal S2048x1024 .bf16) (w : Vec Ideal S1x1x1024x512 .bf16) (i : Fin 2048) (t : Fin 512) :
    k0_pay80 x w (ix2 i t) = ∑ e : Fin 1024, x (ix2 i e) * w (ix4 0 0 e t) := by
  pointwise [k0_pay80]

theorem qPay_apply (j : Fin 4) (x : Vec Ideal S2048x1024 .bf16) (w : Vec Ideal S1x1x1024x512 .bf16) (i : Fin 2048) (d : Fin 128) :
    qPay j x w (ix3 0 i d) = ∑ e : Fin 1024, x (ix2 i e) * w (ix4 0 0 e ⟨128 * j.val + d.val, by omega⟩) := by
  rw [← product_apply]
  match j with
  | 0 => pointwise [qPay, k0_pay81]
  | 1 => pointwise [qPay, k0_pay82]
  | 2 => pointwise [qPay, k0_pay83]
  | 3 => pointwise [qPay, k0_pay84]

section Context
variable (cv : Fin 8 → Vec Ideal S1x2048x128 .bf16) (i : Fin 2048) (t : Fin 512)

omit t in
theorem same_entry {a b : Fin 8} {x y : Fin 128} (ha : a.val = b.val) (hx : x.val = y.val) : cv a (ix3 0 i x) = cv b (ix3 0 i y) := by
  rw [Fin.ext ha, Fin.ext hx]

theorem ctxA_apply : ctxA (cv 0) (cv 1) (cv 2) (cv 3) (ix2 i t) = cv ⟨t.val / 128, by omega⟩ (ix3 0 i ⟨t.val % 128, by omega⟩) := by
  pointwise [ctxA, k0_pay93, k0_pay91, k0_pay92]
  split_ifs <;> exact same_entry cv i (by simp only [Fin.isValue, Fin.coe_ofNat_eq_mod]; omega) (by dsimp only; omega)

theorem ctxB_apply : ctxB (cv 4) (cv 5) (cv 6) (cv 7) (ix2 i t) = cv ⟨4 + t.val / 128, by omega⟩ (ix3 0 i ⟨t.val % 128, by omega⟩) := by
  pointwise [ctxB, k0_pay94]
  split_ifs <;> exact same_entry cv i (by simp only [Fin.isValue, Fin.coe_ofNat_eq_mod]; omega) (by dsimp only; omega)

end Context

/-- The contexts of four heads times a half block of Wo, at a row and a column. -/
def mixed (cv : Fin 4 → Vec Ideal S1x2048x128 .bf16) (w : Vec Ideal S1x1x512x1024 .bf16) (i : Fin 2048) (n : Fin 1024) : EReal :=
  ∑ t : Fin 512, cv ⟨t.val / 128, by omega⟩ (ix3 0 i ⟨t.val % 128, by omega⟩) * w (ix4 0 0 t n)

/-- A row of the output's quarter `j`. -/
abbrev rowOf (j : Fin 4) (r : Fin 512) : Fin 2048 := ⟨512 * j.val + r.val, by omega⟩

theorem outOf_apply (cv : Fin 8 → Vec Ideal S1x2048x128 .bf16) (wC wD : Vec Ideal S1x1x512x1024 .bf16) (o : Fin 4 → Vec Ideal S1x512x1024 .f32)
    (j : Fin 4) (r : Fin 512) (n : Fin 1024) :
    outOf cv wC wD o j (ix3 0 r n)
      = o j (ix3 0 r n) + (mixed (fun h => cv (h.castLE (by decide))) wC (rowOf j r) n + mixed (fun h => cv (h.natAdd 4)) wD (rowOf j r) n) := by
  have key : ∀ (A B : FVec Ideal S2048x512 .bf16) (y : EReal), A = ctxA (cv 0) (cv 1) (cv 2) (cv 3) → B = ctxB (cv 4) (cv 5) (cv 6) (cv 7) →
      y = (∑ t : Fin 512, A (ix2 (rowOf j r) t) * wC (ix4 0 0 t n)) + ∑ t : Fin 512, B (ix2 (rowOf j r) t) * wD (ix4 0 0 t n) →
      y = mixed (fun h => cv (h.castLE (by decide))) wC (rowOf j r) n + mixed (fun h => cv (h.natAdd 4)) wD (rowOf j r) n := by
    intro A B y hA hB hy
    subst hA hB
    rw [hy]
    simp only [ctxA_apply, ctxB_apply]
    rfl
  unfold outOf
  rw [← key _ _ _ rfl rfl rfl]
  have e0 : rowOf 0 r = ⟨r.val, by omega⟩ := Fin.ext (Nat.zero_add _)
  have e1 : rowOf 1 r = ⟨512 + r.val, by omega⟩ := rfl
  have e2 : rowOf 2 r = ⟨1024 + r.val, by omega⟩ := rfl
  have e3 : rowOf 3 r = ⟨1536 + r.val, by omega⟩ := rfl
  match j with
  | 0 => rw [e0]; pointwise [outPay, k0_pay95, ctxA, ctxB]
  | 1 => rw [e1]; pointwise [outPay, k0_pay96]
  | 2 => rw [e2]; pointwise [outPay, k0_pay97, k0_pay98]
  | 3 => rw [e3]; pointwise [outPay, k0_pay99]

/-! ## The arrays -/

variable (m : (ℓ : Loc nD τ sig) → Buf (Elt Ideal) ℓ)

theorem gqVal_apply (j : Dev nD) (h : Fin 2) (e : Fin 1024) (t : Fin 512) :
    gqVal m j h (ix4 0 0 e t) = m ((j : Thread nD τ).loc main_arg1) (ix2 e ⟨512 * h.val + t.val, by omega⟩) := by
  have hr : gqVal m j h (ix4 0 0 e t) = (wqV (wqOff h)).view.read (Elt Ideal) (m ((j : Thread nD τ).loc main_arg1)) (ix2 e t) := by
    pointwise [gqVal, wqPay, k0_pay75]
  rw [hr]
  show m ((j : Thread nD τ).loc main_arg1) ((wqV (wqOff h)).view.emb (ix2 e t)) = _
  congr 1
  funext a
  match a with
  | ⟨0, _⟩ => exact Fin.ext (show 0 + 1 * e.val = e.val by omega)
  | ⟨1, _⟩ => exact Fin.ext (show 512 * h.val + 1 * t.val = 512 * h.val + t.val by omega)

theorem goVal_apply (j : Dev nD) (h : Fin 2) (t : Fin 512) (n : Fin 1024) :
    goVal m j h (ix4 0 0 t n) = m ((j : Thread nD τ).loc main_arg4) (ix2 ⟨512 * h.val + t.val, by omega⟩ n) := by
  have hr : goVal m j h (ix4 0 0 t n) = (woV (woOff h)).view.read (Elt Ideal) (m ((j : Thread nD τ).loc main_arg4)) (ix2 t n) := by
    pointwise [goVal, woPay, k0_pay77, k0_pay76]
  rw [hr]
  show m ((j : Thread nD τ).loc main_arg4) ((woV (woOff h)).view.emb (ix2 t n)) = _
  congr 1
  funext a
  match a with
  | ⟨0, _⟩ => exact Fin.ext (show 512 * h.val + 1 * t.val = 512 * h.val + t.val by omega)
  | ⟨1, _⟩ => exact Fin.ext (show 0 + 1 * n.val = n.val by omega)

/-- A head of K or V, among the device's row of the batch. -/
theorem headVal_read (c : Dev nD) (mA : Memref sig .tc .hbm S4x2048x32x128 .f32) (fA) (s : Fin 32) (i : Fin 2048) (d : Fin 128) :
    headVal (F := Ideal) c mA fA s (ix3 0 i d) = mA.view.read (Elt Ideal) fA (ix4 c i (gidx c s) d) := by
  have h : headVal (F := Ideal) c mA fA s = shapeCast S1x2048x128 (shapeCast S2048x128
      (fun y => (mA.slice (srcOff c (gidx c s)).rect (fun _ => rfl)).view.read (Elt Ideal) fA y : FVec Ideal S1x2048x1x128 .f32)
      squeezes_S1x2048x1x128_S2048x128.numel_eq) shapeCasts_S2048x128_S1x2048x128 := rfl
  rw [h]
  clear h
  pointwise []
  show mA.view.read (Elt Ideal) fA ((srcOff c (gidx c s)).rect.emb _) = _
  congr 1
  funext a
  match a with
  | ⟨0, _⟩ => exact Fin.ext (show c.val + 1 * 0 = c.val by omega)
  | ⟨1, _⟩ => exact Fin.ext (show 0 + 1 * i.val = i.val by omega)
  | ⟨2, _⟩ => exact Fin.ext (show (gidx c s).val + 1 * 0 = (gidx c s).val by omega)
  | ⟨3, _⟩ => exact Fin.ext (show 0 + 1 * d.val = d.val by omega)

theorem headK_apply (c : Dev nD) (fK : Buf (Elt Ideal) (mK.view.loc (c : Thread nD τ))) (s : Fin 32) (i : Fin 2048) (d : Fin 128) :
    headVal (F := Ideal) c mK fK s (ix3 0 i d) = fK (ix4 c i (gidx c s) d) := headVal_read c mK fK s i d
theorem headV_apply (c : Dev nD) (fV : Buf (Elt Ideal) (mV.view.loc (c : Thread nD τ))) (s : Fin 32) (i : Fin 2048) (d : Fin 128) :
    headVal (F := Ideal) c mV fV s (ix3 0 i d) = fV (ix4 c i (gidx c s) d) := headVal_read c mV fV s i d

end Cert.RingAttn

end
-- ==== Proof.KernelValue.lean ====
/-
# 01_k — the kernel's result at an index

Each device's arrays are blocks of the whole ones: its row of the batch of x, 1024 columns of Wq, 1024 rows of Wo. Over
those, a phase's contexts are the reference's, and the four phases' products are the reference's sum over all 4096
columns, cut into each device's two halves and taken in the order of the ring.
-/
module

public import proofs.«01_k».proof.Proof.HeadValue
public import proofs.«01_k».proof.Proof.PhaseValue
public import proofs.«01_k».proof.Proof.Launch

@[expose] public section

set_option maxRecDepth 16384

noncomputable section

namespace Cert.RingAttn

open Cert.KernelIdeal Cert.KernelIdeal.Gen
open Idealize.ShloMosaic Idealize.ShloMosaic.TcCoe Idealize.SL.Sem

/-- The device whose half block head `h` of phase `p` belongs to. -/
def owner (c : Dev nD) (p : Fin 4) (h : Fin 8) : Dev nD := if h.val < 4 then bk c p else fw c p

theorem gidx_val (c : Dev nD) (p : Fin 4) (h : Fin 8) : (gidx c (hd p h)).val = 8 * (owner c p h).val + h.val := by
  revert c p h; decide +kernel

theorem xb_apply (x : Vec Ideal S1x2048x1024 .f32) (i : Fin 2048) (e : Fin 1024) : k0_pay73 x (ix2 i e) = x (ix3 0 i e) := by
  pointwise [k0_pay73]

/-- Column `t` of device `b`'s block, among all devices' columns. -/
abbrev blockAt (b : Dev nD) (t : Fin 1024) : Fin 4096 := ⟨b.val * 1024 + t.val, by have : b.val < 4 := b.isLt; omega⟩

/-- The whole arrays, and what each device holds of them. -/
structure Whole (m : (ℓ : Loc nD τ sig) → Buf (Elt Ideal) ℓ) where
  x : FVec Ideal Cert.ReferenceIdeal.S4x2048x1024 .f32
  wq : FVec Ideal Cert.ReferenceIdeal.S1024x4096 .f32
  k : FVec Ideal Cert.ReferenceIdeal.S4x2048x32x128 .f32
  v : FVec Ideal Cert.ReferenceIdeal.S4x2048x32x128 .f32
  wo : FVec Ideal Cert.ReferenceIdeal.S4096x1024 .f32
  hx : ∀ (c : Dev nD) (i : Fin 2048) (e : Fin 1024), m ((c : Thread nD τ).loc main_arg0) (ix3 0 i e) = x (ix3 c i e)
  hwq : ∀ (c : Dev nD) (e t : Fin 1024), m ((c : Thread nD τ).loc main_arg1) (ix2 e t) = wq (ix2 e (blockAt c t))
  hk : ∀ c : Dev nD, m ((c : Thread nD τ).loc main_arg2) = k
  hv : ∀ c : Dev nD, m ((c : Thread nD τ).loc main_arg3) = v
  hwo : ∀ (c : Dev nD) (t n : Fin 1024), m ((c : Thread nD τ).loc main_arg4) (ix2 t n) = wo (ix2 (blockAt c t) n)
  real : ∀ b h i j, IsReal (Ref.scores x wq k (ix4 b h i j))

variable {m : (ℓ : Loc nD τ sig) → Buf (Elt Ideal) ℓ} (A : Whole m) (c : Dev nD)

theorem xstg_eq : xstg m c = m ((c : Thread nD τ).loc main_arg0) := by
  funext y
  show m ((c : Thread nD τ).loc main_arg0) ((win0_0.blk t0_0).view.emb y) = _
  congr 1
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

/-- x as the device works with it. -/
abbrev xs : Vec Ideal S2048x1024 .bf16 := k0_pay73 (xstg m c)
/-- A phase's queries. -/
abbrev queries (m : (ℓ : Loc nD τ sig) → Buf (Elt Ideal) ℓ) (c : Dev nD) (p : Fin 4) : Fin 8 → Vec Ideal S1x2048x128 .bf16 :=
  qOf (k0_pay73 (xstg m c)) (gqVal m (bk c p) 0) (gqVal m (fw c p) 1)
/-- A phase's contexts. -/
abbrev contexts (m : (ℓ : Loc nD τ sig) → Buf (Elt Ideal) ℓ) (c : Dev nD) (p : Fin 4) : Fin 8 → Vec Ideal S1x2048x128 .bf16 :=
  ctxOf c p (m ((c : Thread nD τ).loc main_arg2)) (m ((c : Thread nD τ).loc main_arg3)) (queries m c p)

include A in
theorem half_query (b : Dev nD) (w : Fin 2) (j : Fin 4) (g : Fin 32) (hg : g.val = 8 * b.val + 4 * w.val + j.val) (i : Fin 2048) (d : Fin 128) :
    qPay j (k0_pay73 (xstg m c)) (gqVal m b w) (ix3 0 i d) = Ref.query A.x A.wq c g i d := by
  have hcol : blockAt b ⟨512 * w.val + (128 * j.val + d.val), by omega⟩ = Ref.col g d := Fin.ext (by dsimp only; omega)
  rw [qPay_apply]
  unfold Ref.query
  refine Finset.sum_congr rfl fun e _ => ?_
  rw [xb_apply, xstg_eq, A.hx, gqVal_apply, A.hwq, hcol]

theorem queries_apply (p : Fin 4) (h : Fin 8) (i : Fin 2048) (d : Fin 128) :
    queries m c p h (ix3 0 i d) = Ref.query A.x A.wq c (gidx c (hd p h)) i d := by
  have hg := gidx_val c p h
  match h with
  | 0 => exact half_query A c (bk c p) 0 0 _ hg i d
  | 1 => exact half_query A c (bk c p) 0 1 _ hg i d
  | 2 => exact half_query A c (bk c p) 0 2 _ hg i d
  | 3 => exact half_query A c (bk c p) 0 3 _ hg i d
  | 4 => exact half_query A c (fw c p) 1 0 _ hg i d
  | 5 => exact half_query A c (fw c p) 1 1 _ hg i d
  | 6 => exact half_query A c (fw c p) 1 2 _ hg i d
  | 7 => exact half_query A c (fw c p) 1 3 _ hg i d

theorem ctxOf_eq (p : Fin 4) (fK fV) (qv : Fin 8 → Vec Ideal S1x2048x128 .bf16) (h : Fin 8) :
    ctxOf (F := Ideal) c p fK fV qv h = attend (qv h) (headVal c mK fK (hd p h)) (headVal c mV fV (hd p h)) := by
  unfold ctxOf
  split
  · exact attnA_eq _ _ _
  · exact attnB_eq _ _ _

/-- A phase's contexts are the reference's. -/
theorem contexts_apply (p : Fin 4) (h : Fin 8) (i : Fin 2048) (d : Fin 128) :
    contexts m c p h (ix3 0 i d) = Ref.context A.x A.wq A.k A.v (ix3 c i (Ref.col (gidx c (hd p h)) d)) := by
  unfold contexts
  rw [ctxOf_eq, attend_apply, Ref.context_kept A.v A.real]
  simp only [queries_apply A, headK_apply, headV_apply, A.hk, A.hv, Ref.scores_apply]

/-! ## The products -/

/-- A term of the reference's sum. -/
def term (i : Fin 2048) (n : Fin 1024) (t : Fin 4096) : EReal := Ref.context A.x A.wq A.k A.v (ix3 c i t) * A.wo (ix2 t n)

/-- Column `t` of half `w` of a block. -/
abbrev halfAt (w : Fin 2) (t : Fin 512) : Fin 1024 := ⟨512 * w.val + t.val, by omega⟩

/-- A half block's part of the sum. -/
def part (i : Fin 2048) (n : Fin 1024) (w : Fin 2) (b : Dev nD) : EReal := ∑ t : Fin 512, term A c i n (blockAt b (halfAt w t))

theorem mixed_part (cv : Fin 4 → Vec Ideal S1x2048x128 .bf16) (w : Fin 2) (b : Dev nD) (g : Fin 4 → Fin 32)
    (hg : ∀ h, (g h).val = 8 * b.val + 4 * w.val + h.val)
    (hcv : ∀ h i d, cv h (ix3 0 i d) = Ref.context A.x A.wq A.k A.v (ix3 c i (Ref.col (g h) d))) (i : Fin 2048) (n : Fin 1024) :
    mixed cv (goVal m b w) i n = part A c i n w b := by
  unfold mixed part term
  refine Finset.sum_congr rfl fun t _ => ?_
  have e : Ref.col (g ⟨t.val / 128, by omega⟩) ⟨t.val % 128, by omega⟩ = blockAt b (halfAt w t) :=
    Fin.ext (by dsimp only; rw [hg]; dsimp only; omega)
  rw [hcv, goVal_apply, A.hwo, e]

/-- A phase adds its two half blocks' parts. -/
theorem step_apply (p : Fin 4) (o : Fin 4 → Vec Ideal S1x512x1024 .f32) (j : Fin 4) (r : Fin 512) (n : Fin 1024) :
    outStep m c (m ((c : Thread nD τ).loc main_arg2)) (m ((c : Thread nD τ).loc main_arg3)) (k0_pay73 (xstg m c)) p o j (ix3 0 r n)
      = o j (ix3 0 r n) + (part A c (rowOf j r) n 0 (bk c p) + part A c (rowOf j r) n 1 (fw c p)) := by
  unfold outStep
  rw [outOf_apply]
  congr 2
  · refine mixed_part A c _ 0 (bk c p) (fun h => gidx c (hd p (h.castLE (by decide)))) (fun h => ?_) (fun h i d => contexts_apply A c p _ i d) _ n
    rw [gidx_val]
    unfold owner
    rw [if_pos (show (h.castLE _ : Fin 8).val < 4 from h.isLt)]
    rfl
  · refine mixed_part A c _ 1 (fw c p) (fun h => gidx c (hd p (h.natAdd 4))) (fun h => ?_) (fun h i d => contexts_apply A c p _ i d) _ n
    rw [gidx_val]
    unfold owner
    rw [if_neg (show ¬ (h.natAdd 4 : Fin 8).val < 4 from Nat.not_lt.2 (Nat.le_add_right 4 h.val))]
    show 8 * (fw c p).val + (4 + h.val) = 8 * (fw c p).val + 4 * 1 + h.val
    omega

/-- The columns, by device, half and column of the half. -/
def columns : (Fin 4 × Fin 2) × Fin 512 ≃ Fin 4096 where
  toFun y := ⟨y.1.1.val * 1024 + (512 * y.1.2.val + y.2.val), by omega⟩
  invFun t := ((⟨t.val / 1024, by omega⟩, ⟨t.val / 512 % 2, by omega⟩), ⟨t.val % 512, by omega⟩)
  left_inv y := Prod.ext (Prod.ext (Fin.ext (by dsimp only; omega)) (Fin.ext (by dsimp only; omega))) (Fin.ext (by dsimp only; omega))
  right_inv t := Fin.ext (by dsimp only; omega)

theorem sum_parts (i : Fin 2048) (n : Fin 1024) : ∑ t, term A c i n t = (∑ b, part A c i n 0 b) + ∑ b, part A c i n 1 b := by
  rw [← Equiv.sum_comp columns, Fintype.sum_prod_type, Fintype.sum_prod_type]
  simp only [Fin.sum_univ_two]
  rw [Finset.sum_add_distrib]
  rfl

theorem bk_bijective : ∀ c : Dev nD, Function.Bijective (bk c) := by decide +kernel
theorem fw_bijective : ∀ c : Dev nD, Function.Bijective (fw c) := by decide +kernel

theorem sum_phases (f g : Dev nD → EReal) :
    0 + (f (bk c 0) + g (fw c 0)) + (f (bk c 1) + g (fw c 1)) + (f (bk c 2) + g (fw c 2)) + (f (bk c 3) + g (fw c 3)) = ∑ b, f b + ∑ b, g b := by
  rw [← (bk_bijective c).sum_comp f, ← (fw_bijective c).sum_comp g, Fin.sum_univ_four, Fin.sum_univ_four]
  abel

theorem outZero_apply (j : Fin 4) (y : S1x512x1024.Idx) : outZero (F := Ideal) j y = 0 := by
  unfold outZero
  pointwise [k0_pay74]

theorem outQ_apply (j : Fin 4) (r : Fin 512) (n : Fin 1024) :
    outQ m c (m ((c : Thread nD τ).loc main_arg2)) (m ((c : Thread nD τ).loc main_arg3)) (xstg m c) j (ix3 0 r n)
      = Ref.result A.x A.wq A.k A.v A.wo (ix3 c (rowOf j r) n) := by
  unfold outQ
  rw [step_apply A, step_apply A, step_apply A, step_apply A, outZero_apply, sum_phases, ← sum_parts, Ref.result_apply]
  rfl

/-- What a device's body leaves is its row of the reference's result. -/
theorem outBlk_apply (i : Fin 2048) (n : Fin 1024) : outBlk m c (ix3 0 i n) = Ref.result A.x A.wq A.k A.v A.wo (ix3 c i n) := by
  have hrow : rowOf ⟨i.val / 512, by omega⟩ ⟨i.val % 512, by omega⟩ = i := Fin.ext (by dsimp only; omega)
  have hemb : (outOff ⟨i.val / 512, by omega⟩).rect.emb (ix3 0 ⟨i.val % 512, by omega⟩ n) = ix3 0 i n := by
    funext a
    match a with
    | ⟨0, _⟩ => rfl
    | ⟨1, _⟩ => exact Fin.ext (show 512 * (i.val / 512) + 1 * (i.val % 512) = i.val by omega)
    | ⟨2, _⟩ => exact Fin.ext (show 0 + 1 * n.val = n.val by omega)
  unfold outBlk
  rw [← hemb, outVal_emb, outQ_apply A, hrow]

end Cert.RingAttn

end
-- ==== Proof.Finite.lean ====
/-
# 01_k — what the precondition says

Every element of x, of Wq and of K is a real number.
-/
module

public import proofs.«01_k».proof.Defs
public import proofs.«01_k».proof.Proof.Gen.Pre_scores_finite_KernelIdeal
public import proofs.«01_k».proof.Proof.Softmax
public import Idealize.ShloMosaic.Lib.ReduceAll
public import Idealize.ShloMosaic.Lib.Pointwise

@[expose] public section

set_option maxRecDepth 16384

noncomputable section

namespace Cert.RingAttn

open Idealize.ShloMosaic Idealize.ShloMosaic.TcCoe Idealize.SL.Sem

theorem andi_one : ∀ a b : BitVec 1, IntOp.andi a b = 1#1 → a = 1#1 ∧ b = 1#1 := by decide

theorem pos_inf : Ideal.ofBits .f32 0x7F800000#32 = ⊤ := by simp [Ideal.ofBits, Ideal.ieee]

theorem real_of_lt {x : EReal} (h : Ideal.cmp .olt (max x (-x)) ⊤ = 1#1) : IsReal x := by
  have hlt : max x (-x) < ⊤ := by
    by_contra hn
    simp [Ideal.cmp, hn] at h
  induction x with
  | bot => simp at hlt
  | top => simp at hlt
  | coe r => exact ⟨r, rfl⟩

section All
variable {s : Shape} {axes : List (Fin s.rank)}

theorem real_of_all (x b : FVec Ideal s .f32) (hb : ∀ i, b i = Ideal.ofBits .f32 0x7F800000#32) (init : IVec ⟨0, ![]⟩ 1)
    (h : s.ReducesTo axes ⟨0, ![]⟩) (hu : 0 < Shape.numel ⟨0, ![]⟩) (j : Shape.Idx ⟨0, ![]⟩)
    (e : Host.reduce IntOp.andi (cmpf .olt (Host.absf x) b) init h hu j = 1#1) (i : s.Idx) : IsReal (x i) := by
  have : Subsingleton (Shape.Idx ⟨0, ![]⟩) := ⟨fun a b => funext fun k => k.elim0⟩
  have he := Host.reduce_andi_all _ _ _ _ j e i
  refine real_of_lt ?_
  rw [← pos_inf, ← hb i]
  exact he

end All

open Cert.Pre_scores_finite_KernelIdeal in
theorem real_of_pre (x : FVec Ideal S1x2048x1024 .f32) (wq : FVec Ideal S1024x1024 .f32) (k v : FVec Ideal S4x2048x32x128 .f32)
    (wo : FVec Ideal S1024x1024 .f32) (h : fn (F := Ideal) x wq k v wo = fun _ => 1#1) :
    (∀ i, IsReal (x i)) ∧ (∀ i, IsReal (wq i)) ∧ ∀ i, IsReal (k i) := by
  obtain ⟨h', h3⟩ := andi_one _ _ (congrFun h ix0)
  obtain ⟨h1, h2⟩ := andi_one _ _ h'
  exact ⟨real_of_all x _ (fun _ => rfl) _ _ _ _ h1, real_of_all wq _ (fun _ => rfl) _ _ _ _ h2, real_of_all k _ (fun _ => rfl) _ _ _ _ h3⟩

end Cert.RingAttn

end
-- ==== Proof.Result.lean ====
/-
# 01_k — the kernel computes the reference

Over real scores, each device's result is its block of the reference's result.
-/
module

public import proofs.«01_k».proof.Proof.KernelValue
public import proofs.«01_k».proof.Proof.Finite
public import proofs.«01_k».proof.Proof.Frames
public import Idealize.ShloMosaic.Lib.Layout
public import Idealize.ShloMosaic.Lib.Pipeline.ValueKit

@[expose] public section

set_option maxRecDepth 16384

noncomputable section

namespace Cert.RingAttn

open Cert.KernelIdeal Cert.KernelIdeal.Gen
open Idealize.ShloMosaic Idealize.ShloMosaic.TcCoe Idealize.SL.Sem

/-! ## The result's array -/

theorem finalA_out {F : FTy → Type} [FloatOps F] (m : (ℓ : Loc nD τ sig) → Buf (Elt F) ℓ) (ρ : Dev nD → PrngReg) (c : Dev nD) :
    finalA m ρ c (1 : Fin 2) = outBlk m c := by
  refine (dats m ρ 0 c).arrAt_eq_of_after_last (1 : Fin 2) t0_0 (by decide +kernel) (outBlk m c) fun j => ?_
  rfl

/-! ## Blocks -/

theorem every2 {n0 n1 : ℕ} (i : (⟨2, ![n0, n1]⟩ : Shape).Idx) : ∃ (a : Fin n0) (b : Fin n1), i = ix2 a b := ⟨i 0, i 1, eq_ix2 i⟩
theorem every3 {n0 n1 n2 : ℕ} (i : (⟨3, ![n0, n1, n2]⟩ : Shape).Idx) : ∃ (a : Fin n0) (b : Fin n1) (c : Fin n2), i = ix3 a b c :=
  ⟨i 0, i 1, i 2, eq_ix3 i⟩

theorem block_batch (c : Fin 4) (v : FVec Ideal ⟨3, ![4, 2048, 1024]⟩ .f32) (i : Fin 2048) (e : Fin 1024) :
    Layout.block ⟨3, ![1, 2048, 1024]⟩ ⟨3, ![4, 2048, 1024]⟩ 0 4 c v (by decide) (ix3 0 i e) = v (ix3 c i e) := by
  rw [Layout.block_apply]
  congr 1
  funext a
  match a with
  | ⟨0, _⟩ => exact Fin.ext (show c.val * 1 + 0 = c.val by omega)
  | ⟨1, _⟩ => rfl
  | ⟨2, _⟩ => rfl

theorem block_cols (c : Fin 4) (v : FVec Ideal ⟨2, ![1024, 4096]⟩ .f32) (e t : Fin 1024) :
    Layout.block ⟨2, ![1024, 1024]⟩ ⟨2, ![1024, 4096]⟩ 1 4 c v (by decide) (ix2 e t) = v (ix2 e (blockAt c t)) := by
  rw [Layout.block_apply]
  congr 1
  funext a
  match a with
  | ⟨0, _⟩ => rfl
  | ⟨1, _⟩ => rfl

theorem block_rows (c : Fin 4) (v : FVec Ideal ⟨2, ![4096, 1024]⟩ .f32) (t n : Fin 1024) :
    Layout.block ⟨2, ![1024, 1024]⟩ ⟨2, ![4096, 1024]⟩ 0 4 c v (by decide) (ix2 t n) = v (ix2 (blockAt c t) n) := by
  rw [Layout.block_apply]
  congr 1
  funext a
  match a with
  | ⟨0, _⟩ => rfl
  | ⟨1, _⟩ => rfl

/-! ## The two programs -/

section Pair
variable (m : (ℓ : Loc nD τ sig) → Buf (Elt Ideal) ℓ)
  (x : FVec Ideal ⟨3, ![4, 2048, 1024]⟩ .f32) (wq : FVec Ideal ⟨2, ![1024, 4096]⟩ .f32) (k v : FVec Ideal ⟨4, ![4, 2048, 32, 128]⟩ .f32)
  (wo : FVec Ideal ⟨2, ![4096, 1024]⟩ .f32)

/-- The devices' arrays as parts of the whole ones. -/
def wholeOf (hpre : @Cert.Pre_KernelIdeal_scores_finite_KernelIdeal Cert.Pre_scores_finite_KernelIdeal.Gen.facts m)
    (h0 : ∀ c : Dev nD, m ((c : Thread nD τ).loc main_arg0) = Layout.block ⟨3, ![1, 2048, 1024]⟩ ⟨3, ![4, 2048, 1024]⟩ 0 4 c x)
    (h1 : ∀ c : Dev nD, m ((c : Thread nD τ).loc main_arg1) = Layout.block ⟨2, ![1024, 1024]⟩ ⟨2, ![1024, 4096]⟩ 1 4 c wq)
    (h2 : ∀ c : Dev nD, m ((c : Thread nD τ).loc main_arg2) = k) (h3 : ∀ c : Dev nD, m ((c : Thread nD τ).loc main_arg3) = v)
    (h4 : ∀ c : Dev nD, m ((c : Thread nD τ).loc main_arg4) = Layout.block ⟨2, ![1024, 1024]⟩ ⟨2, ![4096, 1024]⟩ 0 4 c wo) : Whole m where
  x := x
  wq := wq
  k := k
  v := v
  wo := wo
  hx c i e := (congrFun (h0 c) _).trans (block_batch c x i e)
  hwq c e t := (congrFun (h1 c) _).trans (block_cols c wq e t)
  hk := h2
  hv := h3
  hwo c t n := (congrFun (h4 c) _).trans (block_rows c wo t n)
  real := by
    have hp (c : Dev nD) := real_of_pre _ _ _ _ _ (hpre c)
    refine Ref.scores_real (fun i => ?_) (fun i => ?_) fun i => ?_
    · obtain ⟨a, b, e, rfl⟩ := every3 i
      have hr := (hp a).1 (ix3 0 b e)
      rwa [h0, block_batch] at hr
    · obtain ⟨a, t, rfl⟩ := every2 i
      have hr := (hp ⟨t.val / 1024, show _ < 4 by omega⟩).2.1 (ix2 a ⟨t.val % 1024, by omega⟩)
      have ht : blockAt ⟨t.val / 1024, show _ < 4 by omega⟩ ⟨t.val % 1024, by omega⟩ = t := Fin.ext (by dsimp only; omega)
      rwa [h1, block_cols, ht] at hr
    · have := (hp 0).2.2 i
      rw [h2] at this
      exact this

end Pair

/-- Each device's result is its block of the reference's. -/
theorem algebraic_ideal : @Cert.algebraic_KernelIdeal_ReferenceIdeal_pre_scores_finite_KernelIdeal Cert.KernelIdeal.Gen.facts
    Cert.ReferenceIdeal.Gen.facts Cert.Pre_scores_finite_KernelIdeal.Gen.facts := by
  intro m g m' g' hpre hag
  let A := wholeOf m _ _ _ _ _ hpre (fun c => (hag c).1) (fun c => (hag c).2.1) (fun c => (hag c).2.2.1) (fun c => (hag c).2.2.2.1) (fun c => (hag c).2.2.2.2)
  refine ⟨Ref.result A.x A.wq A.k A.v A.wo, ?_, ?_⟩
  · refine (θ_run defs _ _).mono (fun r h c => ?_) (run_main m g)
    refine ⟨?_, ((h.1 c).1 (0 : Fin 2)).trans (finalA_x m g c), (h.1 c).2.2⟩
    refine ((h.1 c).1 (1 : Fin 2)).trans ((finalA_out m g c).trans ?_)
    funext y
    obtain ⟨a, i, n, rfl⟩ := every3 y
    obtain rfl : a = 0 := Subsingleton.elim _ _
    rw [outBlk_apply A]
    exact (block_batch c _ _ _).symm
  · refine (θ_run _ _ _).mono (fun r h => ?_) (Cert.ReferenceIdeal.Value.run (F := Ideal) m' g')
    exact ⟨(h 0).1.trans (Ref.res_eq m' 0), (h 0).2⟩

end Cert.RingAttn

end
-- ==== Proof.lean ====
/-
# 01_k — the claim

Every run of the kernel, printed or idealized, ends with the arguments unchanged and every semaphore at zero; so does the
reference's. Over the extended reals each device's result is its block of the reference's result, when x, Wq and K are
finite.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Frames
public import proofs.«01_k».proof.Proof.Result

@[expose] public section

noncomputable section

namespace Cert.Proof

theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  Cert.RingAttn.frame_kernel, Cert.RingAttn.frame_ideal, fun m g _ => Cert.RingAttn.frame_ideal m g trivial,
  Cert.RingAttn.frame_reference, fun m g _ => Cert.RingAttn.frame_reference m g trivial, trivial, Cert.RingAttn.algebraic_ideal⟩

end Cert.Proof

end
